-- ==== Defs.lean ====
def Pre_Kernel [hPre_x_in_table : Cert.Pre_x_in_table.Facts] (m : (ℓ : Loc Cert.Kernel.nD Cert.Kernel.τ Cert.Kernel.sig) → Buf (Elt Bits) ℓ) : Prop :=
  ∀ c : Dev Cert.Kernel.nD,
    (Cert.Pre_x_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_x_in_table : Cert.Pre_x_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_x_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_tables_nonnegative [hPre_tables_nonnegative : Cert.Pre_tables_nonnegative.Facts] (m : (ℓ : Loc Cert.KernelIdeal.nD Cert.KernelIdeal.τ Cert.KernelIdeal.sig) → Buf (Elt Ideal) ℓ) : Prop :=
  ∀ c : Dev Cert.KernelIdeal.nD,
    (Cert.Pre_tables_nonnegative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tables_nonnegative [hPre_tables_nonnegative : Cert.Pre_tables_nonnegative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_nonnegative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_x_in_table : Cert.Pre_x_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_x_in_table : Cert.Pre_x_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_tables_nonnegative [hKernelIdeal : Cert.KernelIdeal.Facts] [hPre_tables_nonnegative : Cert.Pre_tables_nonnegative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tables_nonnegative m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_tables_nonnegative [hReferenceIdeal : Cert.ReferenceIdeal.Facts] [hPre_tables_nonnegative : Cert.Pre_tables_nonnegative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tables_nonnegative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_tables_nonnegative [hKernelIdeal : Cert.KernelIdeal.Facts] [hReferenceIdeal : Cert.ReferenceIdeal.Facts] [hPre_tables_nonnegative : Cert.Pre_tables_nonnegative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tables_nonnegative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_x_in_table : Cert.Pre_x_in_table.Facts) (hPre_tables_nonnegative : Cert.Pre_tables_nonnegative.Facts),
    quiescent_Kernel (hKernel := hKernel) (hPre_x_in_table := hPre_x_in_table)
    ∧ quiescent_KernelIdeal (hKernelIdeal := hKernelIdeal) (hPre_x_in_table := hPre_x_in_table)
    ∧ quiescent_KernelIdeal_pre_tables_nonnegative (hKernelIdeal := hKernelIdeal) (hPre_tables_nonnegative := hPre_tables_nonnegative)
    ∧ quiescent_ReferenceIdeal (hReferenceIdeal := hReferenceIdeal)
    ∧ quiescent_ReferenceIdeal_pre_tables_nonnegative (hReferenceIdeal := hReferenceIdeal) (hPre_tables_nonnegative := hPre_tables_nonnegative)
    ∧ preserves_Kernel_KernelIdeal
    ∧ algebraic_KernelIdeal_ReferenceIdeal_pre_tables_nonnegative (hKernelIdeal := hKernelIdeal) (hReferenceIdeal := hReferenceIdeal) (hPre_tables_nonnegative := hPre_tables_nonnegative)
-- ==== Pre_tables_nonnegative.lean ====
abbrev S2048x32768 : Shape := ⟨2, ![2048, 32768]⟩
abbrev S256 : Shape := ⟨1, ![256]⟩
abbrev S_ : Shape := ⟨0, ![]⟩

class Facts : Prop where
  bcast_S_S2048x32768 : S_.BroadcastsInDim S2048x32768 (![] : Fin 0 → Fin S2048x32768.rank)
  reducesTo_S2048x32768_S_d0_1 : S2048x32768.ReducesTo [0, 1] S_
  h_S_ : 0 < S_.numel
  bcast_S_S256 : S_.BroadcastsInDim S256 (![] : Fin 0 → Fin S256.rank)
  reducesTo_S256_S_d0 : S256.ReducesTo [0] S_

variable [Facts]

def fn {F : FTy → Type} [FloatOps F] (main_arg0 : IVec S2048x32768 32) (main_arg1 : FVec F S256 .f32) (main_arg2 : FVec F S256 .f32) : IVec S_ 1 :=
  let main_c : IVec S_ 32 := constantI S_ 32 0#32
  let main_v0 : IVec S2048x32768 32 := broadcastInDim S2048x32768 ![] bcast_S_S2048x32768 main_c
  let main_v1 : IVec S2048x32768 1 := cmpi .sge main_arg0 main_v0
  let main_c_0 : IVec S_ 32 := constantI S_ 32 256#32
  let main_v2 : IVec S2048x32768 32 := broadcastInDim S2048x32768 ![] bcast_S_S2048x32768 main_c_0
  let main_v3 : IVec S2048x32768 1 := cmpi .slt main_arg0 main_v2
  let main_v4 : IVec S2048x32768 1 := andi main_v1 main_v3
  let main_c_1 : IVec S_ 1 := constantI S_ 1 1#1
  let main_v5 : IVec S_ 1 := (fun x v => Host.reduce IntOp.andi x v reducesTo_S2048x32768_S_d0_1 h_S_) main_v4 main_c_1
  let main_cst : FVec F S_ .f32 := constant S_ .f32 0x00000000#32
  let main_v6 : FVec F S256 .f32 := broadcastInDim S256 ![] bcast_S_S256 main_cst
  let main_v7 : IVec S256 1 := cmpf .oge main_arg1 main_v6
  let main_c_2 : IVec S_ 1 := constantI S_ 1 1#1
  let main_v8 : IVec S_ 1 := (fun x v => Host.reduce IntOp.andi x v reducesTo_S256_S_d0 h_S_) main_v7 main_c_2
  let main_v9 : IVec S_ 1 := andi main_v5 main_v8
  let main_cst_3 : FVec F S_ .f32 := constant S_ .f32 0x00000000#32
  let main_v10 : FVec F S256 .f32 := broadcastInDim S256 ![] bcast_S_S256 main_cst_3
  let main_v11 : IVec S256 1 := cmpf .oge main_arg2 main_v10
  let main_c_4 : IVec S_ 1 := constantI S_ 1 1#1
  let main_v12 : IVec S_ 1 := (fun x v => Host.reduce IntOp.andi x v reducesTo_S256_S_d0 h_S_) main_v11 main_c_4
  let main_v13 : IVec S_ 1 := andi main_v9 main_v12
  main_v13
-- ==== Pre_x_in_table.lean ====
abbrev S2048x32768 : Shape := ⟨2, ![2048, 32768]⟩
abbrev S256 : Shape := ⟨1, ![256]⟩
abbrev S_ : Shape := ⟨0, ![]⟩

class Facts : Prop where
  bcast_S_S2048x32768 : S_.BroadcastsInDim S2048x32768 (![] : Fin 0 → Fin S2048x32768.rank)

variable [Facts]

def fn {F : FTy → Type} [FloatOps F] (main_arg0 : IVec S2048x32768 32) (main_arg1 : FVec F S256 .f32) (main_arg2 : FVec F S256 .f32) : IVec S2048x32768 1 :=
  let main_c : IVec S_ 32 := constantI S_ 32 0#32
  let main_v0 : IVec S2048x32768 32 := broadcastInDim S2048x32768 ![] bcast_S_S2048x32768 main_c
  let main_v1 : IVec S2048x32768 1 := cmpi .sge main_arg0 main_v0
  let main_c_0 : IVec S_ 32 := constantI S_ 32 256#32
  let main_v2 : IVec S2048x32768 32 := broadcastInDim S2048x32768 ![] bcast_S_S2048x32768 main_c_0
  let main_v3 : IVec S2048x32768 1 := cmpi .slt main_arg0 main_v2
  let main_v4 : IVec S2048x32768 1 := andi main_v1 main_v3
  main_v4
-- ==== Kernel.lean ====
abbrev S2048x32768 : Shape := ⟨2, ![2048, 32768]⟩
abbrev S256 : Shape := ⟨1, ![256]⟩
abbrev S32768 : Shape := ⟨1, ![32768]⟩
abbrev S32x1024 : Shape := ⟨2, ![32, 1024]⟩
abbrev S1024 : Shape := ⟨1, ![1024]⟩
abbrev S_ : Shape := ⟨0, ![]⟩
abbrev S16 : Shape := ⟨1, ![16]⟩
abbrev S1x16 : Shape := ⟨2, ![1, 16]⟩
abbrev S512x32768 : Shape := ⟨2, ![512, 32768]⟩
abbrev S8x1024 : Shape := ⟨2, ![8, 1024]⟩
abbrev S512x4x32768 : Shape := ⟨3, ![512, 4, 32768]⟩
abbrev S2048 : Shape := ⟨1, ![2048]⟩
abbrev S2048x1 : Shape := ⟨2, ![2048, 1]⟩

abbrev nBuf : Table → Nat
  | .hbm => 43
  | .local .scVector .vmem => 10
  | _ => 0

abbrev bufTy : (tb : Table) → Fin (nBuf tb) → BufTy
  | .hbm, ⟨0, _⟩ => ⟨S2048x32768, .i32⟩
  | .hbm, ⟨1, _⟩ => ⟨S256, .f32⟩
  | .hbm, ⟨2, _⟩ => ⟨S256, .f32⟩
  | .hbm, ⟨3, _⟩ => ⟨S32768, .f32⟩
  | .hbm, ⟨4, _⟩ => ⟨S_, .f32⟩
  | .hbm, ⟨5, _⟩ => ⟨S32768, .f32⟩
  | .hbm, ⟨6, _⟩ => ⟨S32768, .f32⟩
  | .hbm, ⟨7, _⟩ => ⟨S512x32768, .i32⟩
  | .hbm, ⟨8, _⟩ => ⟨S512x4x32768, .i32⟩
  | .hbm, ⟨9, _⟩ => ⟨S2048x32768, .i32⟩
  | .hbm, ⟨10, _⟩ => ⟨S2048, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S2048, .i32⟩
  | .hbm, ⟨18, _⟩ => ⟨S2048, .i32⟩
  | .hbm, ⟨19, _⟩ => ⟨S_, .i32⟩
  | .hbm, ⟨20, _⟩ => ⟨S2048, .i32⟩
  | .hbm, ⟨21, _⟩ => ⟨S2048, .i1⟩
  | .hbm, ⟨22, _⟩ => ⟨S_, .i32⟩
  | .hbm, ⟨23, _⟩ => ⟨S2048, .i32⟩
  | .hbm, ⟨24, _⟩ => ⟨S2048, .i1⟩
  | .hbm, ⟨25, _⟩ => ⟨S_, .i32⟩
  | .hbm, ⟨26, _⟩ => ⟨S_, .i1⟩
  | .hbm, ⟨27, _⟩ => ⟨S2048, .i1⟩
  | .hbm, ⟨28, _⟩ => ⟨S2048, .i1⟩
  | .hbm, ⟨29, _⟩ => ⟨S2048, .i1⟩
  | .hbm, ⟨30, _⟩ => ⟨S2048, .i32⟩
  | .hbm, ⟨31, _⟩ => ⟨S2048, .i32⟩
  | .hbm, ⟨32, _⟩ => ⟨S2048, .i32⟩
  | .hbm, ⟨33, _⟩ => ⟨S_, .i32⟩
  | .hbm, ⟨34, _⟩ => ⟨S2048, .i32⟩
  | .hbm, ⟨35, _⟩ => ⟨S2048, .i32⟩
  | .hbm, ⟨36, _⟩ => ⟨S2048x1, .i32⟩
  | .hbm, ⟨37, _⟩ => ⟨S2048x32768, .i32⟩
  | .hbm, ⟨38, _⟩ => ⟨S2048x32768, .i32⟩
  | .hbm, ⟨39, _⟩ => ⟨S_, .i32⟩
  | .hbm, ⟨40, _⟩ => ⟨S2048x32768, .i32⟩
  | .hbm, ⟨41, _⟩ => ⟨S2048x32768, .i32⟩
  | .hbm, ⟨42, _⟩ => ⟨S2048x32768, .i8⟩
  | .local .scVector .vmem, ⟨0, _⟩ => ⟨S32x1024, .i32⟩
  | .local .scVector .vmem, ⟨1, _⟩ => ⟨S32x1024, .i32⟩
  | .local .scVector .vmem, ⟨2, _⟩ => ⟨S256, .f32⟩
  | .local .scVector .vmem, ⟨3, _⟩ => ⟨S1024, .f32⟩
  | .local .scVector .vmem, ⟨4, _⟩ => ⟨S32x1024, .i32⟩
  | .local .scVector .vmem, ⟨5, _⟩ => ⟨S32x1024, .i32⟩
  | .local .scVector .vmem, ⟨6, _⟩ => ⟨S8x1024, .i32⟩
  | .local .scVector .vmem, ⟨7, _⟩ => ⟨S8x1024, .i32⟩
  | .local .scVector .vmem, ⟨8, _⟩ => ⟨S256, .f32⟩
  | .local .scVector .vmem, ⟨9, _⟩ => ⟨S1024, .f32⟩
  | _, _ => ⟨S2048x32768, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_v5 : Ref sig .tc := ⟨.hbm, 20, rfl⟩
abbrev main_call0_v6 : Ref sig .tc := ⟨.hbm, 21, rfl⟩
abbrev main_call0_c_2 : Ref sig .tc := ⟨.hbm, 22, rfl⟩
abbrev main_call0_v7 : Ref sig .tc := ⟨.hbm, 23, rfl⟩
abbrev main_call0_v8 : Ref sig .tc := ⟨.hbm, 24, rfl⟩
abbrev main_call0_c_3 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_v7 : Ref sig .tc := ⟨.hbm, 32, rfl⟩
abbrev main_c_0 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_c_1 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_arg0_scv : Ref sig .scVector := ⟨.hbm, 0, rfl⟩
abbrev main_arg1_scv : Ref sig .scVector := ⟨.hbm, 1, rfl⟩
abbrev main_v0_scv : Ref sig .scVector := ⟨.hbm, 3, rfl⟩
abbrev main_arg2_scv : Ref sig .scVector := ⟨.hbm, 2, rfl⟩
abbrev main_v2_scv : Ref sig .scVector := ⟨.hbm, 6, rfl⟩
abbrev main_v3_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_scratch0 : Ref sig .scVector := ⟨.vmem, 4, rfl⟩
abbrev cc1_scratch1 : Ref sig .scVector := ⟨.vmem, 5, rfl⟩
abbrev cc1_scratch2 : Ref sig .scVector := ⟨.vmem, 6, rfl⟩
abbrev cc1_scratch3 : Ref sig .scVector := ⟨.vmem, 7, rfl⟩
abbrev cc1_scratch4 : Ref sig .scVector := ⟨.vmem, 8, rfl⟩
abbrev cc1_scratch5 : Ref sig .scVector := ⟨.vmem, 9, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c64_i32 : BitVec 32 := 64#32
  let v3 : BitVec 32 := Scalar.addi c0_i32_0 c64_i32
  let c1_i32 : BitVec 32 := 1#32
  ⟨c0_i32_0, v3, c1_i32⟩
def k0_off1 (k0_t1 : Fin k0_t1_loop.trips) : Fin 1 → Nat :=
  let c0_i32_0 : BitVec 32 := 0#32
  let c1_i32 : BitVec 32 := 1#32
  let arg11 : BitVec 32 := Scf.iv c0_i32_0 c1_i32 k0_t1
  let c16_i32 : BitVec 32 := 16#32
  let v8 : BitVec 32 := Scalar.muli arg11 c16_i32
  let v9 : Index := Scalar.indexCast v8
  ![v9.toNat]
def k0_off2 (i : grid0.Coords) : Fin 2 → Nat :=
  let c0_i32_2 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  ![0, v2.toNat]
@[reducible] def k0_t2_loop : Scf.Loop 32 :=
  let c0_i32_5 : BitVec 32 := 0#32
  let c32_i32 : BitVec 32 := 32#32
  let v6 : BitVec 32 := Scalar.addi c0_i32_5 c32_i32
  let c1_i32_6 : BitVec 32 := 1#32
  ⟨c0_i32_5, v6, c1_i32_6⟩
def k0_cond1 (k0_t2 : Fin k0_t2_loop.trips) : BitVec 1 :=
  let c0_i32_5 : BitVec 32 := 0#32
  let c1_i32_6 : BitVec 32 := 1#32
  let arg11 : BitVec 32 := Scf.iv c0_i32_5 c1_i32_6 k0_t2
  let c2_i32_8 : BitVec 32 := 2#32
  let v7 : BitVec 32 := Scalar.muli arg11 c2_i32_8
  let c0_i32_9 : BitVec 32 := 0#32
  let v8 : BitVec 32 := Scalar.addi v7 c0_i32_9
  let c1_i32_10 : BitVec 32 := 1#32
  let v9 : BitVec 32 := Scalar.addi v8 c1_i32_10
  let c64_i32_11 : BitVec 32 := 64#32
  let v10 : BitVec 1 := Scalar.cmpi .slt v9 c64_i32_11
  let v11 : BitVec 32 := Scalar.extui v10
  let c0_i32_12 : BitVec 32 := 0#32
  let v12 : BitVec 1 := Scalar.cmpi .ne v11 c0_i32_12
  v12

def k0_off3 (i : grid0.Coords) (k0_t2 : Fin k0_t2_loop.trips) : Fin 2 → Nat :=
  let c0_i32_5 : BitVec 32 := 0#32
  let c1_i32_6 : BitVec 32 := 1#32
  let arg11 : BitVec 32 := Scf.iv c0_i32_5 c1_i32_6 k0_t2
  let c2_i32_8 : BitVec 32 := 2#32
  let v7 : BitVec 32 := Scalar.muli arg11 c2_i32_8
  let c0_i32_9 : BitVec 32 := 0#32
  let v8 : BitVec 32 := Scalar.addi v7 c0_i32_9
  let c1_i32_30 : BitVec 32 := 1#32
  let v27 : BitVec 32 := Scalar.addi v8 c1_i32_30
  let c32_i32_31 : BitVec 32 := 32#32
  let v28 : BitVec 32 := Scalar.muli v27 c32_i32_31
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  ![v28.toNat, v2.toNat]
def k0_off4 (i : grid0.Coords) (k0_t2 : Fin k0_t2_loop.trips) (c0_i32_9 : BitVec 32) : Fin 2 → Nat :=
  let c0_i32_5 : BitVec 32 := 0#32
  let c1_i32_6 : BitVec 32 := 1#32
  let arg11 : BitVec 32 := Scf.iv c0_i32_5 c1_i32_6 k0_t2
  let c2_i32_8 : BitVec 32 := 2#32
  let v7 : BitVec 32 := Scalar.muli arg11 c2_i32_8
  let v8 : BitVec 32 := Scalar.addi v7 c0_i32_9
  let c32_i32_13 : BitVec 32 := 32#32
  let v13 : BitVec 32 := Scalar.muli v8 c32_i32_13
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  ![v13.toNat, v2.toNat]
@[reducible] def k0_t3_loop : Scf.Loop 32 :=
  let c0_i32_15 : BitVec 32 := 0#32
  let c64_i32_16 : BitVec 32 := 64#32
  let v16 : BitVec 32 := Scalar.addi c0_i32_15 c64_i32_16
  let c1_i32_17 : BitVec 32 := 1#32
  ⟨c0_i32_15, v16, c1_i32_17⟩
def k0_off5 (k0_t3 : Fin k0_t3_loop.trips) : Fin 2 → Nat :=
  let c0_i32_33 : BitVec 32 := 0#32
  let v32 : Index := Scalar.indexCast c0_i32_33
  let c0_i32_15 : BitVec 32 := 0#32
  let c1_i32_17 : BitVec 32 := 1#32
  let arg12 : BitVec 32 := Scf.iv c0_i32_15 c1_i32_17 k0_t3
  let c16_i32 : BitVec 32 := 16#32
  let v27 : BitVec 32 := Scalar.muli arg12 c16_i32
  let v33 : Index := Scalar.indexCast v27
  ![0, v33.toNat]

def k0_chk1 (v34 : IVec S16 32) : Prop :=
  (∀ a x, ((![v34] : Fin 1 → IVec S16 32) a x).toNat < S256.size a)
theorem k0_idx1_inb : ∀ (v34 : IVec S16 32) (k0_hw1 : k0_chk1 v34), ∀ a x, ((![v34] : Fin 1 → IVec S16 32) a x).toNat < S256.size a := fun v34 k0_hw1 => k0_hw1
def k0_off6 (k0_t3 : Fin k0_t3_loop.trips) : Fin 2 → Nat :=
  let c1_i32_34 : BitVec 32 := 1#32
  let v37 : Index := Scalar.indexCast c1_i32_34
  let c0_i32_15 : BitVec 32 := 0#32
  let c1_i32_17 : BitVec 32 := 1#32
  let arg12 : BitVec 32 := Scf.iv c0_i32_15 c1_i32_17 k0_t3
  let c16_i32 : BitVec 32 := 16#32
  let v27 : BitVec 32 := Scalar.muli arg12 c16_i32
  let v38 : Index := Scalar.indexCast v27
  ![1, v38.toNat]

def k0_chk2 (v39 : IVec S16 32) : Prop :=
  (∀ a x, ((![v39] : Fin 1 → IVec S16 32) a x).toNat < S256.size a)
theorem k0_idx2_inb : ∀ (v39 : IVec S16 32) (k0_hw2 : k0_chk2 v39), ∀ a x, ((![v39] : Fin 1 → IVec S16 32) a x).toNat < S256.size a := fun v39 k0_hw2 => k0_hw2
def k0_off7 (k0_t3 : Fin k0_t3_loop.trips) : Fin 2 → Nat :=
  let c2_i32_35 : BitVec 32 := 2#32
  let v42 : Index := Scalar.indexCast c2_i32_35
  let c0_i32_15 : BitVec 32 := 0#32
  let c1_i32_17 : BitVec 32 := 1#32
  let arg12 : BitVec 32 := Scf.iv c0_i32_15 c1_i32_17 k0_t3
  let c16_i32 : BitVec 32 := 16#32
  let v27 : BitVec 32 := Scalar.muli arg12 c16_i32
  let v43 : Index := Scalar.indexCast v27
  ![2, v43.toNat]

def k0_chk3 (v44 : IVec S16 32) : Prop :=
  (∀ a x, ((![v44] : Fin 1 → IVec S16 32) a x).toNat < S256.size a)
theorem k0_idx3_inb : ∀ (v44 : IVec S16 32) (k0_hw3 : k0_chk3 v44), ∀ a x, ((![v44] : Fin 1 → IVec S16 32) a x).toNat < S256.size a := fun v44 k0_hw3 => k0_hw3
def k0_off8 (k0_t3 : Fin k0_t3_loop.trips) : Fin 2 → Nat :=
  let c3_i32 : BitVec 32 := 3#32
  let v47 : Index := Scalar.indexCast c3_i32
  let c0_i32_15 : BitVec 32 := 0#32
  let c1_i32_17 : BitVec 32 := 1#32
  let arg12 : BitVec 32 := Scf.iv c0_i32_15 c1_i32_17 k0_t3
  let c16_i32 : BitVec 32 := 16#32
  let v27 : BitVec 32 := Scalar.muli arg12 c16_i32
  let v48 : Index := Scalar.indexCast v27
  ![3, v48.toNat]

def k0_chk4 (v49 : IVec S16 32) : Prop :=
  (∀ a x, ((![v49] : Fin 1 → IVec S16 32) a x).toNat < S256.size a)
theorem k0_idx4_inb : ∀ (v49 : IVec S16 32) (k0_hw4 : k0_chk4 v49), ∀ a x, ((![v49] : Fin 1 → IVec S16 32) a x).toNat < S256.size a := fun v49 k0_hw4 => k0_hw4
def k0_off9 (k0_t3 : Fin k0_t3_loop.trips) : Fin 2 → Nat :=
  let c4_i32 : BitVec 32 := 4#32
  let v52 : Index := Scalar.indexCast c4_i32
  let c0_i32_15 : BitVec 32 := 0#32
  let c1_i32_17 : BitVec 32 := 1#32
  let arg12 : BitVec 32 := Scf.iv c0_i32_15 c1_i32_17 k0_t3
  let c16_i32 : BitVec 32 := 16#32
  let v27 : BitVec 32 := Scalar.muli arg12 c16_i32
  let v53 : Index := Scalar.indexCast v27
  ![4, v53.toNat]

def k0_chk5 (v54 : IVec S16 32) : Prop :=
  (∀ a x, ((![v54] : Fin 1 → IVec S16 32) a x).toNat < S256.size a)
theorem k0_idx5_inb : ∀ (v54 : IVec S16 32) (k0_hw5 : k0_chk5 v54), ∀ a x, ((![v54] : Fin 1 → IVec S16 32) a x).toNat < S256.size a := fun v54 k0_hw5 => k0_hw5
def k0_off10 (k0_t3 : Fin k0_t3_loop.trips) : Fin 2 → Nat :=
  let c5_i32 : BitVec 32 := 5#32
  let v57 : Index := Scalar.indexCast c5_i32
  let c0_i32_15 : BitVec 32 := 0#32
  let c1_i32_17 : BitVec 32 := 1#32
  let arg12 : BitVec 32 := Scf.iv c0_i32_15 c1_i32_17 k0_t3
  let c16_i32 : BitVec 32 := 16#32
  let v27 : BitVec 32 := Scalar.muli arg12 c16_i32
  let v58 : Index := Scalar.indexCast v27
  ![5, v58.toNat]

def k0_chk6 (v59 : IVec S16 32) : Prop :=
  (∀ a x, ((![v59] : Fin 1 → IVec S16 32) a x).toNat < S256.size a)
theorem k0_idx6_inb : ∀ (v59 : IVec S16 32) (k0_hw6 : k0_chk6 v59), ∀ a x, ((![v59] : Fin 1 → IVec S16 32) a x).toNat < S256.size a := fun v59 k0_hw6 => k0_hw6
def k0_off11 (k0_t3 : Fin k0_t3_loop.trips) : Fin 2 → Nat :=
  let c6_i32 : BitVec 32 := 6#32
  let v62 : Index := Scalar.indexCast c6_i32
  let c0_i32_15 : BitVec 32 := 0#32
  let c1_i32_17 : BitVec 32 := 1#32
  let arg12 : BitVec 32 := Scf.iv c0_i32_15 c1_i32_17 k0_t3
  let c16_i32 : BitVec 32 := 16#32
  let v27 : BitVec 32 := Scalar.muli arg12 c16_i32
  let v63 : Index := Scalar.indexCast v27
  ![6, v63.toNat]

def k0_chk7 (v64 : IVec S16 32) : Prop :=
  (∀ a x, ((![v64] : Fin 1 → IVec S16 32) a x).toNat < S256.size a)
theorem k0_idx7_inb : ∀ (v64 : IVec S16 32) (k0_hw7 : k0_chk7 v64), ∀ a x, ((![v64] : Fin 1 → IVec S16 32) a x).toNat < S256.size a := fun v64 k0_hw7 => k0_hw7
def k0_off12 (k0_t3 : Fin k0_t3_loop.trips) : Fin 2 → Nat :=
  let c7_i32 : BitVec 32 := 7#32
  let v67 : Index := Scalar.indexCast c7_i32
  let c0_i32_15 : BitVec 32 := 0#32
  let c1_i32_17 : BitVec 32 := 1#32
  let arg12 : BitVec 32 := Scf.iv c0_i32_15 c1_i32_17 k0_t3
  let c16_i32 : BitVec 32 := 16#32
  let v27 : BitVec 32 := Scalar.muli arg12 c16_i32
  let v68 : Index := Scalar.indexCast v27
  ![7, v68.toNat]

def k0_chk8 (v69 : IVec S16 32) : Prop :=
  (∀ a x, ((![v69] : Fin 1 → IVec S16 32) a x).toNat < S256.size a)
theorem k0_idx8_inb : ∀ (v69 : IVec S16 32) (k0_hw8 : k0_chk8 v69), ∀ a x, ((![v69] : Fin 1 → IVec S16 32) a x).toNat < S256.size a := fun v69 k0_hw8 => k0_hw8
def k0_off13 (k0_t3 : Fin k0_t3_loop.trips) : Fin 2 → Nat :=
  let c8_i32 : BitVec 32 := 8#32
  let v72 : Index := Scalar.indexCast c8_i32
  let c0_i32_15 : BitVec 32 := 0#32
  let c1_i32_17 : BitVec 32 := 1#32
  let arg12 : BitVec 32 := Scf.iv c0_i32_15 c1_i32_17 k0_t3
  let c16_i32 : BitVec 32 := 16#32
  let v27 : BitVec 32 := Scalar.muli arg12 c16_i32
  let v73 : Index := Scalar.indexCast v27
  ![8, v73.toNat]

def k0_chk9 (v74 : IVec S16 32) : Prop :=
  (∀ a x, ((![v74] : Fin 1 → IVec S16 32) a x).toNat < S256.size a)
theorem k0_idx9_inb : ∀ (v74 : IVec S16 32) (k0_hw9 : k0_chk9 v74), ∀ a x, ((![v74] : Fin 1 → IVec S16 32) a x).toNat < S256.size a := fun v74 k0_hw9 => k0_hw9
def k0_off14 (k0_t3 : Fin k0_t3_loop.trips) : Fin 2 → Nat :=
  let c9_i32 : BitVec 32 := 9#32
  let v77 : Index := Scalar.indexCast c9_i32
  let c0_i32_15 : BitVec 32 := 0#32
  let c1_i32_17 : BitVec 32 := 1#32
  let arg12 : BitVec 32 := Scf.iv c0_i32_15 c1_i32_17 k0_t3
  let c16_i32 : BitVec 32 := 16#32
  let v27 : BitVec 32 := Scalar.muli arg12 c16_i32
  let v78 : Index := Scalar.indexCast v27
  ![9, v78.toNat]

def k0_chk10 (v79 : IVec S16 32) : Prop :=
  (∀ a x, ((![v79] : Fin 1 → IVec S16 32) a x).toNat < S256.size a)
theorem k0_idx10_inb : ∀ (v79 : IVec S16 32) (k0_hw10 : k0_chk10 v79), ∀ a x, ((![v79] : Fin 1 → IVec S16 32) a x).toNat < S256.size a := fun v79 k0_hw10 => k0_hw10
def k0_off15 (k0_t3 : Fin k0_t3_loop.trips) : Fin 2 → Nat :=
  let c10_i32 : BitVec 32 := 10#32
  let v82 : Index := Scalar.indexCast c10_i32
  let c0_i32_15 : BitVec 32 := 0#32
  let c1_i32_17 : BitVec 32 := 1#32
  let arg12 : BitVec 32 := Scf.iv c0_i32_15 c1_i32_17 k0_t3
  let c16_i32 : BitVec 32 := 16#32
  let v27 : BitVec 32 := Scalar.muli arg12 c16_i32
  let v83 : Index := Scalar.indexCast v27
  ![10, v83.toNat]

def k0_chk11 (v84 : IVec S16 32) : Prop :=
  (∀ a x, ((![v84] : Fin 1 → IVec S16 32) a x).toNat < S256.size a)
theorem k0_idx11_inb : ∀ (v84 : IVec S16 32) (k0_hw11 : k0_chk11 v84), ∀ a x, ((![v84] : Fin 1 → IVec S16 32) a x).toNat < S256.size a := fun v84 k0_hw11 => k0_hw11
def k0_off16 (k0_t3 : Fin k0_t3_loop.trips) : Fin 2 → Nat :=
  let c11_i32 : BitVec 32 := 11#32
  let v87 : Index := Scalar.indexCast c11_i32
  let c0_i32_15 : BitVec 32 := 0#32
  let c1_i32_17 : BitVec 32 := 1#32
  let arg12 : BitVec 32 := Scf.iv c0_i32_15 c1_i32_17 k0_t3
  let c16_i32 : BitVec 32 := 16#32
  let v27 : BitVec 32 := Scalar.muli arg12 c16_i32
  let v88 : Index := Scalar.indexCast v27
  ![11, v88.toNat]

def k0_chk12 (v89 : IVec S16 32) : Prop :=
  (∀ a x, ((![v89] : Fin 1 → IVec S16 32) a x).toNat < S256.size a)
theorem k0_idx12_inb : ∀ (v89 : IVec S16 32) (k0_hw12 : k0_chk12 v89), ∀ a x, ((![v89] : Fin 1 → IVec S16 32) a x).toNat < S256.size a := fun v89 k0_hw12 => k0_hw12
def k0_off17 (k0_t3 : Fin k0_t3_loop.trips) : Fin 2 → Nat :=
  let c12_i32 : BitVec 32 := 12#32
  let v92 : Index := Scalar.indexCast c12_i32
  let c0_i32_15 : BitVec 32 := 0#32
  let c1_i32_17 : BitVec 32 := 1#32
  let arg12 : BitVec 32 := Scf.iv c0_i32_15 c1_i32_17 k0_t3
  let c16_i32 : BitVec 32 := 16#32
  let v27 : BitVec 32 := Scalar.muli arg12 c16_i32
  let v93 : Index := Scalar.indexCast v27
  ![12, v93.toNat]

def k0_chk13 (v94 : IVec S16 32) : Prop :=
  (∀ a x, ((![v94] : Fin 1 → IVec S16 32) a x).toNat < S256.size a)
theorem k0_idx13_inb : ∀ (v94 : IVec S16 32) (k0_hw13 : k0_chk13 v94), ∀ a x, ((![v94] : Fin 1 → IVec S16 32) a x).toNat < S256.size a := fun v94 k0_hw13 => k0_hw13
def k0_off18 (k0_t3 : Fin k0_t3_loop.trips) : Fin 2 → Nat :=
  let c13_i32 : BitVec 32 := 13#32
  let v97 : Index := Scalar.indexCast c13_i32
  let c0_i32_15 : BitVec 32 := 0#32
  let c1_i32_17 : BitVec 32 := 1#32
  let arg12 : BitVec 32 := Scf.iv c0_i32_15 c1_i32_17 k0_t3
  let c16_i32 : BitVec 32 := 16#32
  let v27 : BitVec 32 := Scalar.muli arg12 c16_i32
  let v98 : Index := Scalar.indexCast v27
  ![13, v98.toNat]

def k0_chk14 (v99 : IVec S16 32) : Prop :=
  (∀ a x, ((![v99] : Fin 1 → IVec S16 32) a x).toNat < S256.size a)
theorem k0_idx14_inb : ∀ (v99 : IVec S16 32) (k0_hw14 : k0_chk14 v99), ∀ a x, ((![v99] : Fin 1 → IVec S16 32) a x).toNat < S256.size a := fun v99 k0_hw14 => k0_hw14
def k0_off19 (k0_t3 : Fin k0_t3_loop.trips) : Fin 2 → Nat :=
  let c14_i32 : BitVec 32 := 14#32
  let v102 : Index := Scalar.indexCast c14_i32
  let c0_i32_15 : BitVec 32 := 0#32
  let c1_i32_17 : BitVec 32 := 1#32
  let arg12 : BitVec 32 := Scf.iv c0_i32_15 c1_i32_17 k0_t3
  let c16_i32 : BitVec 32 := 16#32
  let v27 : BitVec 32 := Scalar.muli arg12 c16_i32
  let v103 : Index := Scalar.indexCast v27
  ![14, v103.toNat]

def k0_chk15 (v104 : IVec S16 32) : Prop :=
  (∀ a x, ((![v104] : Fin 1 → IVec S16 32) a x).toNat < S256.size a)
theorem k0_idx15_inb : ∀ (v104 : IVec S16 32) (k0_hw15 : k0_chk15 v104), ∀ a x, ((![v104] : Fin 1 → IVec S16 32) a x).toNat < S256.size a := fun v104 k0_hw15 => k0_hw15
def k0_off20 (k0_t3 : Fin k0_t3_loop.trips) : Fin 2 → Nat :=
  let c15_i32 : BitVec 32 := 15#32
  let v107 : Index := Scalar.indexCast c15_i32
  let c0_i32_15 : BitVec 32 := 0#32
  let c1_i32_17 : BitVec 32 := 1#32
  let arg12 : BitVec 32 := Scf.iv c0_i32_15 c1_i32_17 k0_t3
  let c16_i32 : BitVec 32 := 16#32
  let v27 : BitVec 32 := Scalar.muli arg12 c16_i32
  let v108 : Index := Scalar.indexCast v27
  ![15, v108.toNat]

def k0_chk16 (v109 : IVec S16 32) : Prop :=
  (∀ a x, ((![v109] : Fin 1 → IVec S16 32) a x).toNat < S256.size a)
theorem k0_idx16_inb : ∀ (v109 : IVec S16 32) (k0_hw16 : k0_chk16 v109), ∀ a x, ((![v109] : Fin 1 → IVec S16 32) a x).toNat < S256.size a := fun v109 k0_hw16 => k0_hw16
def k0_off21 (k0_t3 : Fin k0_t3_loop.trips) : Fin 2 → Nat :=
  let c16_i32_36 : BitVec 32 := 16#32
  let v112 : Index := Scalar.indexCast c16_i32_36
  let c0_i32_15 : BitVec 32 := 0#32
  let c1_i32_17 : BitVec 32 := 1#32
  let arg12 : BitVec 32 := Scf.iv c0_i32_15 c1_i32_17 k0_t3
  let c16_i32 : BitVec 32 := 16#32
  let v27 : BitVec 32 := Scalar.muli arg12 c16_i32
  let v113 : Index := Scalar.indexCast v27
  ![16, v113.toNat]

def k0_chk17 (v114 : IVec S16 32) : Prop :=
  (∀ a x, ((![v114] : Fin 1 → IVec S16 32) a x).toNat < S256.size a)
theorem k0_idx17_inb : ∀ (v114 : IVec S16 32) (k0_hw17 : k0_chk17 v114), ∀ a x, ((![v114] : Fin 1 → IVec S16 32) a x).toNat < S256.size a := fun v114 k0_hw17 => k0_hw17
def k0_off22 (k0_t3 : Fin k0_t3_loop.trips) : Fin 2 → Nat :=
  let c17_i32 : BitVec 32 := 17#32
  let v117 : Index := Scalar.indexCast c17_i32
  let c0_i32_15 : BitVec 32 := 0#32
  let c1_i32_17 : BitVec 32 := 1#32
  let arg12 : BitVec 32 := Scf.iv c0_i32_15 c1_i32_17 k0_t3
  let c16_i32 : BitVec 32 := 16#32
  let v27 : BitVec 32 := Scalar.muli arg12 c16_i32
  let v118 : Index := Scalar.indexCast v27
  ![17, v118.toNat]

def k0_chk18 (v119 : IVec S16 32) : Prop :=
  (∀ a x, ((![v119] : Fin 1 → IVec S16 32) a x).toNat < S256.size a)
theorem k0_idx18_inb : ∀ (v119 : IVec S16 32) (k0_hw18 : k0_chk18 v119), ∀ a x, ((![v119] : Fin 1 → IVec S16 32) a x).toNat < S256.size a := fun v119 k0_hw18 => k0_hw18
def k0_off23 (k0_t3 : Fin k0_t3_loop.trips) : Fin 2 → Nat :=
  let c18_i32 : BitVec 32 := 18#32
  let v122 : Index := Scalar.indexCast c18_i32
  let c0_i32_15 : BitVec 32 := 0#32
  let c1_i32_17 : BitVec 32 := 1#32
  let arg12 : BitVec 32 := Scf.iv c0_i32_15 c1_i32_17 k0_t3
  let c16_i32 : BitVec 32 := 16#32
  let v27 : BitVec 32 := Scalar.muli arg12 c16_i32
  let v123 : Index := Scalar.indexCast v27
  ![18, v123.toNat]

def k0_chk19 (v124 : IVec S16 32) : Prop :=
  (∀ a x, ((![v124] : Fin 1 → IVec S16 32) a x).toNat < S256.size a)
theorem k0_idx19_inb : ∀ (v124 : IVec S16 32) (k0_hw19 : k0_chk19 v124), ∀ a x, ((![v124] : Fin 1 → IVec S16 32) a x).toNat < S256.size a := fun v124 k0_hw19 => k0_hw19
def k0_off24 (k0_t3 : Fin k0_t3_loop.trips) : Fin 2 → Nat :=
  let c19_i32 : BitVec 32 := 19#32
  let v127 : Index := Scalar.indexCast c19_i32
  let c0_i32_15 : BitVec 32 := 0#32
  let c1_i32_17 : BitVec 32 := 1#32
  let arg12 : BitVec 32 := Scf.iv c0_i32_15 c1_i32_17 k0_t3
  let c16_i32 : BitVec 32 := 16#32
  let v27 : BitVec 32 := Scalar.muli arg12 c16_i32
  let v128 : Index := Scalar.indexCast v27
  ![19, v128.toNat]

def k0_chk20 (v129 : IVec S16 32) : Prop :=
  (∀ a x, ((![v129] : Fin 1 → IVec S16 32) a x).toNat < S256.size a)
theorem k0_idx20_inb : ∀ (v129 : IVec S16 32) (k0_hw20 : k0_chk20 v129), ∀ a x, ((![v129] : Fin 1 → IVec S16 32) a x).toNat < S256.size a := fun v129 k0_hw20 => k0_hw20
def k0_off25 (k0_t3 : Fin k0_t3_loop.trips) : Fin 2 → Nat :=
  let c20_i32 : BitVec 32 := 20#32
  let v132 : Index := Scalar.indexCast c20_i32
  let c0_i32_15 : BitVec 32 := 0#32
  let c1_i32_17 : BitVec 32 := 1#32
  let arg12 : BitVec 32 := Scf.iv c0_i32_15 c1_i32_17 k0_t3
  let c16_i32 : BitVec 32 := 16#32
  let v27 : BitVec 32 := Scalar.muli arg12 c16_i32
  let v133 : Index := Scalar.indexCast v27
  ![20, v133.toNat]

def k0_chk21 (v134 : IVec S16 32) : Prop :=
  (∀ a x, ((![v134] : Fin 1 → IVec S16 32) a x).toNat < S256.size a)
theorem k0_idx21_inb : ∀ (v134 : IVec S16 32) (k0_hw21 : k0_chk21 v134), ∀ a x, ((![v134] : Fin 1 → IVec S16 32) a x).toNat < S256.size a := fun v134 k0_hw21 => k0_hw21
def k0_off26 (k0_t3 : Fin k0_t3_loop.trips) : Fin 2 → Nat :=
  let c21_i32 : BitVec 32 := 21#32
  let v137 : Index := Scalar.indexCast c21_i32
  let c0_i32_15 : BitVec 32 := 0#32
  let c1_i32_17 : BitVec 32 := 1#32
  let arg12 : BitVec 32 := Scf.iv c0_i32_15 c1_i32_17 k0_t3
  let c16_i32 : BitVec 32 := 16#32
  let v27 : BitVec 32 := Scalar.muli arg12 c16_i32
  let v138 : Index := Scalar.indexCast v27
  ![21, v138.toNat]

def k0_chk22 (v139 : IVec S16 32) : Prop :=
  (∀ a x, ((![v139] : Fin 1 → IVec S16 32) a x).toNat < S256.size a)
theorem k0_idx22_inb : ∀ (v139 : IVec S16 32) (k0_hw22 : k0_chk22 v139), ∀ a x, ((![v139] : Fin 1 → IVec S16 32) a x).toNat < S256.size a := fun v139 k0_hw22 => k0_hw22
def k0_off27 (k0_t3 : Fin k0_t3_loop.trips) : Fin 2 → Nat :=
  let c22_i32 : BitVec 32 := 22#32
  let v142 : Index := Scalar.indexCast c22_i32
  let c0_i32_15 : BitVec 32 := 0#32
  let c1_i32_17 : BitVec 32 := 1#32
  let arg12 : BitVec 32 := Scf.iv c0_i32_15 c1_i32_17 k0_t3
  let c16_i32 : BitVec 32 := 16#32
  let v27 : BitVec 32 := Scalar.muli arg12 c16_i32
  let v143 : Index := Scalar.indexCast v27
  ![22, v143.toNat]

def k0_chk23 (v144 : IVec S16 32) : Prop :=
  (∀ a x, ((![v144] : Fin 1 → IVec S16 32) a x).toNat < S256.size a)
theorem k0_idx23_inb : ∀ (v144 : IVec S16 32) (k0_hw23 : k0_chk23 v144), ∀ a x, ((![v144] : Fin 1 → IVec S16 32) a x).toNat < S256.size a := fun v144 k0_hw23 => k0_hw23
def k0_off28 (k0_t3 : Fin k0_t3_loop.trips) : Fin 2 → Nat :=
  let c23_i32 : BitVec 32 := 23#32
  let v147 : Index := Scalar.indexCast c23_i32
  let c0_i32_15 : BitVec 32 := 0#32
  let c1_i32_17 : BitVec 32 := 1#32
  let arg12 : BitVec 32 := Scf.iv c0_i32_15 c1_i32_17 k0_t3
  let c16_i32 : BitVec 32 := 16#32
  let v27 : BitVec 32 := Scalar.muli arg12 c16_i32
  let v148 : Index := Scalar.indexCast v27
  ![23, v148.toNat]

def k0_chk24 (v149 : IVec S16 32) : Prop :=
  (∀ a x, ((![v149] : Fin 1 → IVec S16 32) a x).toNat < S256.size a)
theorem k0_idx24_inb : ∀ (v149 : IVec S16 32) (k0_hw24 : k0_chk24 v149), ∀ a x, ((![v149] : Fin 1 → IVec S16 32) a x).toNat < S256.size a := fun v149 k0_hw24 => k0_hw24
def k0_off29 (k0_t3 : Fin k0_t3_loop.trips) : Fin 2 → Nat :=
  let c24_i32 : BitVec 32 := 24#32
  let v152 : Index := Scalar.indexCast c24_i32
  let c0_i32_15 : BitVec 32 := 0#32
  let c1_i32_17 : BitVec 32 := 1#32
  let arg12 : BitVec 32 := Scf.iv c0_i32_15 c1_i32_17 k0_t3
  let c16_i32 : BitVec 32 := 16#32
  let v27 : BitVec 32 := Scalar.muli arg12 c16_i32
  let v153 : Index := Scalar.indexCast v27
  ![24, v153.toNat]

def k0_chk25 (v154 : IVec S16 32) : Prop :=
  (∀ a x, ((![v154] : Fin 1 → IVec S16 32) a x).toNat < S256.size a)
theorem k0_idx25_inb : ∀ (v154 : IVec S16 32) (k0_hw25 : k0_chk25 v154), ∀ a x, ((![v154] : Fin 1 → IVec S16 32) a x).toNat < S256.size a := fun v154 k0_hw25 => k0_hw25
def k0_off30 (k0_t3 : Fin k0_t3_loop.trips) : Fin 2 → Nat :=
  let c25_i32 : BitVec 32 := 25#32
  let v157 : Index := Scalar.indexCast c25_i32
  let c0_i32_15 : BitVec 32 := 0#32
  let c1_i32_17 : BitVec 32 := 1#32
  let arg12 : BitVec 32 := Scf.iv c0_i32_15 c1_i32_17 k0_t3
  let c16_i32 : BitVec 32 := 16#32
  let v27 : BitVec 32 := Scalar.muli arg12 c16_i32
  let v158 : Index := Scalar.indexCast v27
  ![25, v158.toNat]

def k0_chk26 (v159 : IVec S16 32) : Prop :=
  (∀ a x, ((![v159] : Fin 1 → IVec S16 32) a x).toNat < S256.size a)
theorem k0_idx26_inb : ∀ (v159 : IVec S16 32) (k0_hw26 : k0_chk26 v159), ∀ a x, ((![v159] : Fin 1 → IVec S16 32) a x).toNat < S256.size a := fun v159 k0_hw26 => k0_hw26
def k0_off31 (k0_t3 : Fin k0_t3_loop.trips) : Fin 2 → Nat :=
  let c26_i32 : BitVec 32 := 26#32
  let v162 : Index := Scalar.indexCast c26_i32
  let c0_i32_15 : BitVec 32 := 0#32
  let c1_i32_17 : BitVec 32 := 1#32
  let arg12 : BitVec 32 := Scf.iv c0_i32_15 c1_i32_17 k0_t3
  let c16_i32 : BitVec 32 := 16#32
  let v27 : BitVec 32 := Scalar.muli arg12 c16_i32
  let v163 : Index := Scalar.indexCast v27
  ![26, v163.toNat]

def k0_chk27 (v164 : IVec S16 32) : Prop :=
  (∀ a x, ((![v164] : Fin 1 → IVec S16 32) a x).toNat < S256.size a)
theorem k0_idx27_inb : ∀ (v164 : IVec S16 32) (k0_hw27 : k0_chk27 v164), ∀ a x, ((![v164] : Fin 1 → IVec S16 32) a x).toNat < S256.size a := fun v164 k0_hw27 => k0_hw27
def k0_off32 (k0_t3 : Fin k0_t3_loop.trips) : Fin 2 → Nat :=
  let c27_i32 : BitVec 32 := 27#32
  let v167 : Index := Scalar.indexCast c27_i32
  let c0_i32_15 : BitVec 32 := 0#32
  let c1_i32_17 : BitVec 32 := 1#32
  let arg12 : BitVec 32 := Scf.iv c0_i32_15 c1_i32_17 k0_t3
  let c16_i32 : BitVec 32 := 16#32
  let v27 : BitVec 32 := Scalar.muli arg12 c16_i32
  let v168 : Index := Scalar.indexCast v27
  ![27, v168.toNat]

def k0_chk28 (v169 : IVec S16 32) : Prop :=
  (∀ a x, ((![v169] : Fin 1 → IVec S16 32) a x).toNat < S256.size a)
theorem k0_idx28_inb : ∀ (v169 : IVec S16 32) (k0_hw28 : k0_chk28 v169), ∀ a x, ((![v169] : Fin 1 → IVec S16 32) a x).toNat < S256.size a := fun v169 k0_hw28 => k0_hw28
def k0_off33 (k0_t3 : Fin k0_t3_loop.trips) : Fin 2 → Nat :=
  let c28_i32 : BitVec 32 := 28#32
  let v172 : Index := Scalar.indexCast c28_i32
  let c0_i32_15 : BitVec 32 := 0#32
  let c1_i32_17 : BitVec 32 := 1#32
  let arg12 : BitVec 32 := Scf.iv c0_i32_15 c1_i32_17 k0_t3
  let c16_i32 : BitVec 32 := 16#32
  let v27 : BitVec 32 := Scalar.muli arg12 c16_i32
  let v173 : Index := Scalar.indexCast v27
  ![28, v173.toNat]

def k0_chk29 (v174 : IVec S16 32) : Prop :=
  (∀ a x, ((![v174] : Fin 1 → IVec S16 32) a x).toNat < S256.size a)
theorem k0_idx29_inb : ∀ (v174 : IVec S16 32) (k0_hw29 : k0_chk29 v174), ∀ a x, ((![v174] : Fin 1 → IVec S16 32) a x).toNat < S256.size a := fun v174 k0_hw29 => k0_hw29
def k0_off34 (k0_t3 : Fin k0_t3_loop.trips) : Fin 2 → Nat :=
  let c29_i32 : BitVec 32 := 29#32
  let v177 : Index := Scalar.indexCast c29_i32
  let c0_i32_15 : BitVec 32 := 0#32
  let c1_i32_17 : BitVec 32 := 1#32
  let arg12 : BitVec 32 := Scf.iv c0_i32_15 c1_i32_17 k0_t3
  let c16_i32 : BitVec 32 := 16#32
  let v27 : BitVec 32 := Scalar.muli arg12 c16_i32
  let v178 : Index := Scalar.indexCast v27
  ![29, v178.toNat]

def k0_chk30 (v179 : IVec S16 32) : Prop :=
  (∀ a x, ((![v179] : Fin 1 → IVec S16 32) a x).toNat < S256.size a)
theorem k0_idx30_inb : ∀ (v179 : IVec S16 32) (k0_hw30 : k0_chk30 v179), ∀ a x, ((![v179] : Fin 1 → IVec S16 32) a x).toNat < S256.size a := fun v179 k0_hw30 => k0_hw30
def k0_off35 (k0_t3 : Fin k0_t3_loop.trips) : Fin 2 → Nat :=
  let c30_i32 : BitVec 32 := 30#32
  let v182 : Index := Scalar.indexCast c30_i32
  let c0_i32_15 : BitVec 32 := 0#32
  let c1_i32_17 : BitVec 32 := 1#32
  let arg12 : BitVec 32 := Scf.iv c0_i32_15 c1_i32_17 k0_t3
  let c16_i32 : BitVec 32 := 16#32
  let v27 : BitVec 32 := Scalar.muli arg12 c16_i32
  let v183 : Index := Scalar.indexCast v27
  ![30, v183.toNat]

def k0_chk31 (v184 : IVec S16 32) : Prop :=
  (∀ a x, ((![v184] : Fin 1 → IVec S16 32) a x).toNat < S256.size a)
theorem k0_idx31_inb : ∀ (v184 : IVec S16 32) (k0_hw31 : k0_chk31 v184), ∀ a x, ((![v184] : Fin 1 → IVec S16 32) a x).toNat < S256.size a := fun v184 k0_hw31 => k0_hw31
def k0_off36 (k0_t3 : Fin k0_t3_loop.trips) : Fin 2 → Nat :=
  let c31_i32 : BitVec 32 := 31#32
  let v187 : Index := Scalar.indexCast c31_i32
  let c0_i32_15 : BitVec 32 := 0#32
  let c1_i32_17 : BitVec 32 := 1#32
  let arg12 : BitVec 32 := Scf.iv c0_i32_15 c1_i32_17 k0_t3
  let c16_i32 : BitVec 32 := 16#32
  let v27 : BitVec 32 := Scalar.muli arg12 c16_i32
  let v188 : Index := Scalar.indexCast v27
  ![31, v188.toNat]

def k0_chk32 (v189 : IVec S16 32) : Prop :=
  (∀ a x, ((![v189] : Fin 1 → IVec S16 32) a x).toNat < S256.size a)
theorem k0_idx32_inb : ∀ (v189 : IVec S16 32) (k0_hw32 : k0_chk32 v189), ∀ a x, ((![v189] : Fin 1 → IVec S16 32) a x).toNat < S256.size a := fun v189 k0_hw32 => k0_hw32
def k0_off37 (k0_t3 : Fin k0_t3_loop.trips) : Fin 1 → Nat :=
  let c0_i32_15 : BitVec 32 := 0#32
  let c1_i32_17 : BitVec 32 := 1#32
  let arg12 : BitVec 32 := Scf.iv c0_i32_15 c1_i32_17 k0_t3
  let c16_i32 : BitVec 32 := 16#32
  let v27 : BitVec 32 := Scalar.muli arg12 c16_i32
  let v195 : Index := Scalar.indexCast v27
  ![v195.toNat]
def k0_cond2 (k0_t2 : Fin k0_t2_loop.trips) : BitVec 1 :=
  let c0_i32_5 : BitVec 32 := 0#32
  let c1_i32_6 : BitVec 32 := 1#32
  let arg11 : BitVec 32 := Scf.iv c0_i32_5 c1_i32_6 k0_t2
  let c2_i32_19 : BitVec 32 := 2#32
  let v17 : BitVec 32 := Scalar.muli arg11 c2_i32_19
  let c1_i32_20 : BitVec 32 := 1#32
  let v18 : BitVec 32 := Scalar.addi v17 c1_i32_20
  let c1_i32_21 : BitVec 32 := 1#32
  let v19 : BitVec 32 := Scalar.addi v18 c1_i32_21
  let c64_i32_22 : BitVec 32 := 64#32
  let v20 : BitVec 1 := Scalar.cmpi .slt v19 c64_i32_22
  let v21 : BitVec 32 := Scalar.extui v20
  let c0_i32_23 : BitVec 32 := 0#32
  let v22 : BitVec 1 := Scalar.cmpi .ne v21 c0_i32_23
  v22

def k0_off38 (i : grid0.Coords) (k0_t2 : Fin k0_t2_loop.trips) : Fin 2 → Nat :=
  let c0_i32_5 : BitVec 32 := 0#32
  let c1_i32_6 : BitVec 32 := 1#32
  let arg11 : BitVec 32 := Scf.iv c0_i32_5 c1_i32_6 k0_t2
  let c2_i32_19 : BitVec 32 := 2#32
  let v17 : BitVec 32 := Scalar.muli arg11 c2_i32_19
  let c1_i32_20 : BitVec 32 := 1#32
  let v18 : BitVec 32 := Scalar.addi v17 c1_i32_20
  let c1_i32_30 : BitVec 32 := 1#32
  let v27 : BitVec 32 := Scalar.addi v18 c1_i32_30
  let c32_i32_31 : BitVec 32 := 32#32
  let v28 : BitVec 32 := Scalar.muli v27 c32_i32_31
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  ![v28.toNat, v2.toNat]
@[reducible] def k0_t4_loop : Scf.Loop 32 :=
  let c0_i32_26 : BitVec 32 := 0#32
  let c64_i32_27 : BitVec 32 := 64#32
  let v26 : BitVec 32 := Scalar.addi c0_i32_26 c64_i32_27
  let c1_i32_28 : BitVec 32 := 1#32
  ⟨c0_i32_26, v26, c1_i32_28⟩
def k0_off39 (k0_t4 : Fin k0_t4_loop.trips) : Fin 2 → Nat :=
  let c0_i32_33 : BitVec 32 := 0#32
  let v32 : Index := Scalar.indexCast c0_i32_33
  let c0_i32_26 : BitVec 32 := 0#32
  let c1_i32_28 : BitVec 32 := 1#32
  let arg12 : BitVec 32 := Scf.iv c0_i32_26 c1_i32_28 k0_t4
  let c16_i32 : BitVec 32 := 16#32
  let v27 : BitVec 32 := Scalar.muli arg12 c16_i32
  let v33 : Index := Scalar.indexCast v27
  ![0, v33.toNat]

def k0_chk33 (v34 : IVec S16 32) : Prop :=
  (∀ a x, ((![v34] : Fin 1 → IVec S16 32) a x).toNat < S256.size a)
theorem k0_idx33_inb : ∀ (v34 : IVec S16 32) (k0_hw33 : k0_chk33 v34), ∀ a x, ((![v34] : Fin 1 → IVec S16 32) a x).toNat < S256.size a := fun v34 k0_hw33 => k0_hw33
def k0_off40 (k0_t4 : Fin k0_t4_loop.trips) : Fin 2 → Nat :=
  let c1_i32_34 : BitVec 32 := 1#32
  let v37 : Index := Scalar.indexCast c1_i32_34
  let c0_i32_26 : BitVec 32 := 0#32
  let c1_i32_28 : BitVec 32 := 1#32
  let arg12 : BitVec 32 := Scf.iv c0_i32_26 c1_i32_28 k0_t4
  let c16_i32 : BitVec 32 := 16#32
  let v27 : BitVec 32 := Scalar.muli arg12 c16_i32
  let v38 : Index := Scalar.indexCast v27
  ![1, v38.toNat]

def k0_chk34 (v39 : IVec S16 32) : Prop :=
  (∀ a x, ((![v39] : Fin 1 → IVec S16 32) a x).toNat < S256.size a)
theorem k0_idx34_inb : ∀ (v39 : IVec S16 32) (k0_hw34 : k0_chk34 v39), ∀ a x, ((![v39] : Fin 1 → IVec S16 32) a x).toNat < S256.size a := fun v39 k0_hw34 => k0_hw34
def k0_off41 (k0_t4 : Fin k0_t4_loop.trips) : Fin 2 → Nat :=
  let c2_i32_35 : BitVec 32 := 2#32
  let v42 : Index := Scalar.indexCast c2_i32_35
  let c0_i32_26 : BitVec 32 := 0#32
  let c1_i32_28 : BitVec 32 := 1#32
  let arg12 : BitVec 32 := Scf.iv c0_i32_26 c1_i32_28 k0_t4
  let c16_i32 : BitVec 32 := 16#32
  let v27 : BitVec 32 := Scalar.muli arg12 c16_i32
  let v43 : Index := Scalar.indexCast v27
  ![2, v43.toNat]

def k0_chk35 (v44 : IVec S16 32) : Prop :=
  (∀ a x, ((![v44] : Fin 1 → IVec S16 32) a x).toNat < S256.size a)
theorem k0_idx35_inb : ∀ (v44 : IVec S16 32) (k0_hw35 : k0_chk35 v44), ∀ a x, ((![v44] : Fin 1 → IVec S16 32) a x).toNat < S256.size a := fun v44 k0_hw35 => k0_hw35
def k0_off42 (k0_t4 : Fin k0_t4_loop.trips) : Fin 2 → Nat :=
  let c3_i32 : BitVec 32 := 3#32
  let v47 : Index := Scalar.indexCast c3_i32
  let c0_i32_26 : BitVec 32 := 0#32
  let c1_i32_28 : BitVec 32 := 1#32
  let arg12 : BitVec 32 := Scf.iv c0_i32_26 c1_i32_28 k0_t4
  let c16_i32 : BitVec 32 := 16#32
  let v27 : BitVec 32 := Scalar.muli arg12 c16_i32
  let v48 : Index := Scalar.indexCast v27
  ![3, v48.toNat]

def k0_chk36 (v49 : IVec S16 32) : Prop :=
  (∀ a x, ((![v49] : Fin 1 → IVec S16 32) a x).toNat < S256.size a)
theorem k0_idx36_inb : ∀ (v49 : IVec S16 32) (k0_hw36 : k0_chk36 v49), ∀ a x, ((![v49] : Fin 1 → IVec S16 32) a x).toNat < S256.size a := fun v49 k0_hw36 => k0_hw36
def k0_off43 (k0_t4 : Fin k0_t4_loop.trips) : Fin 2 → Nat :=
  let c4_i32 : BitVec 32 := 4#32
  let v52 : Index := Scalar.indexCast c4_i32
  let c0_i32_26 : BitVec 32 := 0#32
  let c1_i32_28 : BitVec 32 := 1#32
  let arg12 : BitVec 32 := Scf.iv c0_i32_26 c1_i32_28 k0_t4
  let c16_i32 : BitVec 32 := 16#32
  let v27 : BitVec 32 := Scalar.muli arg12 c16_i32
  let v53 : Index := Scalar.indexCast v27
  ![4, v53.toNat]

def k0_chk37 (v54 : IVec S16 32) : Prop :=
  (∀ a x, ((![v54] : Fin 1 → IVec S16 32) a x).toNat < S256.size a)
theorem k0_idx37_inb : ∀ (v54 : IVec S16 32) (k0_hw37 : k0_chk37 v54), ∀ a x, ((![v54] : Fin 1 → IVec S16 32) a x).toNat < S256.size a := fun v54 k0_hw37 => k0_hw37
def k0_off44 (k0_t4 : Fin k0_t4_loop.trips) : Fin 2 → Nat :=
  let c5_i32 : BitVec 32 := 5#32
  let v57 : Index := Scalar.indexCast c5_i32
  let c0_i32_26 : BitVec 32 := 0#32
  let c1_i32_28 : BitVec 32 := 1#32
  let arg12 : BitVec 32 := Scf.iv c0_i32_26 c1_i32_28 k0_t4
  let c16_i32 : BitVec 32 := 16#32
  let v27 : BitVec 32 := Scalar.muli arg12 c16_i32
  let v58 : Index := Scalar.indexCast v27
  ![5, v58.toNat]

def k0_chk38 (v59 : IVec S16 32) : Prop :=
  (∀ a x, ((![v59] : Fin 1 → IVec S16 32) a x).toNat < S256.size a)
theorem k0_idx38_inb : ∀ (v59 : IVec S16 32) (k0_hw38 : k0_chk38 v59), ∀ a x, ((![v59] : Fin 1 → IVec S16 32) a x).toNat < S256.size a := fun v59 k0_hw38 => k0_hw38
def k0_off45 (k0_t4 : Fin k0_t4_loop.trips) : Fin 2 → Nat :=
  let c6_i32 : BitVec 32 := 6#32
  let v62 : Index := Scalar.indexCast c6_i32
  let c0_i32_26 : BitVec 32 := 0#32
  let c1_i32_28 : BitVec 32 := 1#32
  let arg12 : BitVec 32 := Scf.iv c0_i32_26 c1_i32_28 k0_t4
  let c16_i32 : BitVec 32 := 16#32
  let v27 : BitVec 32 := Scalar.muli arg12 c16_i32
  let v63 : Index := Scalar.indexCast v27
  ![6, v63.toNat]

def k0_chk39 (v64 : IVec S16 32) : Prop :=
  (∀ a x, ((![v64] : Fin 1 → IVec S16 32) a x).toNat < S256.size a)
theorem k0_idx39_inb : ∀ (v64 : IVec S16 32) (k0_hw39 : k0_chk39 v64), ∀ a x, ((![v64] : Fin 1 → IVec S16 32) a x).toNat < S256.size a := fun v64 k0_hw39 => k0_hw39
def k0_off46 (k0_t4 : Fin k0_t4_loop.trips) : Fin 2 → Nat :=
  let c7_i32 : BitVec 32 := 7#32
  let v67 : Index := Scalar.indexCast c7_i32
  let c0_i32_26 : BitVec 32 := 0#32
  let c1_i32_28 : BitVec 32 := 1#32
  let arg12 : BitVec 32 := Scf.iv c0_i32_26 c1_i32_28 k0_t4
  let c16_i32 : BitVec 32 := 16#32
  let v27 : BitVec 32 := Scalar.muli arg12 c16_i32
  let v68 : Index := Scalar.indexCast v27
  ![7, v68.toNat]

def k0_chk40 (v69 : IVec S16 32) : Prop :=
  (∀ a x, ((![v69] : Fin 1 → IVec S16 32) a x).toNat < S256.size a)
theorem k0_idx40_inb : ∀ (v69 : IVec S16 32) (k0_hw40 : k0_chk40 v69), ∀ a x, ((![v69] : Fin 1 → IVec S16 32) a x).toNat < S256.size a := fun v69 k0_hw40 => k0_hw40
def k0_off47 (k0_t4 : Fin k0_t4_loop.trips) : Fin 2 → Nat :=
  let c8_i32 : BitVec 32 := 8#32
  let v72 : Index := Scalar.indexCast c8_i32
  let c0_i32_26 : BitVec 32 := 0#32
  let c1_i32_28 : BitVec 32 := 1#32
  let arg12 : BitVec 32 := Scf.iv c0_i32_26 c1_i32_28 k0_t4
  let c16_i32 : BitVec 32 := 16#32
  let v27 : BitVec 32 := Scalar.muli arg12 c16_i32
  let v73 : Index := Scalar.indexCast v27
  ![8, v73.toNat]

def k0_chk41 (v74 : IVec S16 32) : Prop :=
  (∀ a x, ((![v74] : Fin 1 → IVec S16 32) a x).toNat < S256.size a)
theorem k0_idx41_inb : ∀ (v74 : IVec S16 32) (k0_hw41 : k0_chk41 v74), ∀ a x, ((![v74] : Fin 1 → IVec S16 32) a x).toNat < S256.size a := fun v74 k0_hw41 => k0_hw41
def k0_off48 (k0_t4 : Fin k0_t4_loop.trips) : Fin 2 → Nat :=
  let c9_i32 : BitVec 32 := 9#32
  let v77 : Index := Scalar.indexCast c9_i32
  let c0_i32_26 : BitVec 32 := 0#32
  let c1_i32_28 : BitVec 32 := 1#32
  let arg12 : BitVec 32 := Scf.iv c0_i32_26 c1_i32_28 k0_t4
  let c16_i32 : BitVec 32 := 16#32
  let v27 : BitVec 32 := Scalar.muli arg12 c16_i32
  let v78 : Index := Scalar.indexCast v27
  ![9, v78.toNat]

def k0_chk42 (v79 : IVec S16 32) : Prop :=
  (∀ a x, ((![v79] : Fin 1 → IVec S16 32) a x).toNat < S256.size a)
theorem k0_idx42_inb : ∀ (v79 : IVec S16 32) (k0_hw42 : k0_chk42 v79), ∀ a x, ((![v79] : Fin 1 → IVec S16 32) a x).toNat < S256.size a := fun v79 k0_hw42 => k0_hw42
def k0_off49 (k0_t4 : Fin k0_t4_loop.trips) : Fin 2 → Nat :=
  let c10_i32 : BitVec 32 := 10#32
  let v82 : Index := Scalar.indexCast c10_i32
  let c0_i32_26 : BitVec 32 := 0#32
  let c1_i32_28 : BitVec 32 := 1#32
  let arg12 : BitVec 32 := Scf.iv c0_i32_26 c1_i32_28 k0_t4
  let c16_i32 : BitVec 32 := 16#32
  let v27 : BitVec 32 := Scalar.muli arg12 c16_i32
  let v83 : Index := Scalar.indexCast v27
  ![10, v83.toNat]

def k0_chk43 (v84 : IVec S16 32) : Prop :=
  (∀ a x, ((![v84] : Fin 1 → IVec S16 32) a x).toNat < S256.size a)
theorem k0_idx43_inb : ∀ (v84 : IVec S16 32) (k0_hw43 : k0_chk43 v84), ∀ a x, ((![v84] : Fin 1 → IVec S16 32) a x).toNat < S256.size a := fun v84 k0_hw43 => k0_hw43
def k0_off50 (k0_t4 : Fin k0_t4_loop.trips) : Fin 2 → Nat :=
  let c11_i32 : BitVec 32 := 11#32
  let v87 : Index := Scalar.indexCast c11_i32
  let c0_i32_26 : BitVec 32 := 0#32
  let c1_i32_28 : BitVec 32 := 1#32
  let arg12 : BitVec 32 := Scf.iv c0_i32_26 c1_i32_28 k0_t4
  let c16_i32 : BitVec 32 := 16#32
  let v27 : BitVec 32 := Scalar.muli arg12 c16_i32
  let v88 : Index := Scalar.indexCast v27
  ![11, v88.toNat]

def k0_chk44 (v89 : IVec S16 32) : Prop :=
  (∀ a x, ((![v89] : Fin 1 → IVec S16 32) a x).toNat < S256.size a)
theorem k0_idx44_inb : ∀ (v89 : IVec S16 32) (k0_hw44 : k0_chk44 v89), ∀ a x, ((![v89] : Fin 1 → IVec S16 32) a x).toNat < S256.size a := fun v89 k0_hw44 => k0_hw44
def k0_off51 (k0_t4 : Fin k0_t4_loop.trips) : Fin 2 → Nat :=
  let c12_i32 : BitVec 32 := 12#32
  let v92 : Index := Scalar.indexCast c12_i32
  let c0_i32_26 : BitVec 32 := 0#32
  let c1_i32_28 : BitVec 32 := 1#32
  let arg12 : BitVec 32 := Scf.iv c0_i32_26 c1_i32_28 k0_t4
  let c16_i32 : BitVec 32 := 16#32
  let v27 : BitVec 32 := Scalar.muli arg12 c16_i32
  let v93 : Index := Scalar.indexCast v27
  ![12, v93.toNat]

def k0_chk45 (v94 : IVec S16 32) : Prop :=
  (∀ a x, ((![v94] : Fin 1 → IVec S16 32) a x).toNat < S256.size a)
theorem k0_idx45_inb : ∀ (v94 : IVec S16 32) (k0_hw45 : k0_chk45 v94), ∀ a x, ((![v94] : Fin 1 → IVec S16 32) a x).toNat < S256.size a := fun v94 k0_hw45 => k0_hw45
def k0_off52 (k0_t4 : Fin k0_t4_loop.trips) : Fin 2 → Nat :=
  let c13_i32 : BitVec 32 := 13#32
  let v97 : Index := Scalar.indexCast c13_i32
  let c0_i32_26 : BitVec 32 := 0#32
  let c1_i32_28 : BitVec 32 := 1#32
  let arg12 : BitVec 32 := Scf.iv c0_i32_26 c1_i32_28 k0_t4
  let c16_i32 : BitVec 32 := 16#32
  let v27 : BitVec 32 := Scalar.muli arg12 c16_i32
  let v98 : Index := Scalar.indexCast v27
  ![13, v98.toNat]

def k0_chk46 (v99 : IVec S16 32) : Prop :=
  (∀ a x, ((![v99] : Fin 1 → IVec S16 32) a x).toNat < S256.size a)
theorem k0_idx46_inb : ∀ (v99 : IVec S16 32) (k0_hw46 : k0_chk46 v99), ∀ a x, ((![v99] : Fin 1 → IVec S16 32) a x).toNat < S256.size a := fun v99 k0_hw46 => k0_hw46
def k0_off53 (k0_t4 : Fin k0_t4_loop.trips) : Fin 2 → Nat :=
  let c14_i32 : BitVec 32 := 14#32
  let v102 : Index := Scalar.indexCast c14_i32
  let c0_i32_26 : BitVec 32 := 0#32
  let c1_i32_28 : BitVec 32 := 1#32
  let arg12 : BitVec 32 := Scf.iv c0_i32_26 c1_i32_28 k0_t4
  let c16_i32 : BitVec 32 := 16#32
  let v27 : BitVec 32 := Scalar.muli arg12 c16_i32
  let v103 : Index := Scalar.indexCast v27
  ![14, v103.toNat]

def k0_chk47 (v104 : IVec S16 32) : Prop :=
  (∀ a x, ((![v104] : Fin 1 → IVec S16 32) a x).toNat < S256.size a)
theorem k0_idx47_inb : ∀ (v104 : IVec S16 32) (k0_hw47 : k0_chk47 v104), ∀ a x, ((![v104] : Fin 1 → IVec S16 32) a x).toNat < S256.size a := fun v104 k0_hw47 => k0_hw47
def k0_off54 (k0_t4 : Fin k0_t4_loop.trips) : Fin 2 → Nat :=
  let c15_i32 : BitVec 32 := 15#32
  let v107 : Index := Scalar.indexCast c15_i32
  let c0_i32_26 : BitVec 32 := 0#32
  let c1_i32_28 : BitVec 32 := 1#32
  let arg12 : BitVec 32 := Scf.iv c0_i32_26 c1_i32_28 k0_t4
  let c16_i32 : BitVec 32 := 16#32
  let v27 : BitVec 32 := Scalar.muli arg12 c16_i32
  let v108 : Index := Scalar.indexCast v27
  ![15, v108.toNat]

def k0_chk48 (v109 : IVec S16 32) : Prop :=
  (∀ a x, ((![v109] : Fin 1 → IVec S16 32) a x).toNat < S256.size a)
theorem k0_idx48_inb : ∀ (v109 : IVec S16 32) (k0_hw48 : k0_chk48 v109), ∀ a x, ((![v109] : Fin 1 → IVec S16 32) a x).toNat < S256.size a := fun v109 k0_hw48 => k0_hw48
def k0_off55 (k0_t4 : Fin k0_t4_loop.trips) : Fin 2 → Nat :=
  let c16_i32_36 : BitVec 32 := 16#32
  let v112 : Index := Scalar.indexCast c16_i32_36
  let c0_i32_26 : BitVec 32 := 0#32
  let c1_i32_28 : BitVec 32 := 1#32
  let arg12 : BitVec 32 := Scf.iv c0_i32_26 c1_i32_28 k0_t4
  let c16_i32 : BitVec 32 := 16#32
  let v27 : BitVec 32 := Scalar.muli arg12 c16_i32
  let v113 : Index := Scalar.indexCast v27
  ![16, v113.toNat]

def k0_chk49 (v114 : IVec S16 32) : Prop :=
  (∀ a x, ((![v114] : Fin 1 → IVec S16 32) a x).toNat < S256.size a)
theorem k0_idx49_inb : ∀ (v114 : IVec S16 32) (k0_hw49 : k0_chk49 v114), ∀ a x, ((![v114] : Fin 1 → IVec S16 32) a x).toNat < S256.size a := fun v114 k0_hw49 => k0_hw49
def k0_off56 (k0_t4 : Fin k0_t4_loop.trips) : Fin 2 → Nat :=
  let c17_i32 : BitVec 32 := 17#32
  let v117 : Index := Scalar.indexCast c17_i32
  let c0_i32_26 : BitVec 32 := 0#32
  let c1_i32_28 : BitVec 32 := 1#32
  let arg12 : BitVec 32 := Scf.iv c0_i32_26 c1_i32_28 k0_t4
  let c16_i32 : BitVec 32 := 16#32
  let v27 : BitVec 32 := Scalar.muli arg12 c16_i32
  let v118 : Index := Scalar.indexCast v27
  ![17, v118.toNat]

def k0_chk50 (v119 : IVec S16 32) : Prop :=
  (∀ a x, ((![v119] : Fin 1 → IVec S16 32) a x).toNat < S256.size a)
theorem k0_idx50_inb : ∀ (v119 : IVec S16 32) (k0_hw50 : k0_chk50 v119), ∀ a x, ((![v119] : Fin 1 → IVec S16 32) a x).toNat < S256.size a := fun v119 k0_hw50 => k0_hw50
def k0_off57 (k0_t4 : Fin k0_t4_loop.trips) : Fin 2 → Nat :=
  let c18_i32 : BitVec 32 := 18#32
  let v122 : Index := Scalar.indexCast c18_i32
  let c0_i32_26 : BitVec 32 := 0#32
  let c1_i32_28 : BitVec 32 := 1#32
  let arg12 : BitVec 32 := Scf.iv c0_i32_26 c1_i32_28 k0_t4
  let c16_i32 : BitVec 32 := 16#32
  let v27 : BitVec 32 := Scalar.muli arg12 c16_i32
  let v123 : Index := Scalar.indexCast v27
  ![18, v123.toNat]

def k0_chk51 (v124 : IVec S16 32) : Prop :=
  (∀ a x, ((![v124] : Fin 1 → IVec S16 32) a x).toNat < S256.size a)
theorem k0_idx51_inb : ∀ (v124 : IVec S16 32) (k0_hw51 : k0_chk51 v124), ∀ a x, ((![v124] : Fin 1 → IVec S16 32) a x).toNat < S256.size a := fun v124 k0_hw51 => k0_hw51
def k0_off58 (k0_t4 : Fin k0_t4_loop.trips) : Fin 2 → Nat :=
  let c19_i32 : BitVec 32 := 19#32
  let v127 : Index := Scalar.indexCast c19_i32
  let c0_i32_26 : BitVec 32 := 0#32
  let c1_i32_28 : BitVec 32 := 1#32
  let arg12 : BitVec 32 := Scf.iv c0_i32_26 c1_i32_28 k0_t4
  let c16_i32 : BitVec 32 := 16#32
  let v27 : BitVec 32 := Scalar.muli arg12 c16_i32
  let v128 : Index := Scalar.indexCast v27
  ![19, v128.toNat]

def k0_chk52 (v129 : IVec S16 32) : Prop :=
  (∀ a x, ((![v129] : Fin 1 → IVec S16 32) a x).toNat < S256.size a)
theorem k0_idx52_inb : ∀ (v129 : IVec S16 32) (k0_hw52 : k0_chk52 v129), ∀ a x, ((![v129] : Fin 1 → IVec S16 32) a x).toNat < S256.size a := fun v129 k0_hw52 => k0_hw52
def k0_off59 (k0_t4 : Fin k0_t4_loop.trips) : Fin 2 → Nat :=
  let c20_i32 : BitVec 32 := 20#32
  let v132 : Index := Scalar.indexCast c20_i32
  let c0_i32_26 : BitVec 32 := 0#32
  let c1_i32_28 : BitVec 32 := 1#32
  let arg12 : BitVec 32 := Scf.iv c0_i32_26 c1_i32_28 k0_t4
  let c16_i32 : BitVec 32 := 16#32
  let v27 : BitVec 32 := Scalar.muli arg12 c16_i32
  let v133 : Index := Scalar.indexCast v27
  ![20, v133.toNat]

def k0_chk53 (v134 : IVec S16 32) : Prop :=
  (∀ a x, ((![v134] : Fin 1 → IVec S16 32) a x).toNat < S256.size a)
theorem k0_idx53_inb : ∀ (v134 : IVec S16 32) (k0_hw53 : k0_chk53 v134), ∀ a x, ((![v134] : Fin 1 → IVec S16 32) a x).toNat < S256.size a := fun v134 k0_hw53 => k0_hw53
def k0_off60 (k0_t4 : Fin k0_t4_loop.trips) : Fin 2 → Nat :=
  let c21_i32 : BitVec 32 := 21#32
  let v137 : Index := Scalar.indexCast c21_i32
  let c0_i32_26 : BitVec 32 := 0#32
  let c1_i32_28 : BitVec 32 := 1#32
  let arg12 : BitVec 32 := Scf.iv c0_i32_26 c1_i32_28 k0_t4
  let c16_i32 : BitVec 32 := 16#32
  let v27 : BitVec 32 := Scalar.muli arg12 c16_i32
  let v138 : Index := Scalar.indexCast v27
  ![21, v138.toNat]

def k0_chk54 (v139 : IVec S16 32) : Prop :=
  (∀ a x, ((![v139] : Fin 1 → IVec S16 32) a x).toNat < S256.size a)
theorem k0_idx54_inb : ∀ (v139 : IVec S16 32) (k0_hw54 : k0_chk54 v139), ∀ a x, ((![v139] : Fin 1 → IVec S16 32) a x).toNat < S256.size a := fun v139 k0_hw54 => k0_hw54
def k0_off61 (k0_t4 : Fin k0_t4_loop.trips) : Fin 2 → Nat :=
  let c22_i32 : BitVec 32 := 22#32
  let v142 : Index := Scalar.indexCast c22_i32
  let c0_i32_26 : BitVec 32 := 0#32
  let c1_i32_28 : BitVec 32 := 1#32
  let arg12 : BitVec 32 := Scf.iv c0_i32_26 c1_i32_28 k0_t4
  let c16_i32 : BitVec 32 := 16#32
  let v27 : BitVec 32 := Scalar.muli arg12 c16_i32
  let v143 : Index := Scalar.indexCast v27
  ![22, v143.toNat]

def k0_chk55 (v144 : IVec S16 32) : Prop :=
  (∀ a x, ((![v144] : Fin 1 → IVec S16 32) a x).toNat < S256.size a)
theorem k0_idx55_inb : ∀ (v144 : IVec S16 32) (k0_hw55 : k0_chk55 v144), ∀ a x, ((![v144] : Fin 1 → IVec S16 32) a x).toNat < S256.size a := fun v144 k0_hw55 => k0_hw55
def k0_off62 (k0_t4 : Fin k0_t4_loop.trips) : Fin 2 → Nat :=
  let c23_i32 : BitVec 32 := 23#32
  let v147 : Index := Scalar.indexCast c23_i32
  let c0_i32_26 : BitVec 32 := 0#32
  let c1_i32_28 : BitVec 32 := 1#32
  let arg12 : BitVec 32 := Scf.iv c0_i32_26 c1_i32_28 k0_t4
  let c16_i32 : BitVec 32 := 16#32
  let v27 : BitVec 32 := Scalar.muli arg12 c16_i32
  let v148 : Index := Scalar.indexCast v27
  ![23, v148.toNat]

def k0_chk56 (v149 : IVec S16 32) : Prop :=
  (∀ a x, ((![v149] : Fin 1 → IVec S16 32) a x).toNat < S256.size a)
theorem k0_idx56_inb : ∀ (v149 : IVec S16 32) (k0_hw56 : k0_chk56 v149), ∀ a x, ((![v149] : Fin 1 → IVec S16 32) a x).toNat < S256.size a := fun v149 k0_hw56 => k0_hw56
def k0_off63 (k0_t4 : Fin k0_t4_loop.trips) : Fin 2 → Nat :=
  let c24_i32 : BitVec 32 := 24#32
  let v152 : Index := Scalar.indexCast c24_i32
  let c0_i32_26 : BitVec 32 := 0#32
  let c1_i32_28 : BitVec 32 := 1#32
  let arg12 : BitVec 32 := Scf.iv c0_i32_26 c1_i32_28 k0_t4
  let c16_i32 : BitVec 32 := 16#32
  let v27 : BitVec 32 := Scalar.muli arg12 c16_i32
  let v153 : Index := Scalar.indexCast v27
  ![24, v153.toNat]

def k0_chk57 (v154 : IVec S16 32) : Prop :=
  (∀ a x, ((![v154] : Fin 1 → IVec S16 32) a x).toNat < S256.size a)
theorem k0_idx57_inb : ∀ (v154 : IVec S16 32) (k0_hw57 : k0_chk57 v154), ∀ a x, ((![v154] : Fin 1 → IVec S16 32) a x).toNat < S256.size a := fun v154 k0_hw57 => k0_hw57
def k0_off64 (k0_t4 : Fin k0_t4_loop.trips) : Fin 2 → Nat :=
  let c25_i32 : BitVec 32 := 25#32
  let v157 : Index := Scalar.indexCast c25_i32
  let c0_i32_26 : BitVec 32 := 0#32
  let c1_i32_28 : BitVec 32 := 1#32
  let arg12 : BitVec 32 := Scf.iv c0_i32_26 c1_i32_28 k0_t4
  let c16_i32 : BitVec 32 := 16#32
  let v27 : BitVec 32 := Scalar.muli arg12 c16_i32
  let v158 : Index := Scalar.indexCast v27
  ![25, v158.toNat]

def k0_chk58 (v159 : IVec S16 32) : Prop :=
  (∀ a x, ((![v159] : Fin 1 → IVec S16 32) a x).toNat < S256.size a)
theorem k0_idx58_inb : ∀ (v159 : IVec S16 32) (k0_hw58 : k0_chk58 v159), ∀ a x, ((![v159] : Fin 1 → IVec S16 32) a x).toNat < S256.size a := fun v159 k0_hw58 => k0_hw58
def k0_off65 (k0_t4 : Fin k0_t4_loop.trips) : Fin 2 → Nat :=
  let c26_i32 : BitVec 32 := 26#32
  let v162 : Index := Scalar.indexCast c26_i32
  let c0_i32_26 : BitVec 32 := 0#32
  let c1_i32_28 : BitVec 32 := 1#32
  let arg12 : BitVec 32 := Scf.iv c0_i32_26 c1_i32_28 k0_t4
  let c16_i32 : BitVec 32 := 16#32
  let v27 : BitVec 32 := Scalar.muli arg12 c16_i32
  let v163 : Index := Scalar.indexCast v27
  ![26, v163.toNat]

def k0_chk59 (v164 : IVec S16 32) : Prop :=
  (∀ a x, ((![v164] : Fin 1 → IVec S16 32) a x).toNat < S256.size a)
theorem k0_idx59_inb : ∀ (v164 : IVec S16 32) (k0_hw59 : k0_chk59 v164), ∀ a x, ((![v164] : Fin 1 → IVec S16 32) a x).toNat < S256.size a := fun v164 k0_hw59 => k0_hw59
def k0_off66 (k0_t4 : Fin k0_t4_loop.trips) : Fin 2 → Nat :=
  let c27_i32 : BitVec 32 := 27#32
  let v167 : Index := Scalar.indexCast c27_i32
  let c0_i32_26 : BitVec 32 := 0#32
  let c1_i32_28 : BitVec 32 := 1#32
  let arg12 : BitVec 32 := Scf.iv c0_i32_26 c1_i32_28 k0_t4
  let c16_i32 : BitVec 32 := 16#32
  let v27 : BitVec 32 := Scalar.muli arg12 c16_i32
  let v168 : Index := Scalar.indexCast v27
  ![27, v168.toNat]

def k0_chk60 (v169 : IVec S16 32) : Prop :=
  (∀ a x, ((![v169] : Fin 1 → IVec S16 32) a x).toNat < S256.size a)
theorem k0_idx60_inb : ∀ (v169 : IVec S16 32) (k0_hw60 : k0_chk60 v169), ∀ a x, ((![v169] : Fin 1 → IVec S16 32) a x).toNat < S256.size a := fun v169 k0_hw60 => k0_hw60
def k0_off67 (k0_t4 : Fin k0_t4_loop.trips) : Fin 2 → Nat :=
  let c28_i32 : BitVec 32 := 28#32
  let v172 : Index := Scalar.indexCast c28_i32
  let c0_i32_26 : BitVec 32 := 0#32
  let c1_i32_28 : BitVec 32 := 1#32
  let arg12 : BitVec 32 := Scf.iv c0_i32_26 c1_i32_28 k0_t4
  let c16_i32 : BitVec 32 := 16#32
  let v27 : BitVec 32 := Scalar.muli arg12 c16_i32
  let v173 : Index := Scalar.indexCast v27
  ![28, v173.toNat]

def k0_chk61 (v174 : IVec S16 32) : Prop :=
  (∀ a x, ((![v174] : Fin 1 → IVec S16 32) a x).toNat < S256.size a)
theorem k0_idx61_inb : ∀ (v174 : IVec S16 32) (k0_hw61 : k0_chk61 v174), ∀ a x, ((![v174] : Fin 1 → IVec S16 32) a x).toNat < S256.size a := fun v174 k0_hw61 => k0_hw61
def k0_off68 (k0_t4 : Fin k0_t4_loop.trips) : Fin 2 → Nat :=
  let c29_i32 : BitVec 32 := 29#32
  let v177 : Index := Scalar.indexCast c29_i32
  let c0_i32_26 : BitVec 32 := 0#32
  let c1_i32_28 : BitVec 32 := 1#32
  let arg12 : BitVec 32 := Scf.iv c0_i32_26 c1_i32_28 k0_t4
  let c16_i32 : BitVec 32 := 16#32
  let v27 : BitVec 32 := Scalar.muli arg12 c16_i32
  let v178 : Index := Scalar.indexCast v27
  ![29, v178.toNat]

def k0_chk62 (v179 : IVec S16 32) : Prop :=
  (∀ a x, ((![v179] : Fin 1 → IVec S16 32) a x).toNat < S256.size a)
theorem k0_idx62_inb : ∀ (v179 : IVec S16 32) (k0_hw62 : k0_chk62 v179), ∀ a x, ((![v179] : Fin 1 → IVec S16 32) a x).toNat < S256.size a := fun v179 k0_hw62 => k0_hw62
def k0_off69 (k0_t4 : Fin k0_t4_loop.trips) : Fin 2 → Nat :=
  let c30_i32 : BitVec 32 := 30#32
  let v182 : Index := Scalar.indexCast c30_i32
  let c0_i32_26 : BitVec 32 := 0#32
  let c1_i32_28 : BitVec 32 := 1#32
  let arg12 : BitVec 32 := Scf.iv c0_i32_26 c1_i32_28 k0_t4
  let c16_i32 : BitVec 32 := 16#32
  let v27 : BitVec 32 := Scalar.muli arg12 c16_i32
  let v183 : Index := Scalar.indexCast v27
  ![30, v183.toNat]

def k0_chk63 (v184 : IVec S16 32) : Prop :=
  (∀ a x, ((![v184] : Fin 1 → IVec S16 32) a x).toNat < S256.size a)
theorem k0_idx63_inb : ∀ (v184 : IVec S16 32) (k0_hw63 : k0_chk63 v184), ∀ a x, ((![v184] : Fin 1 → IVec S16 32) a x).toNat < S256.size a := fun v184 k0_hw63 => k0_hw63
def k0_off70 (k0_t4 : Fin k0_t4_loop.trips) : Fin 2 → Nat :=
  let c31_i32 : BitVec 32 := 31#32
  let v187 : Index := Scalar.indexCast c31_i32
  let c0_i32_26 : BitVec 32 := 0#32
  let c1_i32_28 : BitVec 32 := 1#32
  let arg12 : BitVec 32 := Scf.iv c0_i32_26 c1_i32_28 k0_t4
  let c16_i32 : BitVec 32 := 16#32
  let v27 : BitVec 32 := Scalar.muli arg12 c16_i32
  let v188 : Index := Scalar.indexCast v27
  ![31, v188.toNat]

def k0_chk64 (v189 : IVec S16 32) : Prop :=
  (∀ a x, ((![v189] : Fin 1 → IVec S16 32) a x).toNat < S256.size a)
theorem k0_idx64_inb : ∀ (v189 : IVec S16 32) (k0_hw64 : k0_chk64 v189), ∀ a x, ((![v189] : Fin 1 → IVec S16 32) a x).toNat < S256.size a := fun v189 k0_hw64 => k0_hw64
def k0_off71 (k0_t4 : Fin k0_t4_loop.trips) : Fin 1 → Nat :=
  let c0_i32_26 : BitVec 32 := 0#32
  let c1_i32_28 : BitVec 32 := 1#32
  let arg12 : BitVec 32 := Scf.iv c0_i32_26 c1_i32_28 k0_t4
  let c16_i32 : BitVec 32 := 16#32
  let v27 : BitVec 32 := Scalar.muli arg12 c16_i32
  let v195 : Index := Scalar.indexCast v27
  ![v195.toNat]
def k0_off72 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  ![v2.toNat]
abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  ![v2.toNat]
def k1_off2 (i : grid1.Coords) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  ![0, v2.toNat]
@[reducible] def k1_t1_loop : Scf.Loop 32 :=
  let c0_i32_2 : BitVec 32 := 0#32
  let c32_i32 : BitVec 32 := 32#32
  let v5 : BitVec 32 := Scalar.addi c0_i32_2 c32_i32
  let c1_i32 : BitVec 32 := 1#32
  ⟨c0_i32_2, v5, c1_i32⟩
def k1_cond1 (k1_t1 : Fin k1_t1_loop.trips) : BitVec 1 :=
  let c0_i32_2 : BitVec 32 := 0#32
  let c1_i32 : BitVec 32 := 1#32
  let arg16 : BitVec 32 := Scf.iv c0_i32_2 c1_i32 k1_t1
  let c2_i32_6 : BitVec 32 := 2#32
  let v10 : BitVec 32 := Scalar.muli arg16 c2_i32_6
  let c0_i32_7 : BitVec 32 := 0#32
  let v11 : BitVec 32 := Scalar.addi v10 c0_i32_7
  let c1_i32_8 : BitVec 32 := 1#32
  let v12 : BitVec 32 := Scalar.addi v11 c1_i32_8
  let c64_i32 : BitVec 32 := 64#32
  let v13 : BitVec 1 := Scalar.cmpi .slt v12 c64_i32
  let v14 : BitVec 32 := Scalar.extui v13
  let c0_i32_9 : BitVec 32 := 0#32
  let v15 : BitVec 1 := Scalar.cmpi .ne v14 c0_i32_9
  v15

def k1_off3 (i : grid1.Coords) (k1_t1 : Fin k1_t1_loop.trips) : Fin 2 → Nat :=
  let c0_i32_2 : BitVec 32 := 0#32
  let c1_i32 : BitVec 32 := 1#32
  let arg16 : BitVec 32 := Scf.iv c0_i32_2 c1_i32 k1_t1
  let c2_i32_6 : BitVec 32 := 2#32
  let v10 : BitVec 32 := Scalar.muli arg16 c2_i32_6
  let c0_i32_7 : BitVec 32 := 0#32
  let v11 : BitVec 32 := Scalar.addi v10 c0_i32_7
  let c1_i32_32 : BitVec 32 := 1#32
  let v42 : BitVec 32 := Scalar.addi v11 c1_i32_32
  let c32_i32_33 : BitVec 32 := 32#32
  let v43 : BitVec 32 := Scalar.muli v42 c32_i32_33
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  ![v43.toNat, v2.toNat]
def k1_off4 (i : grid1.Coords) (k1_t1 : Fin k1_t1_loop.trips) (c0_i32_7 : BitVec 32) : Fin 2 → Nat :=
  let c0_i32_2 : BitVec 32 := 0#32
  let c1_i32 : BitVec 32 := 1#32
  let arg16 : BitVec 32 := Scf.iv c0_i32_2 c1_i32 k1_t1
  let c2_i32_6 : BitVec 32 := 2#32
  let v10 : BitVec 32 := Scalar.muli arg16 c2_i32_6
  let v11 : BitVec 32 := Scalar.addi v10 c0_i32_7
  let c32_i32_10 : BitVec 32 := 32#32
  let v16 : BitVec 32 := Scalar.muli v11 c32_i32_10
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  ![v16.toNat, v2.toNat]
def k1_cond2 (k1_t1 : Fin k1_t1_loop.trips) : BitVec 1 :=
  let c0_i32_2 : BitVec 32 := 0#32
  let c1_i32 : BitVec 32 := 1#32
  let arg16 : BitVec 32 := Scf.iv c0_i32_2 c1_i32 k1_t1
  let c2_i32_6 : BitVec 32 := 2#32
  let v10 : BitVec 32 := Scalar.muli arg16 c2_i32_6
  let c0_i32_7 : BitVec 32 := 0#32
  let v11 : BitVec 32 := Scalar.addi v10 c0_i32_7
  let c2_i32_11 : BitVec 32 := 2#32
  let v19 : BitVec 1 := Scalar.cmpi .sge v11 c2_i32_11
  let v20 : BitVec 32 := Scalar.extui v19
  let c0_i32_12 : BitVec 32 := 0#32
  let v21 : BitVec 1 := Scalar.cmpi .ne v20 c0_i32_12
  v21

def k1_off5 (i : grid1.Coords) (k1_t1 : Fin k1_t1_loop.trips) : Fin 2 → Nat :=
  let c0_i32_2 : BitVec 32 := 0#32
  let c1_i32 : BitVec 32 := 1#32
  let arg16 : BitVec 32 := Scf.iv c0_i32_2 c1_i32 k1_t1
  let c2_i32_6 : BitVec 32 := 2#32
  let v10 : BitVec 32 := Scalar.muli arg16 c2_i32_6
  let c0_i32_7 : BitVec 32 := 0#32
  let v11 : BitVec 32 := Scalar.addi v10 c0_i32_7
  let c2_i32_32 : BitVec 32 := 2#32
  let v42 : BitVec 32 := Scalar.subi v11 c2_i32_32
  let c8_i32_33 : BitVec 32 := 8#32
  let v43 : BitVec 32 := Scalar.muli v42 c8_i32_33
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  ![v43.toNat, v2.toNat]
@[reducible] def k1_t2_loop : Scf.Loop 32 :=
  let c0_i32_14 : BitVec 32 := 0#32
  let c64_i32_15 : BitVec 32 := 64#32
  let v22 : BitVec 32 := Scalar.addi c0_i32_14 c64_i32_15
  let c1_i32_16 : BitVec 32 := 1#32
  ⟨c0_i32_14, v22, c1_i32_16⟩
def k1_off6 (k1_t2 : Fin k1_t2_loop.trips) : Fin 1 → Nat :=
  let c0_i32_14 : BitVec 32 := 0#32
  let c1_i32_16 : BitVec 32 := 1#32
  let arg17 : BitVec 32 := Scf.iv c0_i32_14 c1_i32_16 k1_t2
  let c16_i32 : BitVec 32 := 16#32
  let v42 : BitVec 32 := Scalar.muli arg17 c16_i32
  let v43 : Index := Scalar.indexCast v42
  ![v43.toNat]
@[reducible] def k1_t3_loop : Scf.Loop 32 :=
  let c0_i32_33 : BitVec 32 := 0#32
  let c8_i32_34 : BitVec 32 := 8#32
  let v45 : BitVec 32 := Scalar.addi c0_i32_33 c8_i32_34
  let c1_i32_35 : BitVec 32 := 1#32
  ⟨c0_i32_33, v45, c1_i32_35⟩
def k1_off7 (k1_t2 : Fin k1_t2_loop.trips) (k1_t3 : Fin k1_t3_loop.trips) : Fin 2 → Nat :=
  let c0_i32_33 : BitVec 32 := 0#32
  let c1_i32_35 : BitVec 32 := 1#32
  let arg18 : BitVec 32 := Scf.iv c0_i32_33 c1_i32_35 k1_t3
  let c4_i32 : BitVec 32 := 4#32
  let v47 : BitVec 32 := Scalar.muli arg18 c4_i32
  let c0_i32_38 : BitVec 32 := 0#32
  let v48 : BitVec 32 := Scalar.addi v47 c0_i32_38
  let v49 : Index := Scalar.indexCast v48
  let c0_i32_14 : BitVec 32 := 0#32
  let c1_i32_16 : BitVec 32 := 1#32
  let arg17 : BitVec 32 := Scf.iv c0_i32_14 c1_i32_16 k1_t2
  let c16_i32 : BitVec 32 := 16#32
  let v42 : BitVec 32 := Scalar.muli arg17 c16_i32
  let v50 : Index := Scalar.indexCast v42
  ![v49.toNat, v50.toNat]

def k1_chk1 (v51 : IVec S16 32) : Prop :=
  (∀ a x, ((![v51] : Fin 1 → IVec S16 32) a x).toNat < S256.size a)
theorem k1_idx1_inb : ∀ (v51 : IVec S16 32) (k1_hw1 : k1_chk1 v51), ∀ a x, ((![v51] : Fin 1 → IVec S16 32) a x).toNat < S256.size a := fun v51 k1_hw1 => k1_hw1
def k1_off8 (k1_t2 : Fin k1_t2_loop.trips) (k1_t3 : Fin k1_t3_loop.trips) : Fin 2 → Nat :=
  let c0_i32_33 : BitVec 32 := 0#32
  let c1_i32_35 : BitVec 32 := 1#32
  let arg18 : BitVec 32 := Scf.iv c0_i32_33 c1_i32_35 k1_t3
  let c4_i32_40 : BitVec 32 := 4#32
  let v60 : BitVec 32 := Scalar.muli arg18 c4_i32_40
  let c1_i32_41 : BitVec 32 := 1#32
  let v61 : BitVec 32 := Scalar.addi v60 c1_i32_41
  let v62 : Index := Scalar.indexCast v61
  let c0_i32_14 : BitVec 32 := 0#32
  let c1_i32_16 : BitVec 32 := 1#32
  let arg17 : BitVec 32 := Scf.iv c0_i32_14 c1_i32_16 k1_t2
  let c16_i32 : BitVec 32 := 16#32
  let v42 : BitVec 32 := Scalar.muli arg17 c16_i32
  let v63 : Index := Scalar.indexCast v42
  ![v62.toNat, v63.toNat]

def k1_chk2 (v64 : IVec S16 32) : Prop :=
  (∀ a x, ((![v64] : Fin 1 → IVec S16 32) a x).toNat < S256.size a)
theorem k1_idx2_inb : ∀ (v64 : IVec S16 32) (k1_hw2 : k1_chk2 v64), ∀ a x, ((![v64] : Fin 1 → IVec S16 32) a x).toNat < S256.size a := fun v64 k1_hw2 => k1_hw2
def k1_off9 (k1_t2 : Fin k1_t2_loop.trips) (k1_t3 : Fin k1_t3_loop.trips) : Fin 2 → Nat :=
  let c0_i32_33 : BitVec 32 := 0#32
  let c1_i32_35 : BitVec 32 := 1#32
  let arg18 : BitVec 32 := Scf.iv c0_i32_33 c1_i32_35 k1_t3
  let c4_i32_44 : BitVec 32 := 4#32
  let v73 : BitVec 32 := Scalar.muli arg18 c4_i32_44
  let c2_i32_45 : BitVec 32 := 2#32
  let v74 : BitVec 32 := Scalar.addi v73 c2_i32_45
  let v75 : Index := Scalar.indexCast v74
  let c0_i32_14 : BitVec 32 := 0#32
  let c1_i32_16 : BitVec 32 := 1#32
  let arg17 : BitVec 32 := Scf.iv c0_i32_14 c1_i32_16 k1_t2
  let c16_i32 : BitVec 32 := 16#32
  let v42 : BitVec 32 := Scalar.muli arg17 c16_i32
  let v76 : Index := Scalar.indexCast v42
  ![v75.toNat, v76.toNat]

def k1_chk3 (v77 : IVec S16 32) : Prop :=
  (∀ a x, ((![v77] : Fin 1 → IVec S16 32) a x).toNat < S256.size a)
theorem k1_idx3_inb : ∀ (v77 : IVec S16 32) (k1_hw3 : k1_chk3 v77), ∀ a x, ((![v77] : Fin 1 → IVec S16 32) a x).toNat < S256.size a := fun v77 k1_hw3 => k1_hw3
def k1_off10 (k1_t2 : Fin k1_t2_loop.trips) (k1_t3 : Fin k1_t3_loop.trips) : Fin 2 → Nat :=
  let c0_i32_33 : BitVec 32 := 0#32
  let c1_i32_35 : BitVec 32 := 1#32
  let arg18 : BitVec 32 := Scf.iv c0_i32_33 c1_i32_35 k1_t3
  let c4_i32_48 : BitVec 32 := 4#32
  let v86 : BitVec 32 := Scalar.muli arg18 c4_i32_48
  let c3_i32 : BitVec 32 := 3#32
  let v87 : BitVec 32 := Scalar.addi v86 c3_i32
  let v88 : Index := Scalar.indexCast v87
  let c0_i32_14 : BitVec 32 := 0#32
  let c1_i32_16 : BitVec 32 := 1#32
  let arg17 : BitVec 32 := Scf.iv c0_i32_14 c1_i32_16 k1_t2
  let c16_i32 : BitVec 32 := 16#32
  let v42 : BitVec 32 := Scalar.muli arg17 c16_i32
  let v89 : Index := Scalar.indexCast v42
  ![v88.toNat, v89.toNat]

def k1_chk4 (v90 : IVec S16 32) : Prop :=
  (∀ a x, ((![v90] : Fin 1 → IVec S16 32) a x).toNat < S256.size a)
theorem k1_idx4_inb : ∀ (v90 : IVec S16 32) (k1_hw4 : k1_chk4 v90), ∀ a x, ((![v90] : Fin 1 → IVec S16 32) a x).toNat < S256.size a := fun v90 k1_hw4 => k1_hw4
def k1_off11 (k1_t2 : Fin k1_t2_loop.trips) (k1_t3 : Fin k1_t3_loop.trips) : Fin 2 → Nat :=
  let c0_i32_33 : BitVec 32 := 0#32
  let c1_i32_35 : BitVec 32 := 1#32
  let arg18 : BitVec 32 := Scf.iv c0_i32_33 c1_i32_35 k1_t3
  let v99 : Index := Scalar.indexCast arg18
  let c0_i32_14 : BitVec 32 := 0#32
  let c1_i32_16 : BitVec 32 := 1#32
  let arg17 : BitVec 32 := Scf.iv c0_i32_14 c1_i32_16 k1_t2
  let c16_i32 : BitVec 32 := 16#32
  let v42 : BitVec 32 := Scalar.muli arg17 c16_i32
  let v100 : Index := Scalar.indexCast v42
  ![v99.toNat, v100.toNat]
def k1_off12 (i : grid1.Coords) (k1_t1 : Fin k1_t1_loop.trips) (c0_i32_7 : BitVec 32) : Fin 2 → Nat :=
  let c0_i32_2 : BitVec 32 := 0#32
  let c1_i32 : BitVec 32 := 1#32
  let arg16 : BitVec 32 := Scf.iv c0_i32_2 c1_i32 k1_t1
  let c2_i32_6 : BitVec 32 := 2#32
  let v10 : BitVec 32 := Scalar.muli arg16 c2_i32_6
  let v11 : BitVec 32 := Scalar.addi v10 c0_i32_7
  let c8_i32 : BitVec 32 := 8#32
  let v23 : BitVec 32 := Scalar.muli v11 c8_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  ![v23.toNat, v2.toNat]
def k1_cond3 (k1_t1 : Fin k1_t1_loop.trips) : BitVec 1 :=
  let c0_i32_2 : BitVec 32 := 0#32
  let c1_i32 : BitVec 32 := 1#32
  let arg16 : BitVec 32 := Scf.iv c0_i32_2 c1_i32 k1_t1
  let c2_i32_18 : BitVec 32 := 2#32
  let v26 : BitVec 32 := Scalar.muli arg16 c2_i32_18
  let c1_i32_19 : BitVec 32 := 1#32
  let v27 : BitVec 32 := Scalar.addi v26 c1_i32_19
  let c1_i32_20 : BitVec 32 := 1#32
  let v28 : BitVec 32 := Scalar.addi v27 c1_i32_20
  let c64_i32_21 : BitVec 32 := 64#32
  let v29 : BitVec 1 := Scalar.cmpi .slt v28 c64_i32_21
  let v30 : BitVec 32 := Scalar.extui v29
  let c0_i32_22 : BitVec 32 := 0#32
  let v31 : BitVec 1 := Scalar.cmpi .ne v30 c0_i32_22
  v31

def k1_off13 (i : grid1.Coords) (k1_t1 : Fin k1_t1_loop.trips) : Fin 2 → Nat :=
  let c0_i32_2 : BitVec 32 := 0#32
  let c1_i32 : BitVec 32 := 1#32
  let arg16 : BitVec 32 := Scf.iv c0_i32_2 c1_i32 k1_t1
  let c2_i32_18 : BitVec 32 := 2#32
  let v26 : BitVec 32 := Scalar.muli arg16 c2_i32_18
  let c1_i32_19 : BitVec 32 := 1#32
  let v27 : BitVec 32 := Scalar.addi v26 c1_i32_19
  let c1_i32_32 : BitVec 32 := 1#32
  let v42 : BitVec 32 := Scalar.addi v27 c1_i32_32
  let c32_i32_33 : BitVec 32 := 32#32
  let v43 : BitVec 32 := Scalar.muli v42 c32_i32_33
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  ![v43.toNat, v2.toNat]
def k1_cond4 (k1_t1 : Fin k1_t1_loop.trips) : BitVec 1 :=
  let c0_i32_2 : BitVec 32 := 0#32
  let c1_i32 : BitVec 32 := 1#32
  let arg16 : BitVec 32 := Scf.iv c0_i32_2 c1_i32 k1_t1
  let c2_i32_18 : BitVec 32 := 2#32
  let v26 : BitVec 32 := Scalar.muli arg16 c2_i32_18
  let c1_i32_19 : BitVec 32 := 1#32
  let v27 : BitVec 32 := Scalar.addi v26 c1_i32_19
  let c2_i32_24 : BitVec 32 := 2#32
  let v35 : BitVec 1 := Scalar.cmpi .sge v27 c2_i32_24
  let v36 : BitVec 32 := Scalar.extui v35
  let c0_i32_25 : BitVec 32 := 0#32
  let v37 : BitVec 1 := Scalar.cmpi .ne v36 c0_i32_25
  v37

def k1_off14 (i : grid1.Coords) (k1_t1 : Fin k1_t1_loop.trips) : Fin 2 → Nat :=
  let c0_i32_2 : BitVec 32 := 0#32
  let c1_i32 : BitVec 32 := 1#32
  let arg16 : BitVec 32 := Scf.iv c0_i32_2 c1_i32 k1_t1
  let c2_i32_18 : BitVec 32 := 2#32
  let v26 : BitVec 32 := Scalar.muli arg16 c2_i32_18
  let c1_i32_19 : BitVec 32 := 1#32
  let v27 : BitVec 32 := Scalar.addi v26 c1_i32_19
  let c2_i32_32 : BitVec 32 := 2#32
  let v42 : BitVec 32 := Scalar.subi v27 c2_i32_32
  let c8_i32_33 : BitVec 32 := 8#32
  let v43 : BitVec 32 := Scalar.muli v42 c8_i32_33
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  ![v43.toNat, v2.toNat]
@[reducible] def k1_t4_loop : Scf.Loop 32 :=
  let c0_i32_27 : BitVec 32 := 0#32
  let c64_i32_28 : BitVec 32 := 64#32
  let v38 : BitVec 32 := Scalar.addi c0_i32_27 c64_i32_28
  let c1_i32_29 : BitVec 32 := 1#32
  ⟨c0_i32_27, v38, c1_i32_29⟩
def k1_off15 (k1_t4 : Fin k1_t4_loop.trips) : Fin 1 → Nat :=
  let c0_i32_27 : BitVec 32 := 0#32
  let c1_i32_29 : BitVec 32 := 1#32
  let arg17 : BitVec 32 := Scf.iv c0_i32_27 c1_i32_29 k1_t4
  let c16_i32 : BitVec 32 := 16#32
  let v42 : BitVec 32 := Scalar.muli arg17 c16_i32
  let v43 : Index := Scalar.indexCast v42
  ![v43.toNat]
@[reducible] def k1_t5_loop : Scf.Loop 32 :=
  let c0_i32_33 : BitVec 32 := 0#32
  let c8_i32_34 : BitVec 32 := 8#32
  let v45 : BitVec 32 := Scalar.addi c0_i32_33 c8_i32_34
  let c1_i32_35 : BitVec 32 := 1#32
  ⟨c0_i32_33, v45, c1_i32_35⟩
def k1_off16 (k1_t4 : Fin k1_t4_loop.trips) (k1_t5 : Fin k1_t5_loop.trips) : Fin 2 → Nat :=
  let c0_i32_33 : BitVec 32 := 0#32
  let c1_i32_35 : BitVec 32 := 1#32
  let arg18 : BitVec 32 := Scf.iv c0_i32_33 c1_i32_35 k1_t5
  let c4_i32 : BitVec 32 := 4#32
  let v47 : BitVec 32 := Scalar.muli arg18 c4_i32
  let c0_i32_38 : BitVec 32 := 0#32
  let v48 : BitVec 32 := Scalar.addi v47 c0_i32_38
  let v49 : Index := Scalar.indexCast v48
  let c0_i32_27 : BitVec 32 := 0#32
  let c1_i32_29 : BitVec 32 := 1#32
  let arg17 : BitVec 32 := Scf.iv c0_i32_27 c1_i32_29 k1_t4
  let c16_i32 : BitVec 32 := 16#32
  let v42 : BitVec 32 := Scalar.muli arg17 c16_i32
  let v50 : Index := Scalar.indexCast v42
  ![v49.toNat, v50.toNat]

def k1_chk5 (v51 : IVec S16 32) : Prop :=
  (∀ a x, ((![v51] : Fin 1 → IVec S16 32) a x).toNat < S256.size a)
theorem k1_idx5_inb : ∀ (v51 : IVec S16 32) (k1_hw5 : k1_chk5 v51), ∀ a x, ((![v51] : Fin 1 → IVec S16 32) a x).toNat < S256.size a := fun v51 k1_hw5 => k1_hw5
def k1_off17 (k1_t4 : Fin k1_t4_loop.trips) (k1_t5 : Fin k1_t5_loop.trips) : Fin 2 → Nat :=
  let c0_i32_33 : BitVec 32 := 0#32
  let c1_i32_35 : BitVec 32 := 1#32
  let arg18 : BitVec 32 := Scf.iv c0_i32_33 c1_i32_35 k1_t5
  let c4_i32_40 : BitVec 32 := 4#32
  let v60 : BitVec 32 := Scalar.muli arg18 c4_i32_40
  let c1_i32_41 : BitVec 32 := 1#32
  let v61 : BitVec 32 := Scalar.addi v60 c1_i32_41
  let v62 : Index := Scalar.indexCast v61
  let c0_i32_27 : BitVec 32 := 0#32
  let c1_i32_29 : BitVec 32 := 1#32
  let arg17 : BitVec 32 := Scf.iv c0_i32_27 c1_i32_29 k1_t4
  let c16_i32 : BitVec 32 := 16#32
  let v42 : BitVec 32 := Scalar.muli arg17 c16_i32
  let v63 : Index := Scalar.indexCast v42
  ![v62.toNat, v63.toNat]

def k1_chk6 (v64 : IVec S16 32) : Prop :=
  (∀ a x, ((![v64] : Fin 1 → IVec S16 32) a x).toNat < S256.size a)
theorem k1_idx6_inb : ∀ (v64 : IVec S16 32) (k1_hw6 : k1_chk6 v64), ∀ a x, ((![v64] : Fin 1 → IVec S16 32) a x).toNat < S256.size a := fun v64 k1_hw6 => k1_hw6
def k1_off18 (k1_t4 : Fin k1_t4_loop.trips) (k1_t5 : Fin k1_t5_loop.trips) : Fin 2 → Nat :=
  let c0_i32_33 : BitVec 32 := 0#32
  let c1_i32_35 : BitVec 32 := 1#32
  let arg18 : BitVec 32 := Scf.iv c0_i32_33 c1_i32_35 k1_t5
  let c4_i32_44 : BitVec 32 := 4#32
  let v73 : BitVec 32 := Scalar.muli arg18 c4_i32_44
  let c2_i32_45 : BitVec 32 := 2#32
  let v74 : BitVec 32 := Scalar.addi v73 c2_i32_45
  let v75 : Index := Scalar.indexCast v74
  let c0_i32_27 : BitVec 32 := 0#32
  let c1_i32_29 : BitVec 32 := 1#32
  let arg17 : BitVec 32 := Scf.iv c0_i32_27 c1_i32_29 k1_t4
  let c16_i32 : BitVec 32 := 16#32
  let v42 : BitVec 32 := Scalar.muli arg17 c16_i32
  let v76 : Index := Scalar.indexCast v42
  ![v75.toNat, v76.toNat]

def k1_chk7 (v77 : IVec S16 32) : Prop :=
  (∀ a x, ((![v77] : Fin 1 → IVec S16 32) a x).toNat < S256.size a)
theorem k1_idx7_inb : ∀ (v77 : IVec S16 32) (k1_hw7 : k1_chk7 v77), ∀ a x, ((![v77] : Fin 1 → IVec S16 32) a x).toNat < S256.size a := fun v77 k1_hw7 => k1_hw7
def k1_off19 (k1_t4 : Fin k1_t4_loop.trips) (k1_t5 : Fin k1_t5_loop.trips) : Fin 2 → Nat :=
  let c0_i32_33 : BitVec 32 := 0#32
  let c1_i32_35 : BitVec 32 := 1#32
  let arg18 : BitVec 32 := Scf.iv c0_i32_33 c1_i32_35 k1_t5
  let c4_i32_48 : BitVec 32 := 4#32
  let v86 : BitVec 32 := Scalar.muli arg18 c4_i32_48
  let c3_i32 : BitVec 32 := 3#32
  let v87 : BitVec 32 := Scalar.addi v86 c3_i32
  let v88 : Index := Scalar.indexCast v87
  let c0_i32_27 : BitVec 32 := 0#32
  let c1_i32_29 : BitVec 32 := 1#32
  let arg17 : BitVec 32 := Scf.iv c0_i32_27 c1_i32_29 k1_t4
  let c16_i32 : BitVec 32 := 16#32
  let v42 : BitVec 32 := Scalar.muli arg17 c16_i32
  let v89 : Index := Scalar.indexCast v42
  ![v88.toNat, v89.toNat]

def k1_chk8 (v90 : IVec S16 32) : Prop :=
  (∀ a x, ((![v90] : Fin 1 → IVec S16 32) a x).toNat < S256.size a)
theorem k1_idx8_inb : ∀ (v90 : IVec S16 32) (k1_hw8 : k1_chk8 v90), ∀ a x, ((![v90] : Fin 1 → IVec S16 32) a x).toNat < S256.size a := fun v90 k1_hw8 => k1_hw8
def k1_off20 (k1_t4 : Fin k1_t4_loop.trips) (k1_t5 : Fin k1_t5_loop.trips) : Fin 2 → Nat :=
  let c0_i32_33 : BitVec 32 := 0#32
  let c1_i32_35 : BitVec 32 := 1#32
  let arg18 : BitVec 32 := Scf.iv c0_i32_33 c1_i32_35 k1_t5
  let v99 : Index := Scalar.indexCast arg18
  let c0_i32_27 : BitVec 32 := 0#32
  let c1_i32_29 : BitVec 32 := 1#32
  let arg17 : BitVec 32 := Scf.iv c0_i32_27 c1_i32_29 k1_t4
  let c16_i32 : BitVec 32 := 16#32
  let v42 : BitVec 32 := Scalar.muli arg17 c16_i32
  let v100 : Index := Scalar.indexCast v42
  ![v99.toNat, v100.toNat]
def k1_off21 (i : grid1.Coords) : Fin 2 → Nat :=
  let c496_i32 : BitVec 32 := 496#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  ![496, v2.toNat]
def k1_off22 (i : grid1.Coords) : Fin 2 → Nat :=
  let c504_i32 : BitVec 32 := 504#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  ![504, v2.toNat]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S2048x32768 : Shape := ⟨2, ![2048, 32768]⟩
abbrev S256 : Shape := ⟨1, ![256]⟩
abbrev S_ : Shape := ⟨0, ![]⟩
abbrev S2048x32768x1 : Shape := ⟨3, ![2048, 32768, 1]⟩
abbrev S1 : Shape := ⟨1, ![1]⟩
abbrev S1x1x1 : Shape := ⟨3, ![1, 1, 1]⟩
abbrev S32768 : Shape := ⟨1, ![32768]⟩
abbrev S1x32768 : Shape := ⟨2, ![1, 32768]⟩

abbrev nBuf : Space → Nat
  | .hbm => 62
  | .vmem => 0
  | .smem => 0
  | _ => 0

abbrev bufTy : (tb : Table) → Fin (tcTables nBuf tb) → BufTy
  | .hbm, ⟨0, _⟩ => ⟨S2048x32768, .i32⟩
  | .hbm, ⟨1, _⟩ => ⟨S256, .f32⟩
  | .hbm, ⟨2, _⟩ => ⟨S256, .f32⟩
  | .hbm, ⟨3, _⟩ => ⟨S_, .i32⟩
  | .hbm, ⟨4, _⟩ => ⟨S2048x32768, .i32⟩
  | .hbm, ⟨5, _⟩ => ⟨S2048x32768, .i1⟩
  | .hbm, ⟨6, _⟩ => ⟨S_, .i32⟩
  | .hbm, ⟨7, _⟩ => ⟨S2048x32768, .i32⟩
  | .hbm, ⟨8, _⟩ => ⟨S2048x32768, .i32⟩
  | .hbm, ⟨9, _⟩ => ⟨S2048x32768, .i32⟩
  | .hbm, ⟨10, _⟩ => ⟨S2048x32768x1, .i32⟩
  | .hbm, ⟨11, _⟩ => ⟨S1, .i32⟩
  | .hbm, ⟨12, _⟩ => ⟨S_, .i32⟩
  | .hbm, ⟨13, _⟩ => ⟨S2048x32768x1, .i32⟩
  | .hbm, ⟨14, _⟩ => ⟨S2048x32768x1, .i1⟩
  | .hbm, ⟨15, _⟩ => ⟨S1x1x1, .i32⟩
  | .hbm, ⟨16, _⟩ => ⟨S2048x32768x1, .i32⟩
  | .hbm, ⟨17, _⟩ => ⟨S2048x32768x1, .i1⟩
  | .hbm, ⟨18, _⟩ => ⟨S2048x32768x1, .i1⟩
  | .hbm, ⟨19, _⟩ => ⟨S_, .i1⟩
  | .hbm, ⟨20, _⟩ => ⟨S2048x32768, .i1⟩
  | .hbm, ⟨21, _⟩ => ⟨S2048x32768, .f32⟩
  | .hbm, ⟨22, _⟩ => ⟨S_, .f32⟩
  | .hbm, ⟨23, _⟩ => ⟨S2048x32768, .f32⟩
  | .hbm, ⟨24, _⟩ => ⟨S2048x32768, .f32⟩
  | .hbm, ⟨25, _⟩ => ⟨S_, .f32⟩
  | .hbm, ⟨26, _⟩ => ⟨S32768, .f32⟩
  | .hbm, ⟨27, _⟩ => ⟨S_, .i32⟩
  | .hbm, ⟨28, _⟩ => ⟨S2048x32768, .i32⟩
  | .hbm, ⟨29, _⟩ => ⟨S2048x32768, .i1⟩
  | .hbm, ⟨30, _⟩ => ⟨S_, .i32⟩
  | .hbm, ⟨31, _⟩ => ⟨S2048x32768, .i32⟩
  | .hbm, ⟨32, _⟩ => ⟨S2048x32768, .i32⟩
  | .hbm, ⟨33, _⟩ => ⟨S2048x32768, .i32⟩
  | .hbm, ⟨34, _⟩ => ⟨S2048x32768x1, .i32⟩
  | .hbm, ⟨35, _⟩ => ⟨S1, .i32⟩
  | .hbm, ⟨36, _⟩ => ⟨S_, .i32⟩
  | .hbm, ⟨37, _⟩ => ⟨S2048x32768x1, .i32⟩
  | .hbm, ⟨38, _⟩ => ⟨S2048x32768x1, .i1⟩
  | .hbm, ⟨39, _⟩ => ⟨S1x1x1, .i32⟩
  | .hbm, ⟨40, _⟩ => ⟨S2048x32768x1, .i32⟩
  | .hbm, ⟨41, _⟩ => ⟨S2048x32768x1, .i1⟩
  | .hbm, ⟨42, _⟩ => ⟨S2048x32768x1, .i1⟩
  | .hbm, ⟨43, _⟩ => ⟨S_, .i1⟩
  | .hbm, ⟨44, _⟩ => ⟨S2048x32768, .i1⟩
  | .hbm, ⟨45, _⟩ => ⟨S2048x32768, .f32⟩
  | .hbm, ⟨46, _⟩ => ⟨S_, .f32⟩
  | .hbm, ⟨47, _⟩ => ⟨S2048x32768, .f32⟩
  | .hbm, ⟨48, _⟩ => ⟨S2048x32768, .f32⟩
  | .hbm, ⟨49, _⟩ => ⟨S1x32768, .f32⟩
  | .hbm, ⟨50, _⟩ => ⟨S2048x32768, .f32⟩
  | .hbm, ⟨51, _⟩ => ⟨S2048x32768, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S2048x32768, .f32⟩
  | .hbm, ⟨56, _⟩ => ⟨S2048x32768, .f32⟩
  | .hbm, ⟨57, _⟩ => ⟨S_, .f32⟩
  | .hbm, ⟨58, _⟩ => ⟨S2048x32768, .f32⟩
  | .hbm, ⟨59, _⟩ => ⟨S2048x32768, .f32⟩
  | .hbm, ⟨60, _⟩ => ⟨S2048x32768, .i32⟩
  | .hbm, ⟨61, _⟩ => ⟨S2048x32768, .i8⟩
  | _, _ => ⟨S2048x32768, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v0 : Ref sig .tc := ⟨.hbm, 24, rfl⟩
abbrev main_cst : Ref sig .tc := ⟨.hbm, 25, rfl⟩
abbrev main_v1 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_cst : Ref sig .tc := ⟨.hbm, 46, rfl⟩
abbrev main_call1_v14 : Ref sig .tc := ⟨.hbm, 47, rfl⟩
abbrev main_v2 : Ref sig .tc := ⟨.hbm, 48, rfl⟩
abbrev main_v3 : Ref sig .tc := ⟨.hbm, 49, rfl⟩
abbrev main_v4 : Ref sig .tc := ⟨.hbm, 50, rfl⟩
abbrev main_v5 : Ref sig .tc := ⟨.hbm, 51, rfl⟩
abbrev main_cst_0 : Ref sig .tc := ⟨.hbm, 52, rfl⟩
abbrev main_cst_1 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_v6 : Ref sig .tc := ⟨.hbm, 59, rfl⟩
abbrev main_v7 : Ref sig .tc := ⟨.hbm, 60, rfl⟩
abbrev main_v8 : Ref sig .tc := ⟨.hbm, 61, rfl⟩

abbrev nD : Nat := 1
abbrev τ : Topo := Topo.v7x

variable {F : FTy → Type} [FloatOps F]
-- ==== Proof.Setup.lean ====
/-
  What the rest of the proof stands on: the printed program as the launch theorem sees it, the resource algebra, the
  buffers, and the arrays that the two SparseCore kernels leave, as plain functions of the argument arrays.
-/
module

public import proofs.«01_k».proof.Defs
public import Idealize.ShloMosaic.Lib.SparseCore.Quiescent
public import Idealize.ShloMosaic.Lib.SparseCore.Ops
public import Idealize.ShloMosaic.Lib.Transfers
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Table

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the launch's handshakes, and the counters of the transfers -/

abbrev UH : Type := URounds (GSem nD τ sig) ℕ
abbrev UU : Type := UH × Counters

local notation "𝕄" => MT nD τ sig (HIx 2) (Elt F) ℕ UU ℕ

def EH : Emb UH (MT nD τ sig (HIx 2) (Elt F) ℕ UU ℕ) := embL

instance EH_landsIn : (EH : Emb UH 𝕄).LandsIn (upEmb : UEmb _ 𝕄) := by unfold EH; infer_instance

/-! ## A tile's thread and buffers -/

abbrev cV (L : grid0.Coords) : Fin τ.nSC := (L 0).castLE hcore0
abbrev jV (L : grid0.Coords) : Fin τ.nSub := (L 1).castLE hsub0
/-- The thread of tile `L` of device `d`. -/
abbrev tV (d : Dev nD) (L : grid0.Coords) : Thread nD τ := V d (cV L) (jV L)

abbrev xV : Memref sig .scVector .hbm S2048x32768 .i32 := Memref.whole main_arg0_scv
abbrev denV : Memref sig .scVector .hbm S256 .f32 := Memref.whole main_arg1_scv
abbrev dsV : Memref sig .scVector .hbm S32768 .f32 := Memref.whole main_v0_scv
abbrev sX0 : Memref sig .scVector .vmem S32x1024 .i32 := Memref.whole cc0_scratch0
abbrev sX1 : Memref sig .scVector .vmem S32x1024 .i32 := Memref.whole cc0_scratch1
abbrev sT : Memref sig .scVector .vmem S256 .f32 := Memref.whole cc0_scratch2
abbrev sD : Memref sig .scVector .vmem S1024 .f32 := Memref.whole cc0_scratch3

/-! ## Arrays read at naturals -/

/-- The index `(r, c)` of a two-dimensional array, each coordinate brought inside. -/
def ix2 {a b : ℕ} [NeZero a] [NeZero b] (r c : ℕ) : (⟨2, ![a, b]⟩ : Shape).Idx :=
  fun | 0 => (Fin.ofNat a r : Fin a) | 1 => (Fin.ofNat b c : Fin b)
/-- The index `n` of a one-dimensional array, brought inside. -/
def ix1 {a : ℕ} [NeZero a] (n : ℕ) : (⟨1, ![a]⟩ : Shape).Idx :=
  fun | 0 => (Fin.ofNat a n : Fin a)

theorem ix2_val0 {a b : ℕ} [NeZero a] [NeZero b] {r c : ℕ} (h : r < a) : ((ix2 (a := a) (b := b) r c) 0).val = r :=
  Nat.mod_eq_of_lt h
theorem ix2_val1 {a b : ℕ} [NeZero a] [NeZero b] {r c : ℕ} (h : c < b) : ((ix2 (a := a) (b := b) r c) 1).val = c :=
  Nat.mod_eq_of_lt h
theorem ix1_val {a : ℕ} [NeZero a] {n : ℕ} (h : n < a) : ((ix1 (a := a) n) 0).val = n := Nat.mod_eq_of_lt h

theorem eq_ix2 {a b : ℕ} [NeZero a] [NeZero b] {i : (⟨2, ![a, b]⟩ : Shape).Idx} {r c : ℕ} (h0 : (i 0).val = r) (h1 : (i 1).val = c) :
    i = ix2 r c := by
  funext x; apply Fin.ext
  match x with
  | 0 => exact h0.trans (Nat.mod_eq_of_lt (h0 ▸ (i 0).isLt)).symm
  | 1 => exact h1.trans (Nat.mod_eq_of_lt (h1 ▸ (i 1).isLt)).symm
theorem eq_ix1 {a : ℕ} [NeZero a] {i : (⟨1, ![a]⟩ : Shape).Idx} {n : ℕ} (h0 : (i 0).val = n) : i = ix1 n := by
  funext x; apply Fin.ext
  match x with
  | 0 => exact h0.trans (Nat.mod_eq_of_lt (h0 ▸ (i 0).isLt)).symm

/-! ## What the first kernel computes -/

section Values

variable [FloatOps F]

/-- The sum that a tile makes of the 32 looked-up entries of one column of one chunk: four running sums from zero, one
    for each remainder of the row by four, added pairwise. -/
def chunkSum (w : ℕ → F .f32) : F .f32 :=
  let z : F .f32 := Scalar.ofBits .f32 0x00000000#32
  let p : ℕ → F .f32 := fun j => [0, 4, 8, 12, 16, 20, 24, 28].foldl (fun a r => FloatOps.addf a (w (r + j))) z
  FloatOps.addf (FloatOps.addf (p 0) (p 1)) (FloatOps.addf (p 2) (p 3))

/-- A table's entry at a word. -/
def look (tab : S256.Idx → F .f32) (v : BitVec 32) : F .f32 := tab (ix1 v.toNat)

end Values

end Cert.Proof.Table

end
-- ==== Proof.Group.lean ====
/-
  The trips of the first kernel that work on sixteen columns of a chunk: the looked-up entries of its 32 rows added up.
-/
module

public import proofs.«01_k».proof.Proof.Setup

@[expose] public section

noncomputable section

namespace Cert.Proof.Table

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

/-! ## A row's sixteen entries -/

/-- Where lane `l` of a row of sixteen words at `off` lies. -/
theorem unit_idx_row {a b : ℕ} [NeZero a] [NeZero b] {off : Fin 2 → ℕ} {inb : ∀ x, off x + S1x16.size x ≤ (⟨2, ![a, b]⟩ : Shape).size x}
    (l : S16.Idx) :
    (Rect.unit (s := (⟨2, ![a, b]⟩ : Shape)) off S1x16.size inb).toLoadRect.idx (Shape.reshapeEquiv shapeCasts_S1x16_S16 l)
      = ix2 (off 0) (off 1 + (l 0).val) := by
  have e : Shape.reshapeEquiv shapeCasts_S1x16_S16 l = (fun | 0 => (0 : Fin 1) | 1 => l 0 : S1x16.Idx) := by
    revert l; decide +kernel
  rw [e]
  apply eq_ix2
  · rw [LoadRect.idx_apply]; show off 0 + 1 * 0 = _; omega
  · rw [LoadRect.idx_apply]; show off 1 + 1 * (l 0).val = _; omega

variable {κ : Kind} {sp : Space}

/-- The entries of the table at a row of sixteen words of a chunk. -/
theorem gather_row (B : Memref sig .scVector sp S32x1024 .i32) (f : B.view.ty.Contents (Elt F)) (tb : S256.Idx → F .f32)
    (off : Fin 2 → ℕ) (inb : ∀ x, off x + S1x16.size x ≤ S32x1024.size x)
    (h : ∀ a x, ((![shapeCast S16 (B.view.readAt (Elt F) (Rect.unit (s := S32x1024) off S1x16.size inb).toLoadRect f) shapeCasts_S1x16_S16] : Fin 1 → IVec S16 32) a x).toNat
      < S256.size a) (l : S16.Idx) :
    loadIdx (F := F) (e := .f32) tb ![shapeCast S16 (B.view.readAt (Elt F) (Rect.unit (s := S32x1024) off S1x16.size inb).toLoadRect f) shapeCasts_S1x16_S16] h l
      = look tb (B.view.read (Elt F) f (ix2 (off 0) (off 1 + (l 0).val))) := by
  unfold loadIdx look
  congr 1
  apply eq_ix1
  show (B.view.readAt (Elt F) _ f _).toNat = _
  rw [View.readAt_apply, unit_idx_row]

/-- A store of sixteen words into a one-dimensional array, read at an index. -/
theorem read_store16 {n : ℕ} [NeZero n] {e : EltTy} (v : View sig .scVector sp (⟨1, ![n]⟩ : Shape) e) (f : v.ty.Contents (Elt F)) (off : Fin 1 → ℕ)
    (inb : ∀ x, off x + S16.size x ≤ (⟨1, ![n]⟩ : Shape).size x) (w : S16.Idx → Elt F e) (i : (⟨1, ![n]⟩ : Shape).Idx) :
    v.read (Elt F) ((v.slice (Rect.unit (s := (⟨1, ![n]⟩ : Shape)) off S16.size inb)).write (Elt F) f w Finset.univ) i
      = if off 0 ≤ (i 0).val ∧ (i 0).val < off 0 + 16 then w (ix1 ((i 0).val - off 0)) else v.read (Elt F) f i := by
  split_ifs with h
  · have e : i = (Rect.unit (s := (⟨1, ![n]⟩ : Shape)) off S16.size inb).emb (ix1 (a := 16) ((i 0).val - off 0)) := by
      funext x; apply Fin.ext
      match x with
      | 0 =>
        rw [Rect.emb_apply]
        show _ = off 0 + 1 * ((ix1 (a := 16) ((i 0).val - off 0)) 0).val
        rw [ix1_val (by omega)]; omega
    conv_lhs => rw [e]
    exact View.read_slice_write_emb _ _ _ (Finset.mem_univ _)
  · refine View.read_slice_write_of_not_mem _ _ _ _ fun hm => h ?_
    obtain ⟨x, -, rfl⟩ := Finset.mem_map.mp hm
    rw [Rect.emb_apply]
    have hx : (x 0).val < 16 := (x 0).isLt
    constructor
    · show off 0 ≤ off 0 + 1 * (x 0).val; omega
    · show off 0 + 1 * (x 0).val < off 0 + 16; omega

/-- A load of sixteen words of a one-dimensional array, read at a lane. -/
theorem load16 {n : ℕ} [NeZero n] {e : EltTy} (v : View sig .scVector sp (⟨1, ![n]⟩ : Shape) e) (f : v.ty.Contents (Elt F)) (off : Fin 1 → ℕ)
    (inb : ∀ x, off x + S16.size x ≤ (⟨1, ![n]⟩ : Shape).size x) (l : S16.Idx) :
    v.readAt (Elt F) (Rect.unit (s := (⟨1, ![n]⟩ : Shape)) off S16.size inb).toLoadRect f l = v.read (Elt F) f (ix1 (off 0 + (l 0).val)) := by
  rw [View.readAt_apply]
  congr 1
  apply eq_ix1
  rw [LoadRect.idx_apply]
  show off 0 + 1 * (l 0).val = _
  omega

/-- The column sums after the first `k` groups of sixteen columns of a chunk `X` have been added to `o`. -/
def grouped (X : S32x1024.Idx → BitVec 32) (tb : S256.Idx → F .f32) (o : S1024.Idx → F .f32) (k : ℕ) : S1024.Idx → F .f32 :=
  fun i => if (i 0).val < 16 * k then FloatOps.addf (o i) (chunkSum fun r => look tb (X (ix2 r (i 0).val))) else o i

/-- The entries of the table at the sixteen words of a chunk that start at `off`. -/
def rowVec (X : S32x1024.Idx → BitVec 32) (tb : S256.Idx → F .f32) (off : Fin 2 → ℕ) : S16.Idx → F .f32 :=
  fun l => look tb (X (ix2 (off 0) (off 1 + (l 0).val)))

/-- Words below 256 in the chunk: every lookup of a row passes its check. -/
theorem row_ok (B : Memref sig .scVector sp S32x1024 .i32) (f : B.view.ty.Contents (Elt F))
    (hf : ∀ i, (B.view.read (Elt F) f i : BitVec 32).toNat < 256)
    (off : Fin 2 → ℕ) (inb : ∀ x, off x + S1x16.size x ≤ S32x1024.size x) :
    ∀ a x, ((![shapeCast S16 (B.view.readAt (Elt F) (Rect.unit (s := S32x1024) off S1x16.size inb).toLoadRect f) shapeCasts_S1x16_S16] : Fin 1 → IVec S16 32) a x).toNat
      < S256.size a := by
  intro a x
  obtain rfl : a = 0 := Subsingleton.elim _ _
  show (B.view.readAt (Elt F) _ f _ : BitVec 32).toNat < 256
  rw [View.readAt_apply]; exact hf _

/-- The store that ends group `k`. -/
theorem store_group (X : S32x1024.Idx → BitVec 32) (tb : S256.Idx → F .f32) (o : S1024.Idx → F .f32) (k : Fin k0_t3_loop.trips) (w : S16.Idx → F .f32)
    (hw : ∀ l : S16.Idx, w l = FloatOps.addf (grouped X tb o k.val (ix1 (16 * k.val + (l 0).val)))
      (chunkSum fun r => look tb (X (ix2 r (16 * k.val + (l 0).val))))) :
    ((sD : Memref sig .scVector .vmem S1024 .f32).access (Rect.unit (s := S1024) (k0_off37 k) S16.size (k0_off37_inb k))).write (Elt F)
        (grouped X tb o k.val) w Finset.univ = grouped X tb o (k.val + 1) := by
  have hk : k.val < 64 := k.isLt
  funext i
  refine (read_store16 (F := F) (sD : Memref sig .scVector .vmem S1024 .f32).view _ _ _ _ i).trans ?_
  have hi : (i 0).val < 1024 := (i 0).isLt
  rw [k0_off37_eq]
  by_cases h : 16 * k.val ≤ (i 0).val ∧ (i 0).val < 16 * k.val + 16
  · refine (if_pos h).trans ?_
    have e : (ix1 (a := 1024) (i 0).val : S1024.Idx) = i := (eq_ix1 rfl).symm
    rw [show (![16 * k.val] : Fin 1 → ℕ) 0 = 16 * k.val from rfl, hw, ix1_val (show (i 0).val - 16 * k.val < 16 by omega),
      show 16 * k.val + ((i 0).val - 16 * k.val) = (i 0).val by omega, e]
    unfold grouped
    rw [if_neg (show ¬ (i 0).val < 16 * k.val by omega), if_pos (show (i 0).val < 16 * (k.val + 1) by omega)]
  · refine (if_neg h).trans ?_
    show grouped X tb o k.val i = _
    unfold grouped
    by_cases h2 : (i 0).val < 16 * k.val
    · rw [if_pos h2, if_pos (show (i 0).val < 16 * (k.val + 1) by omega)]
    · rw [if_neg h2, if_neg (show ¬ (i 0).val < 16 * (k.val + 1) by omega)]

section Body

variable (d : Dev nD) (L : grid0.Coords)
  (arg2 : Memref sig .scVector .hbm S2048x32768 .i32) (harg2 : arg2.IsWhole) (arg3 : Memref sig .scVector .hbm S256 .f32) (harg3 : arg3.IsWhole)
  (arg4 : Memref sig .scVector .hbm S32768 .f32) (harg4 : arg4.IsWhole)
  (arg5 : Memref sig .scVector .vmem S32x1024 .i32) (harg5 : arg5.IsWhole) (arg6 : Memref sig .scVector .vmem S32x1024 .i32) (harg6 : arg6.IsWhole)
  (arg9 arg10 v7_r0 v7_r1 : DmaSems sig S_)

/-- The tile's table scratch, and its column sums, holding an array. -/
abbrev ptsT (tb : S256.Idx → F .f32) : sProp 𝕄 := (tV d L).loc cc0_scratch2 ↦{fullShare} (tb : Buf (Elt F) ((tV d L).loc cc0_scratch2))
abbrev ptsD (g : S1024.Idx → F .f32) : sProp 𝕄 := (tV d L).loc cc0_scratch3 ↦{fullShare} (g : Buf (Elt F) ((tV d L).loc cc0_scratch3))

omit [FloatOps F] in
theorem pts_sT_access (f : Buf (Elt F) ((tV d L).loc cc0_scratch2)) :
    (((sT : Memref sig .scVector .vmem S256 .f32).access (.whole S256)).loc (tV d L) ↦{fullShare} f : sProp 𝕄) = (tV d L).loc cc0_scratch2 ↦{fullShare} f := rfl

omit [FloatOps F] in
theorem pts_sD_access (r : Rect S1024) (g : S1024.Idx → F .f32) :
    (((sD : Memref sig .scVector .vmem S1024 .f32).access r).loc (tV d L) ↦{fullShare} (g : Buf (Elt F) ((tV d L).loc cc0_scratch3)) : sProp 𝕄) = ptsD d L g := rfl

/-- The lookup of a row of sixteen words loaded from a chunk. -/
theorem wp_gather {c : Fin τ.nSC} {j : Fin τ.nSub} {sp : Space} (B : Memref sig .scVector sp S32x1024 .i32) (f : B.view.ty.Contents (Elt F))
    (Tm : Memref sig .scVector .vmem S256 .f32) (tb : Buf (Elt F) (Tm.view.loc (V d c j)))
    {off : Fin 2 → ℕ} {inb : ∀ x, off x + S1x16.size x ≤ S32x1024.size x} {h} {hl : Tm.view.Loads}
    {α : Type} {k : (S16.Idx → F .f32) → Prog (TpuEff nD τ sig (Elt F) Λ₀ (V d c j).2) α} {Q : α → sProp 𝕄} :
    (Tm.view.loc (V d c j) ↦{fullShare} tb : sProp 𝕄)
      ⊢ iprop(((Tm.view.loc (V d c j) ↦{fullShare} tb)
          -∗ wp frame (wpE (defs₀ (F := F)) 𝒱₀ (V d c j) none) Set.univ (k (rowVec (B.view.read (Elt F) f) (Tm.view.read (Elt F) tb) off)) Q)
      -∗ wp frame (wpE (defs₀ (F := F)) 𝒱₀ (V d c j) none) Set.univ
          (SparseCore.vectorLoadIdx (F := F) (p := (V d c j).2) Tm
            ![shapeCast S16 (B.view.readAt (Elt F) (Rect.unit (s := S32x1024) off S1x16.size inb).toLoadRect f) shapeCasts_S1x16_S16] h hl >>= k) Q) := by
  have e : rowVec (B.view.read (Elt F) f) (Tm.view.read (Elt F) tb) off
      = loadIdx (F := F) (e := .f32) ((Tm.access (Rect.whole S256)).read (Elt F) tb)
          ![shapeCast S16 (B.view.readAt (Elt F) (Rect.unit (s := S32x1024) off S1x16.size inb).toLoadRect f) shapeCasts_S1x16_S16] h := by
    have hT : (Tm.access (Rect.whole S256)).read (Elt F) tb = Tm.view.read (Elt F) tb := by
      funext x
      show Tm.view.read (Elt F) tb ((Rect.whole S256).emb x) = _
      rw [Rect.emb_whole_apply]
    rw [hT]; funext l; exact (gather_row B f _ off inb h l).symm
  rw [e]
  exact SparseCore.wp_vectorLoadIdx 𝒱₀ (V d c j) none Set.univ (base := Tm) (S := Finset.univ) (q := fullShare) (Finset.subset_univ _)

set_option maxHeartbeats 4000000 in
theorem t3_trip (f : arg5.view.ty.Contents (Elt F)) (hf : ∀ i, (arg5.view.read (Elt F) f i : BitVec 32).toNat < 256)
    (tb : S256.Idx → F .f32) (o : S1024.Idx → F .f32) (k : Fin k0_t3_loop.trips) :
    iprop((arg5.view.loc (tV d L) ↦{fullShare} f) ∗ ptsT d L tb
        ∗ ptsD d L (grouped (arg5.view.read (Elt F) f) tb o k.val))
      ⊢ wp frame (wpE (defs₀ (F := F)) 𝒱₀ (tV d L) none) Set.univ
          (k0_t3_body L arg2 harg2 arg3 harg3 arg4 harg4 arg5 harg5 arg6 harg6 sT (Memref.isWhole_whole _) sD (Memref.isWhole_whole _) arg9 arg10 v7_r0 v7_r1 k ⟨⟩)
          fun _ => iprop((arg5.view.loc (tV d L) ↦{fullShare} f) ∗ ptsT d L tb
            ∗ ptsD d L (grouped (arg5.view.read (Elt F) f) tb o (k.val + 1))) := by
  unfold k0_t3_body
  simp only [Prog.lift, Prog.bind_op, Prog.bind_ret, Prog.pure_eq_ret]
  iintro ⟨Hx, Ht, Ho⟩
  rw [wp_bind, k0_part1_eq_skeleton]
  unfold k0_part1_skel
  simp only [Prog.lift, Prog.bind_op, Prog.bind_ret, Prog.pure_eq_ret]
  iterate 6
    iapply (wp_load 𝒱₀ (tV d L) none Set.univ (m := arg5) (S := Finset.univ) (Finset.subset_univ _)) $$ Hx; iintro Hx
    rw [wp_assume_of _ _ _ _ ?hc]
    case hc => exact row_ok arg5 f hf _ _
    iapply (wp_gather d arg5 f sT tb) $$ Ht; iintro Ht
  rw [wp_ret]; imodintro
  dsimp only
  rw [wp_bind, k0_part2_eq_skeleton]
  unfold k0_part2_skel
  simp only [Prog.lift, Prog.bind_op, Prog.bind_ret, Prog.pure_eq_ret]
  iapply (wp_load 𝒱₀ (tV d L) none Set.univ (m := arg5) (S := Finset.univ) (Finset.subset_univ _)) $$ Hx; iintro Hx
  iterate 7
    rw [wp_assume_of _ _ _ _ ?hc]
    case hc => exact row_ok arg5 f hf _ _
    iapply (wp_gather d arg5 f sT tb) $$ Ht; iintro Ht
    iapply (wp_load 𝒱₀ (tV d L) none Set.univ (m := arg5) (S := Finset.univ) (Finset.subset_univ _)) $$ Hx; iintro Hx
  rw [wp_ret]; imodintro
  dsimp only
  rw [wp_bind, k0_part3_eq_skeleton]
  unfold k0_part3_skel
  simp only [Prog.lift, Prog.bind_op, Prog.bind_ret, Prog.pure_eq_ret]
  rw [wp_assume_of _ _ _ _ ?hc]
  case hc => exact row_ok arg5 f hf _ _
  iapply (wp_gather d arg5 f sT tb) $$ Ht; iintro Ht
  iterate 7
    iapply (wp_load 𝒱₀ (tV d L) none Set.univ (m := arg5) (S := Finset.univ) (Finset.subset_univ _)) $$ Hx; iintro Hx
    rw [wp_assume_of _ _ _ _ ?hc]
    case hc => exact row_ok arg5 f hf _ _
    iapply (wp_gather d arg5 f sT tb) $$ Ht; iintro Ht
  rw [wp_ret]; imodintro
  dsimp only
  rw [wp_bind, k0_part4_eq_skeleton]
  unfold k0_part4_skel
  simp only [Prog.lift, Prog.bind_op, Prog.bind_ret, Prog.pure_eq_ret]
  iapply (wp_load 𝒱₀ (tV d L) none Set.univ (m := arg5) (S := Finset.univ) (Finset.subset_univ _)) $$ Hx; iintro Hx
  iterate 7
    rw [wp_assume_of _ _ _ _ ?hc]
    case hc => exact row_ok arg5 f hf _ _
    iapply (wp_gather d arg5 f sT tb) $$ Ht; iintro Ht
    iapply (wp_load 𝒱₀ (tV d L) none Set.univ (m := arg5) (S := Finset.univ) (Finset.subset_univ _)) $$ Hx; iintro Hx
  rw [wp_ret]; imodintro
  dsimp only
  rw [wp_assume_of _ _ _ _ ?hc]
  case hc => exact row_ok arg5 f hf _ _
  iapply (wp_gather d arg5 f sT tb) $$ Ht; iintro Ht
  iterate 3
    iapply (wp_load 𝒱₀ (tV d L) none Set.univ (m := arg5) (S := Finset.univ) (Finset.subset_univ _)) $$ Hx; iintro Hx
    rw [wp_assume_of _ _ _ _ ?hc]
    case hc => exact row_ok arg5 f hf _ _
    iapply (wp_gather d arg5 f sT tb) $$ Ht; iintro Ht
  iterate 2
    iapply (wp_load 𝒱₀ (tV d L) none Set.univ (m := (sD : Memref sig .scVector .vmem S1024 .f32)) (S := Finset.univ) (Finset.subset_univ _)) $$ Ho; iintro Ho
  ihave Ho := (Entails.of_eq (pts_sD_access (F := F) d L (Rect.unit (s := S1024) (k0_off37 k) S16.size (k0_off37_inb k)) _).symm) $$ Ho
  iapply (wp_store 𝒱₀ (tV d L) none Set.univ (m := (sD : Memref sig .scVector .vmem S1024 .f32)) (Mk := Finset.univ) (S := Finset.univ) (Finset.subset_univ _)) $$ Ho; iintro Ho
  rw [wp_ret]; imodintro
  ihave Ho := (Entails.of_eq (congrArg (fun g => ptsD d L g)
    (store_group (arg5.view.read (Elt F) f) tb o k _ ?hw))) $$ Ho
  case hw =>
    intro l
    simp only [k0_pay2, k0_pay4, k0_pay5, k0_pay6, k0_pay7, k0_pay8, k0_pay9, k0_pay10, k0_pay11, k0_pay12, k0_pay13, k0_pay14, k0_pay15, k0_pay16,
      k0_pay17, k0_pay18, k0_pay19, k0_pay20, k0_pay21]
    refine congrArg₂ FloatOps.addf ?_ ?_
    · refine (load16 (F := F) (sD : Memref sig .scVector .vmem S1024 .f32).view _ _ _ l).trans ?_
      rw [k0_off37_eq]; rfl
    · simp only [k0_off5_eq, k0_off6_eq, k0_off7_eq, k0_off8_eq, k0_off9_eq, k0_off10_eq, k0_off11_eq, k0_off12_eq, k0_off13_eq, k0_off14_eq, k0_off15_eq, k0_off16_eq, k0_off17_eq, k0_off18_eq, k0_off19_eq, k0_off20_eq, k0_off21_eq, k0_off22_eq, k0_off23_eq, k0_off24_eq, k0_off25_eq, k0_off26_eq, k0_off27_eq, k0_off28_eq, k0_off29_eq, k0_off30_eq, k0_off31_eq, k0_off32_eq, k0_off33_eq, k0_off34_eq, k0_off35_eq, k0_off36_eq, k0_off37_eq]; rfl
  isplitl [Hx]; · iexact Hx
  isplitl [Ht]; · iexact Ht
  iexact Ho

end Body

end Cert.Proof.Table

end
-- ==== Proof.Loops.lean ====
/-
  The loops inside a chunk of the first kernel: the column sums set to zero, and a chunk's column sums added.
-/
module

public import proofs.«01_k».proof.Proof.Group

@[expose] public section

noncomputable section

namespace Cert.Proof.Table

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

/-- The column sums `o` with those of a chunk `X` added. -/
def plusChunk (X : S32x1024.Idx → BitVec 32) (tb : S256.Idx → F .f32) (o : S1024.Idx → F .f32) : S1024.Idx → F .f32 :=
  fun i => FloatOps.addf (o i) (chunkSum fun r => look tb (X (ix2 r (i 0).val)))

theorem grouped_zero (X : S32x1024.Idx → BitVec 32) (tb : S256.Idx → F .f32) (o : S1024.Idx → F .f32) : grouped X tb o 0 = o := by
  funext i; exact if_neg (by omega)

theorem grouped_all (X : S32x1024.Idx → BitVec 32) (tb : S256.Idx → F .f32) (o : S1024.Idx → F .f32) : grouped X tb o 64 = plusChunk X tb o := by
  funext i
  have hi : (i 0).val < 1024 := (i 0).isLt
  exact if_pos (by omega)

section Body

variable (d : Dev nD) (L : grid0.Coords)
  (arg2 : Memref sig .scVector .hbm S2048x32768 .i32) (harg2 : arg2.IsWhole) (arg3 : Memref sig .scVector .hbm S256 .f32) (harg3 : arg3.IsWhole)
  (arg4 : Memref sig .scVector .hbm S32768 .f32) (harg4 : arg4.IsWhole)
  (arg5 : Memref sig .scVector .vmem S32x1024 .i32) (harg5 : arg5.IsWhole) (arg6 : Memref sig .scVector .vmem S32x1024 .i32) (harg6 : arg6.IsWhole)
  (arg9 arg10 v7_r0 v7_r1 : DmaSems sig S_)

/-- A chunk buffer of the tile holding an array. -/
abbrev ptsX (B : Memref sig .scVector .vmem S32x1024 .i32) (f : B.view.ty.Contents (Elt F)) : sProp 𝕄 := B.view.loc (tV d L) ↦{fullShare} (f : Buf (Elt F) (B.view.loc (tV d L)))

theorem t3_loop (f : arg5.view.ty.Contents (Elt F)) (hf : ∀ i, (arg5.view.read (Elt F) f i : BitVec 32).toNat < 256)
    (tb : S256.Idx → F .f32) (o : S1024.Idx → F .f32) :
    iprop(ptsX d L arg5 f ∗ ptsT d L tb ∗ ptsD d L o)
      ⊢ wp frame (wpE (defs₀ (F := F)) 𝒱₀ (tV d L) none) Set.univ
          (Scf.Loop.for k0_t3_loop k0_t3_ok () (k0_t3_body L arg2 harg2 arg3 harg3 arg4 harg4 arg5 harg5 arg6 harg6 sT (Memref.isWhole_whole _) sD (Memref.isWhole_whole _) arg9 arg10 v7_r0 v7_r1))
          fun _ => iprop(ptsX d L arg5 f ∗ ptsT d L tb ∗ ptsD d L (plusChunk (arg5.view.read (Elt F) f) tb o)) := by
  iintro H
  iapply (Scf.wp_for frame (wpE (defs₀ (F := F)) 𝒱₀ (tV d L) none) Set.univ _ _ _ k0_t3_ok () _
    (fun k _ => iprop(ptsX d L arg5 f ∗ ptsT d L tb ∗ ptsD d L (grouped (arg5.view.read (Elt F) f) tb o k)))
    (fun k _ => t3_trip d L arg2 harg2 arg3 harg3 arg4 harg4 arg5 harg5 arg6 harg6 arg9 arg10 v7_r0 v7_r1 f hf tb o k))
  isplitl [H]
  · rw [grouped_zero]; iexact H
  · iintro %_ H
    rw [show Scf.trips _ _ _ = 64 from (by decide +kernel : k0_t3_loop.trips = 64), grouped_all]; iexact H

theorem t4_body_eq : k0_t4_body (F := F) L arg2 harg2 arg3 harg3 arg4 harg4 arg5 harg5 arg6 harg6 sT (Memref.isWhole_whole _) sD (Memref.isWhole_whole _) arg9 arg10 v7_r0 v7_r1
    = k0_t3_body (F := F) L arg2 harg2 arg3 harg3 arg4 harg4 arg6 harg6 arg5 harg5 sT (Memref.isWhole_whole _) sD (Memref.isWhole_whole _) arg9 arg10 v7_r0 v7_r1 := rfl

theorem t4_loop (f : arg6.view.ty.Contents (Elt F)) (hf : ∀ i, (arg6.view.read (Elt F) f i : BitVec 32).toNat < 256)
    (tb : S256.Idx → F .f32) (o : S1024.Idx → F .f32) :
    iprop(ptsX d L arg6 f ∗ ptsT d L tb ∗ ptsD d L o)
      ⊢ wp frame (wpE (defs₀ (F := F)) 𝒱₀ (tV d L) none) Set.univ
          (Scf.Loop.for k0_t4_loop k0_t4_ok () (k0_t4_body L arg2 harg2 arg3 harg3 arg4 harg4 arg5 harg5 arg6 harg6 sT (Memref.isWhole_whole _) sD (Memref.isWhole_whole _) arg9 arg10 v7_r0 v7_r1))
          fun _ => iprop(ptsX d L arg6 f ∗ ptsT d L tb ∗ ptsD d L (plusChunk (arg6.view.read (Elt F) f) tb o)) := by
  rw [t4_body_eq]
  exact t3_loop d L arg2 harg2 arg3 harg3 arg4 harg4 arg6 harg6 arg5 harg5 arg9 arg10 v7_r0 v7_r1 f hf tb o

/-- All zeros. -/
def zeros : S1024.Idx → F .f32 := fun _ => Scalar.ofBits .f32 0x00000000#32

theorem t1_loop (o : S1024.Idx → F .f32) :
    ptsD d L o
      ⊢ wp frame (wpE (defs₀ (F := F)) 𝒱₀ (tV d L) none) Set.univ
          (Scf.Loop.for k0_t1_loop k0_t1_ok () (k0_t1_body L arg2 harg2 arg3 harg3 arg4 harg4 arg5 harg5 arg6 harg6 sT (Memref.isWhole_whole _) sD (Memref.isWhole_whole _) arg9 arg10 v7_r0 v7_r1))
          fun _ => ptsD d L zeros := by
  iintro H
  iapply (Scf.wp_for frame (wpE (defs₀ (F := F)) 𝒱₀ (tV d L) none) Set.univ _ _ _ k0_t1_ok () _
    (fun k _ => iprop(∃ g : S1024.Idx → F .f32, ⌜∀ i, (i 0).val < 16 * k → g i = zeros i⌝ ∗ ptsD d L g)) ?hb)
  case hb =>
    intro k _
    iintro ⟨%g, %hg, Ho⟩
    unfold k0_t1_body
    simp only [Prog.lift, Prog.bind_op, Prog.bind_ret, Prog.pure_eq_ret]
    iapply (wp_load 𝒱₀ (tV d L) none Set.univ (m := (sD : Memref sig .scVector .vmem S1024 .f32)) (S := Finset.univ) (Finset.subset_univ _)) $$ Ho; iintro Ho
    ihave Ho := (Entails.of_eq (pts_sD_access (F := F) d L (Rect.unit (s := S1024) (k0_off1 k) S16.size (k0_off1_inb k)) _).symm) $$ Ho
    iapply (wp_store 𝒱₀ (tV d L) none Set.univ (m := (sD : Memref sig .scVector .vmem S1024 .f32)) (Mk := Finset.univ) (S := Finset.univ) (Finset.subset_univ _)) $$ Ho; iintro Ho
    rw [wp_ret]; imodintro
    iexists _
    isplitr [Ho]
    rotate_left
    · iexact Ho
    ipureintro
    intro i hi
    refine (read_store16 (F := F) (sD : Memref sig .scVector .vmem S1024 .f32).view _ _ _ _ i).trans ?_
    rw [k0_off1_eq]
    by_cases h : 16 * k.val ≤ (i 0).val ∧ (i 0).val < 16 * k.val + 16
    · exact (if_pos h).trans rfl
    · refine (if_neg h).trans (hg i ?_)
      omega
  isplitl [H]
  · iexists o
    isplitr [H]
    · ipureintro; intro i hi; omega
    · iexact H
  · iintro %_ ⟨%g, %hg, H⟩
    have e : g = zeros := by
      funext i
      have hi : (i 0).val < 1024 := (i 0).isLt
      refine hg i ?_
      rw [show Scf.trips _ _ _ = 64 from (by decide +kernel : k0_t1_loop.trips = 64)]; omega
    rw [e]; iexact H

end Body

end Cert.Proof.Table

end
-- ==== Proof.Dma.lean ====
/-
  A tile's copies: from an array read by many, and out of the tile.
-/
module

public import proofs.«01_k».proof.Proof.Setup

@[expose] public section

noncomputable section

namespace Cert.Proof.Table

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

section Copies

variable (d : Dev nD) (c : Fin τ.nSC) (j : Fin τ.nSub)

/-- An array at some share: one tile's leave to read it. -/
abbrev readable (ℓ : Loc nD τ sig) (f : Buf (Elt F) ℓ) : sProp 𝕄 := iprop(∃ q : PosShare TreeShare, ℓ ↦{q} f)

omit [FloatOps F] in
theorem readable_split (ℓ : Loc nD τ sig) (f : Buf (Elt F) ℓ) : readable ℓ f ⊢ iprop(readable ℓ f ∗ readable ℓ f) := by
  iintro ⟨%q, H⟩
  ihave ⟨Ha, Hb⟩ := (pointsTo_share (PosShare.mem_left_op_right q)).1 $$ H
  isplitl [Ha]
  · iexists _; iexact Ha
  · iexists _; iexact Hb

/-- A copy from an array that is only read into a buffer of the tile: the leave to read stays, the buffer comes with the
    flight. -/
theorem wp_fetch {s : Shape} {e : EltTy} {src : Memref sig .scVector .hbm s e} {dst : Memref sig .scVector .vmem s e} {sm : DmaSem sig}
    {hsrc : src.view.WordExact} {hdst : dst.view.WordExact} {hsem : DmaTarget.Typed (nD := nD) (τ := τ) (p := (V d c j).2) .hbm (.dma sm) (.here dst)}
    {α : Type} {k : PUnit → Prog (TpuEff nD τ sig (Elt F) Λ₀ (V d c j).2) α} {Q : α → sProp 𝕄}
    {fs : Buf (Elt F) (src.view.loc (V d c j))} {fd : Buf (Elt F) (dst.view.loc (V d c j))} (N : ℕ) (hN : dst.view.dmaCredit = N) (hN0 : 0 < N) :
    iprop(readable (src.view.loc (V d c j)) fs ∗ (dst.view.loc (V d c j) ↦{fullShare} fd) ∗ semVal (V d c j, .dma sm) 0)
      ⊢ iprop((iprop(readable (src.view.loc (V d c j)) fs
            ∗ Transfers.Flight countersEmb (V d c j) (.dma sm) (none : HIx 2) N
                (dst.view.loc (V d c j) ↦{fullShare} (dst.view.write (Elt F) fd (src.view.read (Elt F) fs) Finset.univ)))
          -∗ wp frame (wpE (defs₀ (F := F)) 𝒱₀ (V d c j) none) Set.univ (k ⟨⟩) Q)
        -∗ wp frame (wpE (defs₀ (F := F)) 𝒱₀ (V d c j) none) Set.univ (.op (.enqueueDma src (.here dst) (.dma sm) hsrc hdst hsem) k) Q) := by
  iintro ⟨Hs, Hd, Hv⟩ Hk
  ihave ⟨Hs, ⟨%q, Hq⟩⟩ := (readable_split _ _) $$ Hs
  ihave ⟨Hq, -⟩ := (pointsTo_split_subset (Finset.subset_univ src.view.set)).1 $$ Hq
  iapply (Transfers.wp_dmaLocal countersEmb 𝒱₀ (V d c j) none (src := src) (dst := dst) (sm := .dma sm) (q := q) (none : HIx 2) N hN hN0 (Finset.subset_univ _)) $$ [Hq Hd Hv]
  · isplitl [Hq]; · iexact Hq
    isplitl [Hd]; · iexact Hd
    iexact Hv
  iintro Hf
  iapply Hk
  isplitl [Hs]; · iexact Hs
  iapply (Transfers.Flight_mono countersEmb (V d c j) (sep_elim_left)) $$ Hf

/-- A copy out of a buffer of the tile into the piece of an array that it holds. -/
theorem wp_send {s : Shape} {e : EltTy} {src : Memref sig .scVector .vmem s e} {dst : Memref sig .scVector .hbm s e} {sm : DmaSem sig}
    {hsrc : src.view.WordExact} {hdst : dst.view.WordExact} {hsem : DmaTarget.Typed (nD := nD) (τ := τ) (p := (V d c j).2) .vmem (.dma sm) (.here dst)}
    {α : Type} {k : PUnit → Prog (TpuEff nD τ sig (Elt F) Λ₀ (V d c j).2) α} {Q : α → sProp 𝕄}
    {fs : Buf (Elt F) (src.view.loc (V d c j))} {fd : Buf (Elt F) (dst.view.loc (V d c j))} (hset : src.view.set = Finset.univ)
    (N : ℕ) (hN : dst.view.dmaCredit = N) (hN0 : 0 < N) :
    iprop((src.view.loc (V d c j) ↦{fullShare} fs) ∗ (dst.view.loc (V d c j) ↦[dst.view.set]{fullShare} fd) ∗ semVal (V d c j, .dma sm) 0)
      ⊢ iprop((Transfers.Flight countersEmb (V d c j) (.dma sm) (none : HIx 2) N
                iprop((dst.view.loc (V d c j) ↦[dst.view.set]{fullShare} (dst.view.write (Elt F) fd (src.view.read (Elt F) fs) Finset.univ))
                  ∗ (src.view.loc (V d c j) ↦{fullShare} fs))
          -∗ wp frame (wpE (defs₀ (F := F)) 𝒱₀ (V d c j) none) Set.univ (k ⟨⟩) Q)
        -∗ wp frame (wpE (defs₀ (F := F)) 𝒱₀ (V d c j) none) Set.univ (.op (.enqueueDma src (.here dst) (.dma sm) hsrc hdst hsem) k) Q) := by
  iintro ⟨Hs, Hd, Hv⟩ Hk
  iapply (Transfers.wp_dmaLocal countersEmb 𝒱₀ (V d c j) none (src := src) (dst := dst) (sm := .dma sm) (q := fullShare) (fs := fs) (fd := fd) (Sd := dst.view.set) (none : HIx 2) N hN hN0 (Finset.Subset.refl _)) $$ [Hs Hd Hv]
  · isplitl [Hs]; · rw [hset]; iexact Hs
    isplitl [Hd]; · iexact Hd
    iexact Hv
  rw [hset]
  iintro Hf
  iapply Hk $$ Hf

/-- What a tile owes and waited for while it works: no more than at its start, and waits of its own. -/
abbrev owing (O : CellTallies nD τ sig (HIx 2)) (W : Waits sig (HIx 2)) : sProp 𝕄 :=
  iprop(∃ W', ⌜∀ p ∈ W', p ∈ W ∨ p.2 = none⌝ ∗ owes (V d c j) O W')

/-- A wait for a copy in flight. -/
theorem wp_landed {s s' : Shape} {e e' : EltTy} {sp sp' : Space} {srcw : Memref sig .scVector sp' s' e'} {dstw : Memref sig .scVector sp s e} {sem : DmaSem sig}
    {hsrc : srcw.view.WordExact} {hdst : dstw.view.WordExact}
    {α : Type} {k : PUnit → Prog (TpuEff nD τ sig (Elt F) Λ₀ (V d c j).2) α} {Q : α → sProp 𝕄} {N : ℕ} (hN : dstw.view.dmaCredit = N)
    {D : sProp 𝕄} {O : CellTallies nD τ sig (HIx 2)} {W : Waits sig (HIx 2)} :
    iprop(Transfers.MayWaits (V d c j) (none : HIx 2) O ∗ Transfers.Flight countersEmb (V d c j) (.dma sem) (none : HIx 2) N D ∗ owing d c j O W)
      ⊢ iprop((iprop(D ∗ semVal (V d c j, .dma sem) 0 ∗ owing d c j O W) -∗ wp frame (wpE (defs₀ (F := F)) 𝒱₀ (V d c j) none) Set.univ (k ⟨⟩) Q)
        -∗ wp frame (wpE (defs₀ (F := F)) 𝒱₀ (V d c j) none) Set.univ (.op (.waitDma2 sem srcw dstw hsrc hdst) k) Q) := by
  iintro ⟨Hmw, Hf, ⟨%W', %hW, HO⟩⟩ Hk
  ihave Hm := (Transfers.MayWaits.elim (SemLoc.dma sem)) $$ Hmw
  iapply (Transfers.wp_waitLocalO countersEmb 𝒱₀ (V d c j) none (none : HIx 2) hN) $$ [Hf HO Hm]
  · isplitl [Hf]; · iexact Hf
    isplitl [HO]; · iexact HO
    iexact Hm
  iintro ⟨HD, Hv, HO⟩
  iapply Hk
  isplitl [HD]; · iexact HD
  isplitl [Hv]; · iexact Hv
  iexists _
  isplitr [HO]
  rotate_left
  · iexact HO
  ipureintro
  intro p hp
  rcases Finset.mem_insert.mp hp with rfl | hp
  · exact .inr rfl
  · exact hW p hp

/-- A part of a program, then the rest of it. -/
theorem wp_then {A B : sProp 𝕄} {p : Prog (TpuEff nD τ sig (Elt F) Λ₀ (V d c j).2) Unit} {α : Type}
    {kk : Unit → Prog (TpuEff nD τ sig (Elt F) Λ₀ (V d c j).2) α} {Q : α → sProp 𝕄}
    (h : A ⊢ wp frame (wpE (defs₀ (F := F)) 𝒱₀ (V d c j) none) Set.univ p fun _ => B) :
    A ⊢ iprop((B -∗ wp frame (wpE (defs₀ (F := F)) 𝒱₀ (V d c j) none) Set.univ (kk ()) Q)
      -∗ wp frame (wpE (defs₀ (F := F)) 𝒱₀ (V d c j) none) Set.univ (p >>= kk) Q) := by
  rw [wp_bind]
  iintro HA Hk
  ihave Hw := h $$ HA
  iapply (wp_wand frame (wpE (defs₀ (F := F)) 𝒱₀ (V d c j) none) Set.univ) $$ Hw
  iintro %_ HB
  iapply Hk $$ HB

end Copies

end Cert.Proof.Table

end
-- ==== Proof.P1.lean ====
/-
  The first kernel's task on one tile: the sums of the looked-up entries over the 2048 rows of its 1024 columns.
-/
module

public import proofs.«01_k».proof.Proof.Loops
public import proofs.«01_k».proof.Proof.Dma

@[expose] public section

noncomputable section

namespace Cert.Proof.Table

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

/-! ## The values -/

/-- The first column of a tile. -/
def col0 (L : grid0.Coords) : ℕ := 2048 * (L 1).val + 1024 * (L 0).val

theorem col0_le (L : grid0.Coords) : col0 L + 1024 ≤ 32768 := by
  have h0 : (L 0).val < 2 := (L 0).isLt
  have h1 : (L 1).val < 16 := (L 1).isLt
  unfold col0; omega

/-- The running sum of column `c` after `n` chunks of 32 rows. -/
def colAcc (X : S2048x32768.Idx → BitVec 32) (den : S256.Idx → F .f32) (c : ℕ) : ℕ → F .f32
  | 0 => Scalar.ofBits .f32 0x00000000#32
  | n + 1 => FloatOps.addf (colAcc X den c n) (chunkSum fun r => look den (X (ix2 (32 * n + r) c)))

/-- Rows `32 n` to `32 n + 31` of the 1024 columns from `c`. -/
def chunk (X : S2048x32768.Idx → BitVec 32) (c n : ℕ) : S32x1024.Idx → BitVec 32 :=
  fun i => X (ix2 (32 * n + (i 0).val) (c + (i 1).val))

/-- The column sums of a tile after `n` chunks. -/
def accs (X : S2048x32768.Idx → BitVec 32) (den : S256.Idx → F .f32) (c n : ℕ) : S1024.Idx → F .f32 :=
  fun i => colAcc X den (c + (i 0).val) n

theorem chunkSum_congr {w w' : ℕ → F .f32} (h : ∀ r, r < 32 → w r = w' r) : chunkSum w = chunkSum w' := by
  have e : ∀ j, j < 4 → [0, 4, 8, 12, 16, 20, 24, 28].foldl (fun (a : F .f32) r => FloatOps.addf a (w (r + j))) (Scalar.ofBits .f32 0x00000000#32)
      = [0, 4, 8, 12, 16, 20, 24, 28].foldl (fun (a : F .f32) r => FloatOps.addf a (w' (r + j))) (Scalar.ofBits .f32 0x00000000#32) := by
    intro j hj
    simp only [List.foldl]
    rw [h (0 + j) (by omega), h (4 + j) (by omega), h (8 + j) (by omega), h (12 + j) (by omega), h (16 + j) (by omega), h (20 + j) (by omega),
      h (24 + j) (by omega), h (28 + j) (by omega)]
  exact congrArg₂ FloatOps.addf (congrArg₂ FloatOps.addf (e 0 (by omega)) (e 1 (by omega))) (congrArg₂ FloatOps.addf (e 2 (by omega)) (e 3 (by omega)))

theorem accs_zero (X : S2048x32768.Idx → BitVec 32) (den : S256.Idx → F .f32) (c : ℕ) : accs X den c 0 = zeros := rfl

theorem plusChunk_accs (X : S2048x32768.Idx → BitVec 32) (den : S256.Idx → F .f32) (c n : ℕ) :
    plusChunk (chunk X c n) den (accs X den c n) = accs X den c (n + 1) := by
  funext i
  have hi : (i 0).val < 1024 := (i 0).isLt
  refine congrArg (FloatOps.addf _) (chunkSum_congr fun r hr => ?_)
  unfold chunk
  rw [ix2_val0 (a := 32) (b := 1024) hr, ix2_val1 (a := 32) (b := 1024) hi]

theorem chunk_lt {X : S2048x32768.Idx → BitVec 32} (hX : ∀ i, (X i).toNat < 256) (c n : ℕ) (i : S32x1024.Idx) : (chunk X c n i).toNat < 256 := hX _

section Tile

variable (d : Dev nD) (L : grid0.Coords)

/-- Reading the rows that a copy names. -/
theorem read_rows {off : Fin 2 → ℕ} {inb : ∀ x, off x + S32x1024.size x ≤ S2048x32768.size x} (h) (X : S2048x32768.Idx → BitVec 32) (n : ℕ)
    (h0 : off 0 = 32 * n) (h1 : off 1 = col0 L) :
    ((xV : Memref sig .scVector .hbm S2048x32768 .i32).slice (Rect.unit (s := S2048x32768) off S32x1024.size inb) h).view.read (Elt F) X = chunk X (col0 L) n := by
  funext i
  show X ((Rect.unit (s := S2048x32768) off S32x1024.size inb).emb i) = X _
  congr 1
  apply eq_ix2
  · rw [Rect.emb_apply]; show off 0 + 1 * (i 0).val = _; omega
  · rw [Rect.emb_apply]; show off 1 + 1 * (i 1).val = _; omega

abbrev xL : Loc nD τ sig := (xV : Memref sig .scVector .hbm S2048x32768 .i32).view.loc (tV d L)
abbrev NX : ℕ := (sX0 : Memref sig .scVector .vmem S32x1024 .i32).view.dmaCredit

/-- A chunk on its way into a buffer. -/
abbrev coming (sm : DmaSem sig) (B : Memref sig .scVector .vmem S32x1024 .i32) (f : B.view.ty.Contents (Elt F)) : sProp 𝕄 :=
  Transfers.Flight countersEmb (tV d L) (.dma sm) (none : HIx 2) NX (ptsX d L B f)

/-- The first buffer's chunk added to the column sums, and the second's. -/
theorem t3_at (X : S2048x32768.Idx → BitVec 32) (hX : ∀ i, (X i).toNat < 256) (den : S256.Idx → F .f32) (n : ℕ) :
    iprop(ptsX d L sX0 (chunk X (col0 L) n) ∗ ptsT d L den ∗ ptsD d L (accs X den (col0 L) n))
      ⊢ wp frame (wpE (defs₀ (F := F)) 𝒱₀ (tV d L) none) Set.univ
          (Scf.Loop.for k0_t3_loop k0_t3_ok () (k0_t3_body L xV (Memref.isWhole_whole _) denV (Memref.isWhole_whole _) dsV (Memref.isWhole_whole _) sX0 (Memref.isWhole_whole _) sX1 (Memref.isWhole_whole _) sT (Memref.isWhole_whole _) sD (Memref.isWhole_whole _) cc0_scratch4 cc0_scratch5 cc0_scoped0 cc0_scoped1))
          fun _ => iprop(ptsX d L sX0 (chunk X (col0 L) n) ∗ ptsT d L den ∗ ptsD d L (accs X den (col0 L) (n + 1))) := by
  rw [← plusChunk_accs]
  exact t3_loop (F := F) d L xV (Memref.isWhole_whole _) denV (Memref.isWhole_whole _) dsV (Memref.isWhole_whole _) sX0 (Memref.isWhole_whole _)
    sX1 (Memref.isWhole_whole _) cc0_scratch4 cc0_scratch5 cc0_scoped0 cc0_scoped1 (chunk X (col0 L) n) (fun i => hX _) den _
theorem t4_at (X : S2048x32768.Idx → BitVec 32) (hX : ∀ i, (X i).toNat < 256) (den : S256.Idx → F .f32) (n : ℕ) :
    iprop(ptsX d L sX1 (chunk X (col0 L) n) ∗ ptsT d L den ∗ ptsD d L (accs X den (col0 L) n))
      ⊢ wp frame (wpE (defs₀ (F := F)) 𝒱₀ (tV d L) none) Set.univ
          (Scf.Loop.for k0_t4_loop k0_t4_ok () (k0_t4_body L xV (Memref.isWhole_whole _) denV (Memref.isWhole_whole _) dsV (Memref.isWhole_whole _) sX0 (Memref.isWhole_whole _) sX1 (Memref.isWhole_whole _) sT (Memref.isWhole_whole _) sD (Memref.isWhole_whole _) cc0_scratch4 cc0_scratch5 cc0_scoped0 cc0_scoped1))
          fun _ => iprop(ptsX d L sX1 (chunk X (col0 L) n) ∗ ptsT d L den ∗ ptsD d L (accs X den (col0 L) (n + 1))) := by
  rw [← plusChunk_accs]
  exact t4_loop (F := F) d L xV (Memref.isWhole_whole _) denV (Memref.isWhole_whole _) dsV (Memref.isWhole_whole _) sX0 (Memref.isWhole_whole _)
    sX1 (Memref.isWhole_whole _) cc0_scratch4 cc0_scratch5 cc0_scoped0 cc0_scoped1 (chunk X (col0 L) n) (fun i => hX _) den _

/-- Before trip `t` of the loop over the pairs of chunks. -/
def inv2 (X : S2048x32768.Idx → BitVec 32) (den : S256.Idx → F .f32) (O : CellTallies nD τ sig (HIx 2)) (W : Waits sig (HIx 2)) (t : ℕ) : sProp 𝕄 :=
  iprop(Transfers.MayWaits (tV d L) (none : HIx 2) O ∗ readable (xL d L) X ∗ ptsT d L den ∗ ptsD d L (accs X den (col0 L) (2 * t))
    ∗ (∃ f : S32x1024.Idx → BitVec 32, ptsX d L sX1 f) ∗ semVal (tV d L, .dma cc0_scratch5.sem) 0 ∗ owing d (cV L) (jV L) O W
    ∗ if t < 32 then coming d L cc0_scratch4.sem sX0 (chunk X (col0 L) (2 * t))
      else iprop((∃ f : S32x1024.Idx → BitVec 32, ptsX d L sX0 f) ∗ semVal (tV d L, .dma cc0_scratch4.sem) 0))

theorem cond1_true (t : Fin k0_t2_loop.trips) : k0_cond1 t = 1#1 := by revert t; decide +kernel
theorem cond2_iff (t : Fin k0_t2_loop.trips) : k0_cond2 t = 1#1 ↔ t.val < 31 := by revert t; decide +kernel

theorem t2_trip (X : S2048x32768.Idx → BitVec 32) (hX : ∀ i, (X i).toNat < 256) (den : S256.Idx → F .f32) (O : CellTallies nD τ sig (HIx 2)) (W : Waits sig (HIx 2))
    (t : Fin k0_t2_loop.trips) :
    inv2 d L X den O W t.val
      ⊢ wp frame (wpE (defs₀ (F := F)) 𝒱₀ (tV d L) none) Set.univ
          (k0_t2_body L xV (Memref.isWhole_whole _) denV (Memref.isWhole_whole _) dsV (Memref.isWhole_whole _) sX0 (Memref.isWhole_whole _) sX1 (Memref.isWhole_whole _) sT (Memref.isWhole_whole _) sD (Memref.isWhole_whole _) cc0_scratch4 cc0_scratch5 cc0_scoped0 cc0_scoped1 t ⟨⟩)
          fun _ => inv2 d L X den O W (t.val + 1) := by
  have ht : t.val < 32 := t.isLt
  unfold inv2 k0_t2_body
  rw [if_pos ht, dif_pos (cond1_true t)]
  simp only [Prog.lift, Prog.bind_op, Prog.bind_ret, Prog.pure_eq_ret]
  iintro ⟨#Hmw, Hx, HT, HD, ⟨%f1, H1⟩, Hs1, HO, H0⟩
  iapply (wp_fetch d (cV L) (jV L) (src := (xV : Memref sig .scVector .hbm S2048x32768 .i32).slice (Rect.unit (s := S2048x32768) (k0_off3 L t) S32x1024.size (k0_off3_inb L t (cond1_true t))) (fun _ => rfl))
    (dst := sX1) (fs := X) (fd := f1) NX rfl (View.dmaCredit_pos _ (by decide))) $$ [Hx H1 Hs1]
  · isplitl [Hx]; · iexact Hx
    isplitl [H1]; · iexact H1
    iexact Hs1
  rw [View.write_whole_univ, read_rows L _ X (2 * t.val + 1) (by rw [k0_off3_eq]; show 64 * t.val + 32 = _; omega) (by rw [k0_off3_eq]; rfl)]
  iintro ⟨Hx, H1⟩
  iapply (wp_landed d (cV L) (jV L) rfl) $$ [H0 HO]
  · isplitr; · iexact Hmw
    isplitl [H0]; · iexact H0
    iexact HO
  iintro ⟨H0, Hs0, HO⟩
  iapply (wp_then d (cV L) (jV L) (t3_at d L X hX den (2 * t.val))) $$ [H0 HT HD]
  · isplitl [H0]
    · iexact H0
    isplitl [HT]; · iexact HT
    iexact HD
  iintro ⟨H0, HT, HD⟩
  by_cases h31 : t.val < 31
  · rw [dif_pos ((cond2_iff t).mpr h31), if_pos (show t.val + 1 < 32 by omega)]
    simp only [Prog.bind_op, Prog.bind_ret]
    iapply (wp_fetch d (cV L) (jV L) (src := (xV : Memref sig .scVector .hbm S2048x32768 .i32).slice (Rect.unit (s := S2048x32768) (k0_off38 L t) S32x1024.size (k0_off38_inb L t ((cond2_iff t).mpr h31))) (fun _ => rfl))
      (dst := sX0) (fs := X) (fd := chunk X (col0 L) (2 * t.val)) NX rfl (View.dmaCredit_pos _ (by decide))) $$ [Hx H0 Hs0]
    · isplitl [Hx]; · iexact Hx
      isplitl [H0]; · iexact H0
      iexact Hs0
    rw [View.write_whole_univ, read_rows L _ X (2 * (t.val + 1)) (by rw [k0_off38_eq]; show 64 * t.val + 64 = _; omega) (by rw [k0_off38_eq]; rfl)]
    iintro ⟨Hx, H0⟩
    iapply (wp_landed d (cV L) (jV L) rfl) $$ [H1 HO]
    · isplitr; · iexact Hmw
      isplitl [H1]; · iexact H1
      iexact HO
    iintro ⟨H1, Hs1, HO⟩
    iapply (wp_then d (cV L) (jV L) (t4_at d L X hX den (2 * t.val + 1))) $$ [H1 HT HD]
    · isplitl [H1]; · iexact H1
      isplitl [HT]; · iexact HT
      iexact HD
    iintro ⟨H1, HT, HD⟩
    rw [wp_ret]; imodintro
    isplitr; · iexact Hmw
    isplitl [Hx]; · iexact Hx
    isplitl [HT]; · iexact HT
    isplitl [HD]; · iexact HD
    isplitl [H1]
    · iexists _; iexact H1
    isplitl [Hs1]; · iexact Hs1
    isplitl [HO]; · iexact HO
    iexact H0
  · rw [dif_neg (fun h => h31 ((cond2_iff t).mp h)), if_neg (show ¬ t.val + 1 < 32 by omega)]
    simp only [Prog.bind_ret]
    iapply (wp_landed d (cV L) (jV L) rfl) $$ [H1 HO]
    · isplitr; · iexact Hmw
      isplitl [H1]; · iexact H1
      iexact HO
    iintro ⟨H1, Hs1, HO⟩
    iapply (wp_then d (cV L) (jV L) (t4_at d L X hX den (2 * t.val + 1))) $$ [H1 HT HD]
    · isplitl [H1]; · iexact H1
      isplitl [HT]; · iexact HT
      iexact HD
    iintro ⟨H1, HT, HD⟩
    rw [wp_ret]; imodintro
    isplitr; · iexact Hmw
    isplitl [Hx]; · iexact Hx
    isplitl [HT]; · iexact HT
    isplitl [HD]; · iexact HD
    isplitl [H1]
    · iexists _; iexact H1
    isplitl [Hs1]; · iexact Hs1
    isplitl [HO]; · iexact HO
    isplitl [H0]
    · iexists _; iexact H0
    iexact Hs0

abbrev dsL : Loc nD τ sig := (dsV : Memref sig .scVector .hbm S32768 .f32).view.loc (tV d L)
abbrev denL : Loc nD τ sig := (denV : Memref sig .scVector .hbm S256 .f32).view.loc (tV d L)

/-- A tile's piece of the column sums. -/
abbrev dsRect (L : grid0.Coords) : Rect S32768 := Rect.unit (s := S32768) (k0_off72 L) S1024.size (k0_off72_inb L)
abbrev dsSet (L : grid0.Coords) : Finset S32768.Idx := ((dsV : Memref sig .scVector .hbm S32768 .f32).slice (dsRect L) (fun _ => rfl)).view.set

/-- The column sums, over all columns. -/
def dsOut (X : S2048x32768.Idx → BitVec 32) (den : S256.Idx → F .f32) : S32768.Idx → F .f32 := fun i => colAcc X den (i 0).val 64

/-- What the copy out of the tile leaves in its piece. -/
theorem sent (X : S2048x32768.Idx → BitVec 32) (den : S256.Idx → F .f32) (g : S32768.Idx → F .f32) :
    ∀ i ∈ dsSet L, ((dsV : Memref sig .scVector .hbm S32768 .f32).slice (dsRect L) (fun _ => rfl)).view.write (Elt F) g
      ((sD : Memref sig .scVector .vmem S1024 .f32).view.read (Elt F) (accs X den (col0 L) (2 * 32))) Finset.univ i = dsOut X den i := by
  intro i hi
  obtain ⟨x, -, rfl⟩ := Finset.mem_map.mp hi
  refine (View.write_emb_of_mem _ _ (Finset.mem_univ x)).trans ?_
  show colAcc X den (col0 L + (x 0).val) 64 = colAcc X den ((dsRect L).emb x 0).val 64
  congr 1
  rw [Rect.emb_apply]
  show _ = k0_off72 L 0 + 1 * (x 0).val
  rw [k0_off72_eq]; show _ = col0 L + _; omega

theorem sent_pts (X : S2048x32768.Idx → BitVec 32) (den : S256.Idx → F .f32) (g : S32768.Idx → F .f32) :
    (dsL d L ↦[dsSet L]{fullShare} (((dsV : Memref sig .scVector .hbm S32768 .f32).slice (dsRect L) (fun _ => rfl)).view.write (Elt F) g
      ((sD : Memref sig .scVector .vmem S1024 .f32).view.read (Elt F) (accs X den (col0 L) (2 * 32))) Finset.univ : Buf (Elt F) (dsL d L)) : sProp 𝕄)
      = dsL d L ↦[dsSet L]{fullShare} (dsOut X den : Buf (Elt F) (dsL d L)) := pointsTo_congr (sent L X den g)

/-- The work of a tile of the first kernel. -/
theorem p1_body (X : S2048x32768.Idx → BitVec 32) (hX : ∀ i, (X i).toNat < 256) (den : S256.Idx → F .f32) (O : CellTallies nD τ sig (HIx 2)) (W : Waits sig (HIx 2))
    (g : S32768.Idx → F .f32) :
    iprop(Transfers.MayWaits (tV d L) (none : HIx 2) O ∗ readable (xL d L) X ∗ readable (denL d L) den ∗ (dsL d L ↦[dsSet L]{fullShare} g)
        ∗ (∃ f : S32x1024.Idx → BitVec 32, ptsX d L sX0 f) ∗ (∃ f : S32x1024.Idx → BitVec 32, ptsX d L sX1 f)
        ∗ (∃ f, ptsT d L f) ∗ (∃ f, ptsD d L f)
        ∗ semVal (tV d L, .dma cc0_scratch4.sem) 0 ∗ semVal (tV d L, .dma cc0_scratch5.sem) 0 ∗ semVal (tV d L, .dma cc0_scoped0.sem) 0
        ∗ semVal (tV d L, .dma cc0_scoped1.sem) 0 ∗ owing d (cV L) (jV L) O W)
      ⊢ wp frame (wpE (defs₀ (F := F)) 𝒱₀ (tV d L) none) Set.univ
          (cc0__p1_body L xV (Memref.isWhole_whole _) denV (Memref.isWhole_whole _) dsV (Memref.isWhole_whole _) sX0 (Memref.isWhole_whole _) sX1 (Memref.isWhole_whole _) sT (Memref.isWhole_whole _) sD (Memref.isWhole_whole _) cc0_scratch4 cc0_scratch5 cc0_scoped0 cc0_scoped1)
          fun _ => iprop((dsL d L ↦[dsSet L]{fullShare} dsOut X den)
            ∗ (∃ f : S32x1024.Idx → BitVec 32, ptsX d L sX0 f) ∗ (∃ f : S32x1024.Idx → BitVec 32, ptsX d L sX1 f)
            ∗ (∃ f, ptsT d L f) ∗ (∃ f, ptsD d L f)
            ∗ semVal (tV d L, .dma cc0_scratch4.sem) 0 ∗ semVal (tV d L, .dma cc0_scratch5.sem) 0 ∗ semVal (tV d L, .dma cc0_scoped0.sem) 0
            ∗ semVal (tV d L, .dma cc0_scoped1.sem) 0 ∗ owing d (cV L) (jV L) O W) := by
  rw [cc0__p1_body_eq_skeleton]; unfold cc0__p1_body_skel
  simp only [Prog.lift, Prog.bind_op, Prog.bind_ret, Prog.pure_eq_ret]
  iintro ⟨#Hmw, Hx, Hden, Hds, ⟨%f0, H0⟩, ⟨%f1, H1⟩, ⟨%ft, HT⟩, ⟨%fd, HD⟩, Hs0, Hs1, Hs2, Hs3, HO⟩
  iapply (wp_fetch d (cV L) (jV L) (src := denV) (dst := sT) (fs := den) (fd := ft) _ rfl (View.dmaCredit_pos _ (by decide))) $$ [Hden HT Hs2]
  · isplitl [Hden]; · iexact Hden
    isplitl [HT]; · iexact HT
    iexact Hs2
  rw [View.write_whole_univ]
  iintro ⟨-, HT⟩
  iapply (wp_landed d (cV L) (jV L) rfl) $$ [HT HO]
  · isplitr; · iexact Hmw
    isplitl [HT]; · iexact HT
    iexact HO
  iintro ⟨HT, Hs2, HO⟩
  iapply (wp_then d (cV L) (jV L) (t1_loop (F := F) d L xV (Memref.isWhole_whole _) denV (Memref.isWhole_whole _) dsV (Memref.isWhole_whole _) sX0 (Memref.isWhole_whole _)
    sX1 (Memref.isWhole_whole _) cc0_scratch4 cc0_scratch5 cc0_scoped0 cc0_scoped1 fd)) $$ [HD]
  · iexact HD
  iintro HD
  iapply (wp_fetch d (cV L) (jV L) (src := (xV : Memref sig .scVector .hbm S2048x32768 .i32).slice (Rect.unit (s := S2048x32768) (k0_off2 L) S32x1024.size (k0_off2_inb L)) (fun _ => rfl))
    (dst := sX0) (fs := X) (fd := f0) NX rfl (View.dmaCredit_pos _ (by decide))) $$ [Hx H0 Hs0]
  · isplitl [Hx]; · iexact Hx
    isplitl [H0]; · iexact H0
    iexact Hs0
  rw [View.write_whole_univ, read_rows L _ X (2 * 0) (by rw [k0_off2_eq]; rfl) (by rw [k0_off2_eq]; rfl)]
  iintro ⟨Hx, H0⟩
  iapply (Scf.wp_for_bind frame (wpE (defs₀ (F := F)) 𝒱₀ (tV d L) none) Set.univ _ _ _ k0_t2_ok () _ (fun t _ => inv2 d L X den O W t)
    (fun t _ => t2_trip d L X hX den O W t)) $$ [Hx HT HD H1 Hs1 HO H0]
  · unfold inv2
    rw [if_pos (by omega)]
    isplitr; · iexact Hmw
    isplitl [Hx]; · iexact Hx
    isplitl [HT]; · iexact HT
    isplitl [HD]; · iexact HD
    isplitl [H1]
    · iexists _; iexact H1
    isplitl [Hs1]; · iexact Hs1
    isplitl [HO]; · iexact HO
    iexact H0
  iintro %_
  unfold inv2
  rw [show Scf.trips _ _ _ = 32 from (by decide +kernel : k0_t2_loop.trips = 32), if_neg (by omega)]
  iintro ⟨-, Hx, HT, HD, H1, Hs1, HO, ⟨H0, Hs0⟩⟩
  iapply (wp_send d (cV L) (jV L) (src := sD) (dst := (dsV : Memref sig .scVector .hbm S32768 .f32).slice (dsRect L) (fun _ => rfl)) (fs := accs X den (col0 L) (2 * 32)) (fd := g)
    (View.set_whole _) _ rfl (View.dmaCredit_pos _ (by decide))) $$ [HD Hds Hs3]
  · isplitl [HD]; · iexact HD
    isplitl [Hds]; · iexact Hds
    iexact Hs3
  iintro Hf
  iapply (wp_landed d (cV L) (jV L) rfl) $$ [Hf HO]
  · isplitr; · iexact Hmw
    isplitl [Hf]; · iexact Hf
    iexact HO
  iintro ⟨⟨Hds, HD⟩, Hs3, HO⟩
  rw [wp_ret]; imodintro
  isplitl [Hds]
  · iapply (Entails.of_eq (sent_pts d L X den g)); iexact Hds
  isplitl [H0]; · iexact H0
  isplitl [H1]; · iexact H1
  isplitl [HT]; · iexists _; iexact HT
  isplitl [HD]; · iexists _; iexact HD
  isplitl [Hs0]; · iexact Hs0
  isplitl [Hs1]; · iexact Hs1
  isplitl [Hs2]; · iexact Hs2
  isplitl [Hs3]; · iexact Hs3
  iexact HO

end Tile

end Cert.Proof.Table

end
-- ==== Proof.Pack.lean ====
/-
  The loops of the second kernel that work on a chunk: each column of four rows becomes one word of four bytes.
-/
module

public import proofs.«01_k».proof.Proof.Loops

@[expose] public section

noncomputable section

namespace Cert.Proof.Table

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

/-! ## The values -/

/-- A looked-up value times a column's factor, as a whole number of at most 255. -/
def level (v rec : F .f32) : BitVec 32 := IntOp.minsi (FloatOps.fptosi 32 (FloatOps.mulf v rec)) 255#32

/-- Four levels side by side in a word. -/
def word (v : ℕ → F .f32) (rec : F .f32) : BitVec 32 :=
  IntOp.ori (IntOp.ori (IntOp.ori (IntOp.ori 0#32 (IntOp.shli .vector (level (v 0) rec) 0#32)) (IntOp.shli .vector (level (v 1) rec) 8#32))
    (IntOp.shli .vector (level (v 2) rec) 16#32)) (IntOp.shli .vector (level (v 3) rec) 24#32)

/-- The word of rows `4 r` to `4 r + 3` of column `c` of a chunk. -/
def packs (X : S32x1024.Idx → BitVec 32) (nb : S256.Idx → F .f32) (rb : S1024.Idx → F .f32) (r c : ℕ) : BitVec 32 :=
  word (fun k => look nb (X (ix2 (4 * r + k) c))) (rb (ix1 c))

/-- The words of the first `g` groups of sixteen columns, and of the first `r` rows of the next, are there. -/
def filled (X : S32x1024.Idx → BitVec 32) (nb : S256.Idx → F .f32) (rb : S1024.Idx → F .f32) (g r : ℕ) (G : S8x1024.Idx → BitVec 32) : Prop :=
  ∀ i : S8x1024.Idx, ((i 1).val < 16 * g ∨ ((i 1).val < 16 * (g + 1) ∧ (i 0).val < r)) → G i = packs X nb rb (i 0).val (i 1).val

variable {sp : Space}

/-- A store of sixteen words into a row of a two-dimensional array, read at an index. -/
theorem read_store_row {a b : ℕ} [NeZero a] [NeZero b] {e : EltTy} (v : View sig .scVector sp (⟨2, ![a, b]⟩ : Shape) e) (f : v.ty.Contents (Elt F))
    (off : Fin 2 → ℕ) (inb : ∀ x, off x + S1x16.size x ≤ (⟨2, ![a, b]⟩ : Shape).size x) (w : S16.Idx → Elt F e) (i : (⟨2, ![a, b]⟩ : Shape).Idx) :
    v.read (Elt F) ((v.slice (Rect.unit (s := (⟨2, ![a, b]⟩ : Shape)) off S1x16.size inb)).write (Elt F) f (shapeCast S1x16 w shapeCasts_S16_S1x16) Finset.univ) i
      = if (i 0).val = off 0 ∧ off 1 ≤ (i 1).val ∧ (i 1).val < off 1 + 16 then w (ix1 ((i 1).val - off 1)) else v.read (Elt F) f i := by
  split_ifs with h
  · have e : i = (Rect.unit (s := (⟨2, ![a, b]⟩ : Shape)) off S1x16.size inb).emb (ix2 (a := 1) (b := 16) 0 ((i 1).val - off 1)) := by
      funext x; apply Fin.ext
      match x with
      | 0 =>
        rw [Rect.emb_apply]
        show _ = off 0 + 1 * ((ix2 (a := 1) (b := 16) 0 ((i 1).val - off 1)) 0).val
        rw [ix2_val0 (by omega)]; omega
      | 1 =>
        rw [Rect.emb_apply]
        show _ = off 1 + 1 * ((ix2 (a := 1) (b := 16) 0 ((i 1).val - off 1)) 1).val
        rw [ix2_val1 (by omega)]; omega
    conv_lhs => rw [e]
    refine (View.read_slice_write_emb _ _ _ (Finset.mem_univ _)).trans ?_
    show w _ = w _
    congr 1
    have e2 : ∀ n, n < 16 → Shape.reshapeEquiv shapeCasts_S16_S1x16 (ix2 (a := 1) (b := 16) 0 n) = ix1 (a := 16) n := by decide +kernel
    exact e2 _ (by omega)
  · refine View.read_slice_write_of_not_mem _ _ _ _ fun hm => h ?_
    obtain ⟨x, -, rfl⟩ := Finset.mem_map.mp hm
    rw [Rect.emb_apply, Rect.emb_apply]
    have hx0 : (x 0).val < 1 := (x 0).isLt
    have hx1 : (x 1).val < 16 := (x 1).isLt
    refine ⟨?_, ?_, ?_⟩
    · show off 0 + 1 * (x 0).val = off 0; omega
    · show off 1 ≤ off 1 + 1 * (x 1).val; omega
    · show off 1 + 1 * (x 1).val < off 1 + 16; omega

/-- The store that ends row `r` of group `g`. -/
theorem filled_store (X : S32x1024.Idx → BitVec 32) (nb : S256.Idx → F .f32) (rb : S1024.Idx → F .f32) (g r : ℕ) (hr : r < 8) (hg : g < 64)
    (B : Memref sig .scVector .vmem S8x1024 .i32) (G : B.view.ty.Contents (Elt F)) (hG : filled X nb rb g r (B.view.read (Elt F) G))
    (off : Fin 2 → ℕ) (inb : ∀ x, off x + S1x16.size x ≤ S8x1024.size x) (h0 : off 0 = r) (h1 : off 1 = 16 * g) (w : S16.Idx → BitVec 32)
    (hw : ∀ l : S16.Idx, w l = packs X nb rb r (16 * g + (l 0).val)) :
    filled X nb rb g (r + 1) (B.view.read (Elt F) ((B.access (Rect.unit (s := S8x1024) off S1x16.size inb)).write (Elt F) G (shapeCast S1x16 w shapeCasts_S16_S1x16) Finset.univ)) := by
  intro i hi
  refine (read_store_row (F := F) B.view G off inb w i).trans ?_
  by_cases h : (i 0).val = off 0 ∧ off 1 ≤ (i 1).val ∧ (i 1).val < off 1 + 16
  · refine (if_pos h).trans ?_
    rw [hw, ix1_val (show (i 1).val - off 1 < 16 by omega), show 16 * g + ((i 1).val - off 1) = (i 1).val by omega, show r = (i 0).val by omega]
  · refine (if_neg h).trans (hG i ?_)
    omega

theorem filled_next (X : S32x1024.Idx → BitVec 32) (nb : S256.Idx → F .f32) (rb : S1024.Idx → F .f32) (g : ℕ) (G : S8x1024.Idx → BitVec 32)
    (hG : filled X nb rb g 8 G) : filled X nb rb (g + 1) 0 G := by
  intro i hi
  have h0 : (i 0).val < 8 := (i 0).isLt
  exact hG i (by omega)

theorem filled_none (X : S32x1024.Idx → BitVec 32) (nb : S256.Idx → F .f32) (rb : S1024.Idx → F .f32) (G : S8x1024.Idx → BitVec 32) : filled X nb rb 0 0 G := by
  intro i hi; omega

theorem filled_all (X : S32x1024.Idx → BitVec 32) (nb : S256.Idx → F .f32) (rb : S1024.Idx → F .f32) (G : S8x1024.Idx → BitVec 32)
    (hG : filled X nb rb 64 0 G) (i : S8x1024.Idx) : G i = packs X nb rb (i 0).val (i 1).val := by
  have h1 : (i 1).val < 1024 := (i 1).isLt
  exact hG i (by omega)

/-! ## The buffers of the second kernel's tiles -/

abbrev numV : Memref sig .scVector .hbm S256 .f32 := Memref.whole main_arg2_scv
abbrev recV : Memref sig .scVector .hbm S32768 .f32 := Memref.whole main_v2_scv
abbrev outV : Memref sig .scVector .hbm S512x32768 .i32 := Memref.whole main_v3_scv
abbrev tX0 : Memref sig .scVector .vmem S32x1024 .i32 := Memref.whole cc1_scratch0
abbrev tX1 : Memref sig .scVector .vmem S32x1024 .i32 := Memref.whole cc1_scratch1
abbrev tO0 : Memref sig .scVector .vmem S8x1024 .i32 := Memref.whole cc1_scratch2
abbrev tO1 : Memref sig .scVector .vmem S8x1024 .i32 := Memref.whole cc1_scratch3
abbrev tN : Memref sig .scVector .vmem S256 .f32 := Memref.whole cc1_scratch4
abbrev tR : Memref sig .scVector .vmem S1024 .f32 := Memref.whole cc1_scratch5

section Body

variable (d : Dev nD) (L : grid0.Coords)
  (arg2 : Memref sig .scVector .hbm S2048x32768 .i32) (harg2 : arg2.IsWhole) (arg3 : Memref sig .scVector .hbm S256 .f32) (harg3 : arg3.IsWhole)
  (arg4 : Memref sig .scVector .hbm S32768 .f32) (harg4 : arg4.IsWhole) (arg5 : Memref sig .scVector .hbm S512x32768 .i32) (harg5 : arg5.IsWhole)
  (arg6 : Memref sig .scVector .vmem S32x1024 .i32) (harg6 : arg6.IsWhole) (arg7 : Memref sig .scVector .vmem S32x1024 .i32) (harg7 : arg7.IsWhole)
  (arg8 : Memref sig .scVector .vmem S8x1024 .i32) (harg8 : arg8.IsWhole) (arg9 : Memref sig .scVector .vmem S8x1024 .i32) (harg9 : arg9.IsWhole)
  (arg12 arg13 arg14 arg15 v10_r0 v10_r1 : DmaSems sig S_) (c0 c1 : BitVec 32) (t : Fin k1_t1_loop.trips)

/-- The tile's table scratch and its factors holding an array; an output buffer holding an array. -/
abbrev ptsN (nb : S256.Idx → F .f32) : sProp 𝕄 := (tV d L).loc cc1_scratch4 ↦{fullShare} (nb : Buf (Elt F) ((tV d L).loc cc1_scratch4))
abbrev ptsR (rb : S1024.Idx → F .f32) : sProp 𝕄 := (tV d L).loc cc1_scratch5 ↦{fullShare} (rb : Buf (Elt F) ((tV d L).loc cc1_scratch5))
abbrev ptsO (B : Memref sig .scVector .vmem S8x1024 .i32) (G : B.view.ty.Contents (Elt F)) : sProp 𝕄 := B.view.loc (tV d L) ↦{fullShare} (G : Buf (Elt F) (B.view.loc (tV d L)))

/-- An output buffer filled up to a row of a group. -/
abbrev part (B : Memref sig .scVector .vmem S8x1024 .i32) (X : S32x1024.Idx → BitVec 32) (nb : S256.Idx → F .f32) (rb : S1024.Idx → F .f32) (g r : ℕ) : sProp 𝕄 :=
  iprop(∃ G : B.view.ty.Contents (Elt F), ⌜filled X nb rb g r (B.view.read (Elt F) G)⌝ ∗ ptsO d L B G)

theorem ptsO_access (B : Memref sig .scVector .vmem S8x1024 .i32) (r : Rect S8x1024) (G : B.view.ty.Contents (Elt F)) :
    ((B.access r).loc (tV d L) ↦{fullShare} (G : Buf (Elt F) (B.view.loc (tV d L))) : sProp 𝕄) = ptsO d L B G := rfl

set_option maxHeartbeats 4000000 in
theorem row_trip (f : arg6.view.ty.Contents (Elt F)) (hf : ∀ i, (arg6.view.read (Elt F) f i : BitVec 32).toNat < 256)
    (nb : S256.Idx → F .f32) (rb : S1024.Idx → F .f32) (g : Fin k1_t2_loop.trips) (v42 : BitVec 32) (v44 : Vec F S16 .f32)
    (hv : ∀ l : S16.Idx, v44 l = rb (ix1 (16 * g.val + (l 0).val))) (r : Fin k1_t3_loop.trips) :
    iprop(ptsX d L arg6 f ∗ ptsN d L nb ∗ part d L arg8 (arg6.view.read (Elt F) f) nb rb g.val r.val)
      ⊢ wp frame (wpE (defs₀ (F := F)) 𝒱₀ (tV d L) none) Set.univ
          (k1_t3_body L arg2 harg2 arg3 harg3 arg4 harg4 arg5 harg5 arg6 harg6 arg7 harg7 arg8 harg8 arg9 harg9 tN (Memref.isWhole_whole _) tR (Memref.isWhole_whole _)
            arg12 arg13 arg14 arg15 v10_r0 v10_r1 c0 c1 t g v42 v44 r ())
          fun _ => iprop(ptsX d L arg6 f ∗ ptsN d L nb ∗ part d L arg8 (arg6.view.read (Elt F) f) nb rb g.val (r.val + 1)) := by
  unfold k1_t3_body
  simp only [Prog.lift, Prog.bind_op, Prog.bind_ret, Prog.pure_eq_ret]
  iintro ⟨Hx, Ht, ⟨%G, %hG, Ho⟩⟩
  rw [wp_bind, k1_part1_eq_skeleton]
  unfold k1_part1_skel
  simp only [Prog.lift, Prog.bind_op, Prog.bind_ret, Prog.pure_eq_ret]
  iterate 3
    iapply (wp_load 𝒱₀ (tV d L) none Set.univ (m := arg6) (S := Finset.univ) (Finset.subset_univ _)) $$ Hx; iintro Hx
    rw [wp_assume_of _ _ _ _ ?hc]
    case hc => exact row_ok arg6 f hf _ _
    iapply (wp_gather d arg6 f tN nb) $$ Ht; iintro Ht
  rw [wp_ret]; imodintro
  dsimp only
  iapply (wp_load 𝒱₀ (tV d L) none Set.univ (m := arg6) (S := Finset.univ) (Finset.subset_univ _)) $$ Hx; iintro Hx
  rw [wp_assume_of _ _ _ _ ?hc]
  case hc => exact row_ok arg6 f hf _ _
  iapply (wp_gather d arg6 f tN nb) $$ Ht; iintro Ht
  iapply (wp_load 𝒱₀ (tV d L) none Set.univ (m := arg8) (S := Finset.univ) (Finset.subset_univ _)) $$ Ho; iintro Ho
  ihave Ho := (Entails.of_eq (ptsO_access (F := F) d L arg8 (Rect.unit (s := S8x1024) (k1_off11 g r) S1x16.size (k1_off11_inb g r)) _).symm) $$ Ho
  iapply (wp_store 𝒱₀ (tV d L) none Set.univ (m := arg8) (Mk := Finset.univ) (S := Finset.univ) (Finset.subset_univ _)) $$ Ho; iintro Ho
  rw [wp_ret]; imodintro
  isplitl [Hx]; · iexact Hx
  isplitl [Ht]; · iexact Ht
  iexists _
  isplitr [Ho]
  rotate_left
  · iexact Ho
  ipureintro
  refine filled_store (F := F) _ nb rb g.val r.val r.isLt g.isLt arg8 G hG _ _ (by rw [k1_off11_eq]; rfl) (by rw [k1_off11_eq]; rfl) _ ?_
  intro l
  simp only [k1_off7_eq, k1_off8_eq, k1_off9_eq, k1_off10_eq]
  unfold packs
  have e : rb (ix1 (16 * g.val + (l 0).val)) = v44 l := (hv l).symm
  rw [e]; rfl

/-- A group's trip. -/
theorem group_trip (f : arg6.view.ty.Contents (Elt F)) (hf : ∀ i, (arg6.view.read (Elt F) f i : BitVec 32).toNat < 256)
    (nb : S256.Idx → F .f32) (rb : S1024.Idx → F .f32) (g : Fin k1_t2_loop.trips) :
    iprop(ptsX d L arg6 f ∗ ptsN d L nb ∗ ptsR d L rb ∗ part d L arg8 (arg6.view.read (Elt F) f) nb rb g.val 0)
      ⊢ wp frame (wpE (defs₀ (F := F)) 𝒱₀ (tV d L) none) Set.univ
          (k1_t2_body L arg2 harg2 arg3 harg3 arg4 harg4 arg5 harg5 arg6 harg6 arg7 harg7 arg8 harg8 arg9 harg9 tN (Memref.isWhole_whole _) tR (Memref.isWhole_whole _)
            arg12 arg13 arg14 arg15 v10_r0 v10_r1 c0 c1 t g ())
          fun _ => iprop(ptsX d L arg6 f ∗ ptsN d L nb ∗ ptsR d L rb ∗ part d L arg8 (arg6.view.read (Elt F) f) nb rb (g.val + 1) 0) := by
  unfold k1_t2_body
  simp only [Prog.lift, Prog.bind_op, Prog.bind_ret, Prog.pure_eq_ret]
  iintro ⟨Hx, Ht, Hr, Ho⟩
  iapply (wp_load 𝒱₀ (tV d L) none Set.univ (m := (tR : Memref sig .scVector .vmem S1024 .f32)) (S := Finset.univ) (Finset.subset_univ _)) $$ Hr; iintro Hr
  iapply (Scf.wp_for_bind frame (wpE (defs₀ (F := F)) 𝒱₀ (tV d L) none) Set.univ _ _ _ k1_t3_ok () _
    (fun r _ => iprop(ptsX d L arg6 f ∗ ptsN d L nb ∗ part d L arg8 (arg6.view.read (Elt F) f) nb rb g.val r))
    (fun r _ => row_trip d L arg2 harg2 arg3 harg3 arg4 harg4 arg5 harg5 arg6 harg6 arg7 harg7 arg8 harg8 arg9 harg9 arg12 arg13 arg14 arg15 v10_r0 v10_r1 c0 c1 t f hf nb rb g _ _ ?hv r)) $$ [Hx Ht Ho]
  case hv =>
    intro l
    refine (load16 (F := F) (tR : Memref sig .scVector .vmem S1024 .f32).view _ _ _ l).trans ?_
    rw [k1_off6_eq]; rfl
  · isplitl [Hx]; · iexact Hx
    isplitl [Ht]; · iexact Ht
    iexact Ho
  iintro %_
  rw [show Scf.trips _ _ _ = 8 from (by decide +kernel : k1_t3_loop.trips = 8)]
  iintro ⟨Hx, Ht, ⟨%G, %hG, Ho⟩⟩
  rw [wp_ret]; imodintro
  isplitl [Hx]; · iexact Hx
  isplitl [Ht]; · iexact Ht
  isplitl [Hr]; · iexact Hr
  iexists G
  isplitr [Ho]
  · ipureintro; exact filled_next _ _ _ _ _ hG
  iexact Ho

/-- A chunk's words in an output buffer. -/
abbrev packed (B : Memref sig .scVector .vmem S8x1024 .i32) (X : S32x1024.Idx → BitVec 32) (nb : S256.Idx → F .f32) (rb : S1024.Idx → F .f32) : sProp 𝕄 :=
  iprop(∃ G : B.view.ty.Contents (Elt F), ⌜∀ i : S8x1024.Idx, B.view.read (Elt F) G i = packs X nb rb (i 0).val (i 1).val⌝ ∗ ptsO d L B G)

theorem pack_loop (f : arg6.view.ty.Contents (Elt F)) (hf : ∀ i, (arg6.view.read (Elt F) f i : BitVec 32).toNat < 256)
    (nb : S256.Idx → F .f32) (rb : S1024.Idx → F .f32) :
    iprop(ptsX d L arg6 f ∗ ptsN d L nb ∗ ptsR d L rb ∗ ∃ G : arg8.view.ty.Contents (Elt F), ptsO d L arg8 G)
      ⊢ wp frame (wpE (defs₀ (F := F)) 𝒱₀ (tV d L) none) Set.univ
          (Scf.Loop.for k1_t2_loop k1_t2_ok () (k1_t2_body L arg2 harg2 arg3 harg3 arg4 harg4 arg5 harg5 arg6 harg6 arg7 harg7 arg8 harg8 arg9 harg9 tN (Memref.isWhole_whole _) tR (Memref.isWhole_whole _)
            arg12 arg13 arg14 arg15 v10_r0 v10_r1 c0 c1 t))
          fun _ => iprop(ptsX d L arg6 f ∗ ptsN d L nb ∗ ptsR d L rb ∗ packed d L arg8 (arg6.view.read (Elt F) f) nb rb) := by
  iintro ⟨Hx, Ht, Hr, ⟨%G, Ho⟩⟩
  iapply (Scf.wp_for frame (wpE (defs₀ (F := F)) 𝒱₀ (tV d L) none) Set.univ _ _ _ k1_t2_ok () _
    (fun g _ => iprop(ptsX d L arg6 f ∗ ptsN d L nb ∗ ptsR d L rb ∗ part d L arg8 (arg6.view.read (Elt F) f) nb rb g 0))
    (fun g _ => group_trip d L arg2 harg2 arg3 harg3 arg4 harg4 arg5 harg5 arg6 harg6 arg7 harg7 arg8 harg8 arg9 harg9 arg12 arg13 arg14 arg15 v10_r0 v10_r1 c0 c1 t f hf nb rb g))
  isplitl [Hx Ht Hr Ho]
  · isplitl [Hx]; · iexact Hx
    isplitl [Ht]; · iexact Ht
    isplitl [Hr]; · iexact Hr
    iexists G
    isplitr [Ho]
    · ipureintro; exact filled_none _ _ _ _
    iexact Ho
  iintro %_
  rw [show Scf.trips _ _ _ = 64 from (by decide +kernel : k1_t2_loop.trips = 64)]
  iintro ⟨Hx, Ht, Hr, ⟨%G', %hG, Ho⟩⟩
  isplitl [Hx]; · iexact Hx
  isplitl [Ht]; · iexact Ht
  isplitl [Hr]; · iexact Hr
  iexists G'
  isplitr [Ho]
  · ipureintro; exact filled_all _ _ _ _ hG
  iexact Ho

theorem pack_body_eq : k1_t4_body (F := F) L arg2 harg2 arg3 harg3 arg4 harg4 arg5 harg5 arg6 harg6 arg7 harg7 arg8 harg8 arg9 harg9 tN (Memref.isWhole_whole _) tR (Memref.isWhole_whole _)
      arg12 arg13 arg14 arg15 v10_r0 v10_r1
    = k1_t2_body (F := F) L arg2 harg2 arg3 harg3 arg4 harg4 arg5 harg5 arg7 harg7 arg6 harg6 arg9 harg9 arg8 harg8 tN (Memref.isWhole_whole _) tR (Memref.isWhole_whole _)
      arg12 arg13 arg14 arg15 v10_r0 v10_r1 c0 c1 t := rfl

theorem pack_loop' (f : arg7.view.ty.Contents (Elt F)) (hf : ∀ i, (arg7.view.read (Elt F) f i : BitVec 32).toNat < 256)
    (nb : S256.Idx → F .f32) (rb : S1024.Idx → F .f32) :
    iprop(ptsX d L arg7 f ∗ ptsN d L nb ∗ ptsR d L rb ∗ ∃ G : arg9.view.ty.Contents (Elt F), ptsO d L arg9 G)
      ⊢ wp frame (wpE (defs₀ (F := F)) 𝒱₀ (tV d L) none) Set.univ
          (Scf.Loop.for k1_t4_loop k1_t4_ok () (k1_t4_body L arg2 harg2 arg3 harg3 arg4 harg4 arg5 harg5 arg6 harg6 arg7 harg7 arg8 harg8 arg9 harg9 tN (Memref.isWhole_whole _) tR (Memref.isWhole_whole _)
            arg12 arg13 arg14 arg15 v10_r0 v10_r1))
          fun _ => iprop(ptsX d L arg7 f ∗ ptsN d L nb ∗ ptsR d L rb ∗ packed d L arg9 (arg7.view.read (Elt F) f) nb rb) := by
  rw [pack_body_eq (c0 := 0#32) (c1 := 1#32) (t := ⟨0, by decide +kernel⟩)]
  exact pack_loop d L arg2 harg2 arg3 harg3 arg4 harg4 arg5 harg5 arg7 harg7 arg6 harg6 arg9 harg9 arg8 harg8 arg12 arg13 arg14 arg15 v10_r0 v10_r1 0#32 1#32 ⟨0, by decide +kernel⟩ f hf nb rb

end Body

end Cert.Proof.Table

end
-- ==== Proof.P2.lean ====
/-
  The second kernel's task on one tile: its 1024 columns of levels, four rows to a word.
-/
module

public import proofs.«01_k».proof.Proof.Pack
public import proofs.«01_k».proof.Proof.P1

@[expose] public section

noncomputable section

namespace Cert.Proof.Table

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

/-! ## The values -/

/-- The words over all rows and columns: the levels of rows `4 r` to `4 r + 3` of column `c`. -/
def outVal (X : S2048x32768.Idx → BitVec 32) (nb : S256.Idx → F .f32) (rec : S32768.Idx → F .f32) : S512x32768.Idx → BitVec 32 :=
  fun i => word (fun k => look nb (X (ix2 (4 * (i 0).val + k) (i 1).val))) (rec (ix1 (i 1).val))

/-- The 1024 factors of a tile. -/
def recAt (rec : S32768.Idx → F .f32) (c : ℕ) : S1024.Idx → F .f32 := fun i => rec (ix1 (c + (i 0).val))

theorem word_congr {v v' : ℕ → F .f32} (h : ∀ k, k < 4 → v k = v' k) (rec : F .f32) : word v rec = word v' rec := by
  unfold word
  rw [h 0 (by omega), h 1 (by omega), h 2 (by omega), h 3 (by omega)]

/-- Rows `a` to `b` of a tile's columns of the words. -/
def rows (L : grid0.Coords) (a b : ℕ) : Finset S512x32768.Idx :=
  Finset.univ.filter fun i => (a ≤ (i 0).val ∧ (i 0).val < b) ∧ col0 L ≤ (i 1).val ∧ (i 1).val < col0 L + 1024

theorem mem_rows {L : grid0.Coords} {a b : ℕ} {i : S512x32768.Idx} :
    i ∈ rows L a b ↔ (a ≤ (i 0).val ∧ (i 0).val < b) ∧ col0 L ≤ (i 1).val ∧ (i 1).val < col0 L + 1024 := by
  unfold rows; rw [Finset.mem_filter]; exact ⟨fun h => h.2, fun h => ⟨Finset.mem_univ _, h⟩⟩

theorem rows_union (L : grid0.Coords) {a b c : ℕ} (hab : a ≤ b) (hbc : b ≤ c) : rows L a c = rows L a b ∪ rows L b c := by
  ext i; rw [Finset.mem_union, mem_rows, mem_rows, mem_rows]; omega

theorem rows_disjoint (L : grid0.Coords) (a b c : ℕ) : Disjoint (rows L a b) (rows L b c) := by
  rw [Finset.disjoint_left]; intro i h h'; rw [mem_rows] at h h'; omega

/-- The rows that a copy out of a tile names. -/
theorem slice_rows (L : grid0.Coords) {off : Fin 2 → ℕ} {inb : ∀ x, off x + S8x1024.size x ≤ S512x32768.size x} (h) (n : ℕ)
    (h0 : off 0 = 8 * n) (h1 : off 1 = col0 L) :
    ((outV : Memref sig .scVector .hbm S512x32768 .i32).slice (Rect.unit (s := S512x32768) off S8x1024.size inb) h).view.set = rows L (8 * n) (8 * (n + 1)) := by
  ext i
  rw [mem_rows]
  constructor
  · intro hi
    obtain ⟨x, -, rfl⟩ := Finset.mem_map.mp hi
    have hx0 : (x 0).val < 8 := (x 0).isLt
    have hx1 : (x 1).val < 1024 := (x 1).isLt
    have e0 : ((Rect.unit (s := S512x32768) off S8x1024.size inb).emb x 0).val = off 0 + 1 * (x 0).val := Rect.emb_apply ..
    have e1 : ((Rect.unit (s := S512x32768) off S8x1024.size inb).emb x 1).val = off 1 + 1 * (x 1).val := Rect.emb_apply ..
    refine ⟨⟨?_, ?_⟩, ?_, ?_⟩
    · show 8 * n ≤ ((Rect.unit (s := S512x32768) off S8x1024.size inb).emb x 0).val; omega
    · show ((Rect.unit (s := S512x32768) off S8x1024.size inb).emb x 0).val < 8 * (n + 1); omega
    · show col0 L ≤ ((Rect.unit (s := S512x32768) off S8x1024.size inb).emb x 1).val; omega
    · show ((Rect.unit (s := S512x32768) off S8x1024.size inb).emb x 1).val < col0 L + 1024; omega
  · intro hi
    refine Finset.mem_map.mpr ⟨ix2 (a := 8) (b := 1024) ((i 0).val - 8 * n) ((i 1).val - col0 L), Finset.mem_univ _, ?_⟩
    funext x; apply Fin.ext
    match x with
    | 0 =>
      refine (Rect.emb_apply (Rect.unit (s := S512x32768) off S8x1024.size inb) _ 0).trans ?_
      show off 0 + 1 * ((ix2 (a := 8) (b := 1024) ((i 0).val - 8 * n) ((i 1).val - col0 L)) 0).val = _
      rw [ix2_val0 (by omega)]; omega
    | 1 =>
      refine (Rect.emb_apply (Rect.unit (s := S512x32768) off S8x1024.size inb) _ 1).trans ?_
      show off 1 + 1 * ((ix2 (a := 8) (b := 1024) ((i 0).val - 8 * n) ((i 1).val - col0 L)) 1).val = _
      rw [ix2_val1 (by omega)]; omega

section Tile

variable (d : Dev nD) (L : grid0.Coords)

abbrev outL : Loc nD τ sig := (outV : Memref sig .scVector .hbm S512x32768 .i32).view.loc (tV d L)
abbrev numL : Loc nD τ sig := (numV : Memref sig .scVector .hbm S256 .f32).view.loc (tV d L)
abbrev recL : Loc nD τ sig := (recV : Memref sig .scVector .hbm S32768 .f32).view.loc (tV d L)

/-- Rows of a tile's columns of the words, holding an array's. -/
abbrev ptsRows (a b : ℕ) (G : S512x32768.Idx → BitVec 32) : sProp 𝕄 := outL d L ↦[rows L a b]{fullShare} (G : Buf (Elt F) (outL d L))

theorem ptsRows_split {a b c : ℕ} (hab : a ≤ b) (hbc : b ≤ c) (G : S512x32768.Idx → BitVec 32) :
    ptsRows (F := F) d L a c G ⊣⊢ iprop(ptsRows d L a b G ∗ ptsRows d L b c G) := by
  unfold ptsRows
  rw [rows_union L hab hbc]
  exact pointsTo_union (rows_disjoint L a b c)

/-- What the copy of chunk `n`'s words leaves. -/
theorem sentRows (X : S2048x32768.Idx → BitVec 32) (nb : S256.Idx → F .f32) (rec : S32768.Idx → F .f32) (g : S512x32768.Idx → BitVec 32)
    {off : Fin 2 → ℕ} {inb : ∀ x, off x + S8x1024.size x ≤ S512x32768.size x} (h) (n : ℕ) (h0 : off 0 = 8 * n) (h1 : off 1 = col0 L)
    (w : S8x1024.Idx → BitVec 32) (hw : ∀ i, w i = packs (chunk X (col0 L) n) nb (recAt rec (col0 L)) (i 0).val (i 1).val) :
    (outL d L ↦[((outV : Memref sig .scVector .hbm S512x32768 .i32).slice (Rect.unit (s := S512x32768) off S8x1024.size inb) h).view.set]{fullShare}
        (((outV : Memref sig .scVector .hbm S512x32768 .i32).slice (Rect.unit (s := S512x32768) off S8x1024.size inb) h).view.write (Elt F) g w Finset.univ : Buf (Elt F) (outL d L)) : sProp 𝕄)
      = ptsRows d L (8 * n) (8 * (n + 1)) (outVal X nb rec) := by
  rw [pointsTo_congr (g := (outVal X nb rec : Buf (Elt F) (outL d L)))]
  · unfold ptsRows; rw [slice_rows L h n h0 h1]
  · intro i hi
    obtain ⟨x, -, rfl⟩ := Finset.mem_map.mp hi
    have hx0 : (x 0).val < 8 := (x 0).isLt
    have hx1 : (x 1).val < 1024 := (x 1).isLt
    refine (View.write_emb_of_mem _ _ (Finset.mem_univ x)).trans ?_
    rw [hw]
    have e0 : ((Rect.unit (s := S512x32768) off S8x1024.size inb).emb x 0).val = 8 * n + (x 0).val := (Rect.emb_apply ..).trans (by show off 0 + 1 * (x 0).val = _; omega)
    have e1 : ((Rect.unit (s := S512x32768) off S8x1024.size inb).emb x 1).val = col0 L + (x 1).val := (Rect.emb_apply ..).trans (by show off 1 + 1 * (x 1).val = _; omega)
    show packs (chunk X (col0 L) n) nb (recAt rec (col0 L)) (x 0).val (x 1).val
      = word (fun k => look nb (X (ix2 (4 * ((Rect.unit (s := S512x32768) off S8x1024.size inb).emb x 0).val + k) ((Rect.unit (s := S512x32768) off S8x1024.size inb).emb x 1).val)))
          (rec (ix1 ((Rect.unit (s := S512x32768) off S8x1024.size inb).emb x 1).val))
    rw [e0, e1]
    unfold packs recAt
    rw [ix1_val (a := 1024) hx1]
    refine word_congr (fun k hk => ?_) _
    unfold chunk
    rw [ix2_val0 (a := 32) (b := 1024) (show 4 * (x 0).val + k < 32 by omega), ix2_val1 (a := 32) (b := 1024) hx1,
      show 32 * n + (4 * (x 0).val + k) = 4 * (8 * n + (x 0).val) + k by omega]

abbrev NO : ℕ := (tO0 : Memref sig .scVector .vmem S8x1024 .i32).view.dmaCredit

/-- Chunk `n`'s words on their way out of a buffer. -/
abbrev going (sm : DmaSem sig) (B : Memref sig .scVector .vmem S8x1024 .i32) (n : ℕ) (W : S512x32768.Idx → BitVec 32) : sProp 𝕄 :=
  iprop(∃ G : B.view.ty.Contents (Elt F), Transfers.Flight countersEmb (tV d L) (.dma sm) (none : HIx 2) NO iprop(ptsRows d L (8 * n) (8 * (n + 1)) W ∗ ptsO d L B G))

/-- A buffer with nothing on its way. -/
abbrev idle (sm : DmaSem sig) (B : Memref sig .scVector .vmem S8x1024 .i32) : sProp 𝕄 :=
  iprop((∃ G : B.view.ty.Contents (Elt F), ptsO d L B G) ∗ semVal (tV d L, .dma sm) 0)

/-- The start of the copy of chunk `n`'s words. -/
theorem wp_sendOut (X : S2048x32768.Idx → BitVec 32) (nb : S256.Idx → F .f32) (rec : S32768.Idx → F .f32) (g : S512x32768.Idx → BitVec 32)
    {B : Memref sig .scVector .vmem S8x1024 .i32} {sm : DmaSem sig} {off : Fin 2 → ℕ} {inb : ∀ x, off x + S8x1024.size x ≤ S512x32768.size x} {h}
    {hsrc : B.view.WordExact} {hdst : ((outV : Memref sig .scVector .hbm S512x32768 .i32).slice (Rect.unit (s := S512x32768) off S8x1024.size inb) h).view.WordExact}
    {hsem : DmaTarget.Typed (nD := nD) (τ := τ) (p := (tV d L).2) .vmem (.dma sm) (.here ((outV : Memref sig .scVector .hbm S512x32768 .i32).slice (Rect.unit (s := S512x32768) off S8x1024.size inb) h))}
    {α : Type} {k : PUnit → Prog (TpuEff nD τ sig (Elt F) Λ₀ (tV d L).2) α} {Q : α → sProp 𝕄}
    (n : ℕ) (h0 : off 0 = 8 * n) (h1 : off 1 = col0 L) (hset : B.view.set = Finset.univ) :
    iprop(packed d L B (chunk X (col0 L) n) nb (recAt rec (col0 L)) ∗ ptsRows d L (8 * n) (8 * (n + 1)) g ∗ semVal (tV d L, .dma sm) 0)
      ⊢ iprop((going d L sm B n (outVal X nb rec) -∗ wp frame (wpE (defs₀ (F := F)) 𝒱₀ (tV d L) none) Set.univ (k ⟨⟩) Q)
        -∗ wp frame (wpE (defs₀ (F := F)) 𝒱₀ (tV d L) none) Set.univ
            (.op (.enqueueDma B (.here ((outV : Memref sig .scVector .hbm S512x32768 .i32).slice (Rect.unit (s := S512x32768) off S8x1024.size inb) h)) (.dma sm) hsrc hdst hsem) k) Q) := by
  iintro ⟨⟨%G, %hG, Ho⟩, Hr, Hs⟩ Hk
  ihave Hr := (Entails.of_eq (congrArg (fun s => (outL d L ↦[s]{fullShare} (g : Buf (Elt F) (outL d L)) : sProp 𝕄)) (slice_rows L h n h0 h1).symm)) $$ Hr
  iapply (wp_send d (cV L) (jV L) (src := B) (dst := (outV : Memref sig .scVector .hbm S512x32768 .i32).slice (Rect.unit (s := S512x32768) off S8x1024.size inb) h) (fs := G) (fd := g)
    hset NO rfl (View.dmaCredit_pos _ (by decide))) $$ [Ho Hr Hs]
  · isplitl [Ho]; · iexact Ho
    isplitl [Hr]; · iexact Hr
    iexact Hs
  iintro Hf
  iapply Hk
  iexists G
  rw [← sentRows d L X nb rec g h n h0 h1 (B.view.read (Elt F) G) hG]
  iexact Hf

theorem out_cond1 (t : Fin k1_t1_loop.trips) : k1_cond1 t = 1#1 := by revert t; decide +kernel
theorem out_cond2 (t : Fin k1_t1_loop.trips) : k1_cond2 t = 1#1 ↔ t.val ≠ 0 := by revert t; decide +kernel
theorem out_cond3 (t : Fin k1_t1_loop.trips) : k1_cond3 t = 1#1 ↔ t.val < 31 := by revert t; decide +kernel
theorem out_cond4 (t : Fin k1_t1_loop.trips) : k1_cond4 t = 1#1 ↔ t.val ≠ 0 := by revert t; decide +kernel

/-- The first pair's chunk on its way or, after the last pair, none. -/
abbrev nextX (X : S2048x32768.Idx → BitVec 32) (t : ℕ) : sProp 𝕄 :=
  if t < 32 then coming d L cc1_scratch6.sem tX0 (chunk X (col0 L) (2 * t))
  else iprop((∃ f : S32x1024.Idx → BitVec 32, ptsX d L tX0 f) ∗ semVal (tV d L, .dma cc1_scratch6.sem) 0)

/-- An output buffer before trip `t`: idle at first, then with chunk `n`'s words on their way. -/
abbrev slot (sm : DmaSem sig) (B : Memref sig .scVector .vmem S8x1024 .i32) (t n : ℕ) (W : S512x32768.Idx → BitVec 32) : sProp 𝕄 :=
  if t = 0 then idle d L sm B else going d L sm B n W

/-- Before trip `t` of the loop over the pairs of chunks. -/
def inv3 (X : S2048x32768.Idx → BitVec 32) (nb : S256.Idx → F .f32) (rec : S32768.Idx → F .f32) (g : S512x32768.Idx → BitVec 32)
    (O : CellTallies nD τ sig (HIx 2)) (W : Waits sig (HIx 2)) (t : ℕ) : sProp 𝕄 :=
  iprop(Transfers.MayWaits (tV d L) (none : HIx 2) O ∗ readable (xL d L) X ∗ ptsN d L nb ∗ ptsR d L (recAt rec (col0 L))
    ∗ (∃ f : S32x1024.Idx → BitVec 32, ptsX d L tX1 f) ∗ semVal (tV d L, .dma cc1_scratch7.sem) 0 ∗ owing d (cV L) (jV L) O W
    ∗ nextX d L X t ∗ ptsRows d L 0 (8 * (2 * t - 2)) (outVal X nb rec) ∗ ptsRows d L (8 * (2 * t)) 512 g
    ∗ slot d L cc1_scratch8.sem tO0 t (2 * t - 2) (outVal X nb rec) ∗ slot d L cc1_scratch9.sem tO1 t (2 * t - 1) (outVal X nb rec))

/-- The wait for a buffer's words, at the trips where there are any: they join those before them. -/
theorem wp_drain (W' : S512x32768.Idx → BitVec 32) {sm : DmaSem sig} {B : Memref sig .scVector .vmem S8x1024 .i32} {t n m : ℕ} {c : Prop} [Decidable c] (hc : c ↔ t ≠ 0)
    (hz : t = 0 → m = n) (hm : t ≠ 0 → m = n + 1)
    {s s' : Shape} {e e' : EltTy} {sp sp' : Space} {srcw : c → Memref sig .scVector sp' s' e'} {dstw : c → Memref sig .scVector sp s e}
    {hsrc : ∀ h, (srcw h).view.WordExact} {hdst : ∀ h, (dstw h).view.WordExact} (hN : ∀ h, (dstw h).view.dmaCredit = NO)
    {α : Type} {rest : Prog (TpuEff nD τ sig (Elt F) Λ₀ (tV d L).2) α} {Q : α → sProp 𝕄} {O : CellTallies nD τ sig (HIx 2)} {W : Waits sig (HIx 2)} :
    iprop(Transfers.MayWaits (tV d L) (none : HIx 2) O ∗ owing d (cV L) (jV L) O W ∗ slot d L sm B t n W' ∗ ptsRows d L 0 (8 * n) W')
      ⊢ iprop((iprop(owing d (cV L) (jV L) O W ∗ idle d L sm B ∗ ptsRows d L 0 (8 * m) W') -∗ wp frame (wpE (defs₀ (F := F)) 𝒱₀ (tV d L) none) Set.univ rest Q)
        -∗ wp frame (wpE (defs₀ (F := F)) 𝒱₀ (tV d L) none) Set.univ
            (dite c (fun h => .op (.waitDma2 sm (srcw h) (dstw h) (hsrc h) (hdst h)) fun _ => rest) (fun _ => rest)) Q) := by
  unfold slot
  by_cases ht : t = 0
  · rw [if_pos ht, dif_neg (fun h => hc.mp h ht), hz ht]
    iintro ⟨-, HO, Hi, Hr⟩ Hk
    iapply Hk
    isplitl [HO]; · iexact HO
    isplitl [Hi]; · iexact Hi
    iexact Hr
  · rw [if_neg ht, dif_pos (hc.mpr ht), hm ht]
    iintro ⟨#Hmw, HO, ⟨%G, Hf⟩, Hr⟩ Hk
    iapply (wp_landed d (cV L) (jV L) (hN _)) $$ [Hf HO]
    · isplitr; · iexact Hmw
      isplitl [Hf]; · iexact Hf
      iexact HO
    iintro ⟨⟨Hd, Ho⟩, Hs, HO⟩
    iapply Hk
    isplitl [HO]; · iexact HO
    isplitl [Ho Hs]
    · isplitl [Ho]
      · iexists G; iexact Ho
      iexact Hs
    iapply (ptsRows_split d L (by omega : 0 ≤ 8 * n) (by omega : 8 * n ≤ 8 * (n + 1)) W').2
    isplitl [Hr]; · iexact Hr
    iexact Hd

/-- The start of the next pair's first copy in, at the trips where there is one. -/
theorem wp_ahead (X : S2048x32768.Idx → BitVec 32) {f : S32x1024.Idx → BitVec 32} {t : ℕ} {c : Prop} [Decidable c] (hc : c ↔ t < 32)
    {off : Fin 2 → ℕ} {inb : c → ∀ x, off x + S32x1024.size x ≤ S2048x32768.size x}
    {hsrc : ∀ hc, ((xV : Memref sig .scVector .hbm S2048x32768 .i32).slice (Rect.unit (s := S2048x32768) off S32x1024.size (inb hc)) (fun _ => rfl)).view.WordExact}
    {hdst : c → (tX0 : Memref sig .scVector .vmem S32x1024 .i32).view.WordExact}
    {hsem : c → DmaTarget.Typed (nD := nD) (τ := τ) (p := (tV d L).2) .hbm (.dma cc1_scratch6.sem) (.here (tX0 : Memref sig .scVector .vmem S32x1024 .i32))}
    {α : Type} {rest : Prog (TpuEff nD τ sig (Elt F) Λ₀ (tV d L).2) α} {Q : α → sProp 𝕄} (h0 : off 0 = 32 * (2 * t)) (h1 : off 1 = col0 L) :
    iprop(readable (xL d L) X ∗ ptsX d L tX0 f ∗ semVal (tV d L, .dma cc1_scratch6.sem) 0)
      ⊢ iprop((iprop(readable (xL d L) X ∗ nextX d L X t) -∗ wp frame (wpE (defs₀ (F := F)) 𝒱₀ (tV d L) none) Set.univ rest Q)
        -∗ wp frame (wpE (defs₀ (F := F)) 𝒱₀ (tV d L) none) Set.univ
            (dite c (fun hc => .op (.enqueueDma ((xV : Memref sig .scVector .hbm S2048x32768 .i32).slice (Rect.unit (s := S2048x32768) off S32x1024.size (inb hc)) (fun _ => rfl)) (.here tX0)
              (.dma cc1_scratch6.sem) (hsrc hc) (hdst hc) (hsem hc)) fun _ => rest) (fun _ => rest)) Q) := by
  unfold nextX
  by_cases ht : t < 32
  · rw [if_pos ht, dif_pos (hc.mpr ht)]
    iintro ⟨Hx, H0, Hs0⟩ Hk
    iapply (wp_fetch d (cV L) (jV L) (src := (xV : Memref sig .scVector .hbm S2048x32768 .i32).slice (Rect.unit (s := S2048x32768) off S32x1024.size (inb (hc.mpr ht))) (fun _ => rfl))
      (dst := tX0) (fs := X) (fd := f) NX rfl (View.dmaCredit_pos _ (by decide))) $$ [Hx H0 Hs0]
    · isplitl [Hx]; · iexact Hx
      isplitl [H0]; · iexact H0
      iexact Hs0
    rw [View.write_whole_univ, read_rows L _ X (2 * t) h0 h1]
    iintro ⟨Hx, H0⟩
    iapply Hk
    isplitl [Hx]; · iexact Hx
    iexact H0
  · rw [if_neg ht, dif_neg (fun h => ht (hc.mp h))]
    iintro ⟨Hx, H0, Hs0⟩ Hk
    iapply Hk
    isplitl [Hx]; · iexact Hx
    isplitl [H0]
    · iexists _; iexact H0
    iexact Hs0

/-- The first buffer's chunk packed, and the second's. -/
theorem pack_at (X : S2048x32768.Idx → BitVec 32) (hX : ∀ i, (X i).toNat < 256) (nb : S256.Idx → F .f32) (rb : S1024.Idx → F .f32) (n : ℕ) (c0 c1 : BitVec 32) (t : Fin k1_t1_loop.trips) :
    iprop(ptsX d L tX0 (chunk X (col0 L) n) ∗ ptsN d L nb ∗ ptsR d L rb ∗ ∃ G : (tO0 : Memref sig .scVector .vmem S8x1024 .i32).view.ty.Contents (Elt F), ptsO d L tO0 G)
      ⊢ wp frame (wpE (defs₀ (F := F)) 𝒱₀ (tV d L) none) Set.univ
          (Scf.Loop.for k1_t2_loop k1_t2_ok () (k1_t2_body L xV (Memref.isWhole_whole _) numV (Memref.isWhole_whole _) recV (Memref.isWhole_whole _) outV (Memref.isWhole_whole _)
            tX0 (Memref.isWhole_whole _) tX1 (Memref.isWhole_whole _) tO0 (Memref.isWhole_whole _) tO1 (Memref.isWhole_whole _) tN (Memref.isWhole_whole _) tR (Memref.isWhole_whole _)
            cc1_scratch6 cc1_scratch7 cc1_scratch8 cc1_scratch9 cc1_scoped0 cc1_scoped1 c0 c1 t))
          fun _ => iprop(ptsX d L tX0 (chunk X (col0 L) n) ∗ ptsN d L nb ∗ ptsR d L rb ∗ packed d L tO0 (chunk X (col0 L) n) nb rb) :=
  pack_loop (F := F) d L xV (Memref.isWhole_whole _) numV (Memref.isWhole_whole _) recV (Memref.isWhole_whole _) outV (Memref.isWhole_whole _)
    tX0 (Memref.isWhole_whole _) tX1 (Memref.isWhole_whole _) tO0 (Memref.isWhole_whole _) tO1 (Memref.isWhole_whole _)
    cc1_scratch6 cc1_scratch7 cc1_scratch8 cc1_scratch9 cc1_scoped0 cc1_scoped1 c0 c1 t (chunk X (col0 L) n) (fun i => hX _) nb rb
theorem pack_at' (X : S2048x32768.Idx → BitVec 32) (hX : ∀ i, (X i).toNat < 256) (nb : S256.Idx → F .f32) (rb : S1024.Idx → F .f32) (n : ℕ) :
    iprop(ptsX d L tX1 (chunk X (col0 L) n) ∗ ptsN d L nb ∗ ptsR d L rb ∗ ∃ G : (tO1 : Memref sig .scVector .vmem S8x1024 .i32).view.ty.Contents (Elt F), ptsO d L tO1 G)
      ⊢ wp frame (wpE (defs₀ (F := F)) 𝒱₀ (tV d L) none) Set.univ
          (Scf.Loop.for k1_t4_loop k1_t4_ok () (k1_t4_body L xV (Memref.isWhole_whole _) numV (Memref.isWhole_whole _) recV (Memref.isWhole_whole _) outV (Memref.isWhole_whole _)
            tX0 (Memref.isWhole_whole _) tX1 (Memref.isWhole_whole _) tO0 (Memref.isWhole_whole _) tO1 (Memref.isWhole_whole _) tN (Memref.isWhole_whole _) tR (Memref.isWhole_whole _)
            cc1_scratch6 cc1_scratch7 cc1_scratch8 cc1_scratch9 cc1_scoped0 cc1_scoped1))
          fun _ => iprop(ptsX d L tX1 (chunk X (col0 L) n) ∗ ptsN d L nb ∗ ptsR d L rb ∗ packed d L tO1 (chunk X (col0 L) n) nb rb) :=
  pack_loop' (F := F) d L xV (Memref.isWhole_whole _) numV (Memref.isWhole_whole _) recV (Memref.isWhole_whole _) outV (Memref.isWhole_whole _)
    tX0 (Memref.isWhole_whole _) tX1 (Memref.isWhole_whole _) tO0 (Memref.isWhole_whole _) tO1 (Memref.isWhole_whole _)
    cc1_scratch6 cc1_scratch7 cc1_scratch8 cc1_scratch9 cc1_scoped0 cc1_scoped1 (chunk X (col0 L) n) (fun i => hX _) nb rb

/-- In the middle of trip `t`: the first chunk's words are on their way, the second chunk is there. -/
def mid3 (X : S2048x32768.Idx → BitVec 32) (nb : S256.Idx → F .f32) (rec : S32768.Idx → F .f32) (g : S512x32768.Idx → BitVec 32)
    (O : CellTallies nD τ sig (HIx 2)) (W : Waits sig (HIx 2)) (t : ℕ) : sProp 𝕄 :=
  iprop(readable (xL d L) X ∗ ptsN d L nb ∗ ptsR d L (recAt rec (col0 L))
    ∗ ptsX d L tX1 (chunk X (col0 L) (2 * t + 1)) ∗ semVal (tV d L, .dma cc1_scratch7.sem) 0 ∗ owing d (cV L) (jV L) O W
    ∗ nextX d L X (t + 1) ∗ ptsRows d L 0 (8 * (2 * t)) (outVal X nb rec) ∗ ptsRows d L (8 * (2 * t + 1)) 512 g
    ∗ going d L cc1_scratch8.sem tO0 (2 * t) (outVal X nb rec) ∗ idle d L cc1_scratch9.sem tO1)

set_option maxHeartbeats 2000000 in
theorem first_half (X : S2048x32768.Idx → BitVec 32) (hX : ∀ i, (X i).toNat < 256) (nb : S256.Idx → F .f32) (rec : S32768.Idx → F .f32) (g : S512x32768.Idx → BitVec 32)
    (O : CellTallies nD τ sig (HIx 2)) (W : Waits sig (HIx 2)) (t : Fin k1_t1_loop.trips) :
    inv3 d L X nb rec g O W t.val
      ⊢ wp frame (wpE (defs₀ (F := F)) 𝒱₀ (tV d L) none) Set.univ
          (k1_part3 L xV (Memref.isWhole_whole _) numV (Memref.isWhole_whole _) recV (Memref.isWhole_whole _) outV (Memref.isWhole_whole _)
            tX0 (Memref.isWhole_whole _) tX1 (Memref.isWhole_whole _) tO0 (Memref.isWhole_whole _) tO1 (Memref.isWhole_whole _) tN (Memref.isWhole_whole _) tR (Memref.isWhole_whole _)
            cc1_scratch6 cc1_scratch7 cc1_scratch8 cc1_scratch9 cc1_scoped0 cc1_scoped1 0#32 1#32 t)
          fun _ => mid3 d L X nb rec g O W t.val := by
  have ht : t.val < 32 := t.isLt
  unfold inv3 mid3
  rw [k1_part3_eq_skeleton]; unfold k1_part3_skel
  rw [dif_pos (out_cond1 t)]
  simp only [Prog.lift, Prog.bind_op, Prog.bind_ret, Prog.pure_eq_ret]
  rw [show (nextX d L X t.val : sProp 𝕄) = coming d L cc1_scratch6.sem tX0 (chunk X (col0 L) (2 * t.val)) from if_pos ht]
  iintro ⟨#Hmw, Hx, HN, HR, ⟨%f1, H1⟩, Hs1, HO, H0, Hdone, Hrest, Hslot0, Hslot1⟩
  iapply (wp_fetch d (cV L) (jV L) (src := (xV : Memref sig .scVector .hbm S2048x32768 .i32).slice (Rect.unit (s := S2048x32768) (k1_off3 L t) S32x1024.size (k1_off3_inb L t (out_cond1 t))) (fun _ => rfl))
    (dst := tX1) (fs := X) (fd := f1) NX rfl (View.dmaCredit_pos _ (by decide))) $$ [Hx H1 Hs1]
  · isplitl [Hx]; · iexact Hx
    isplitl [H1]; · iexact H1
    iexact Hs1
  rw [View.write_whole_univ, read_rows L _ X (2 * t.val + 1) (by rw [k1_off3_eq]; show 64 * t.val + 32 = _; omega) (by rw [k1_off3_eq]; rfl)]
  iintro ⟨Hx, H1⟩
  iapply (wp_landed d (cV L) (jV L) rfl) $$ [H0 HO]
  · isplitr; · iexact Hmw
    isplitl [H0]; · iexact H0
    iexact HO
  iintro ⟨H0, Hs0, HO⟩
  iapply (wp_drain d L (outVal X nb rec) (sm := cc1_scratch8.sem) (B := tO0) (n := 2 * t.val - 2) (m := 2 * t.val - 1) (out_cond2 t) (fun h => by omega) (fun h => by omega) ?hN) $$ [HO Hslot0 Hdone]
  case hN => exact fun _ => rfl
  · isplitr; · iexact Hmw
    isplitl [HO]; · iexact HO
    isplitl [Hslot0]; · iexact Hslot0
    iexact Hdone
  iintro ⟨HO, ⟨Ho0, Ho0s⟩, Hdone⟩
  iapply (wp_then d (cV L) (jV L) (pack_at d L X hX nb (recAt rec (col0 L)) (2 * t.val) 0#32 1#32 t)) $$ [H0 HN HR Ho0]
  · isplitl [H0]; · iexact H0
    isplitl [HN]; · iexact HN
    isplitl [HR]; · iexact HR
    iexact Ho0
  iintro ⟨H0, HN, HR, Ho0⟩
  ihave ⟨Hp0, Hrest⟩ := (ptsRows_split d L (by omega : 8 * (2 * t.val) ≤ 8 * (2 * t.val + 1)) (by omega : 8 * (2 * t.val + 1) ≤ 512) g).1 $$ Hrest
  iapply (wp_sendOut d L X nb rec g (2 * t.val) ((congrFun (k1_off12_eq L t 0) 0).trans (by show 16 * t.val + 8 * 0 = _; omega)) ((congrFun (k1_off12_eq L t 0) 1).trans rfl) (View.set_whole _)) $$ [Ho0 Hp0 Ho0s]
  · isplitl [Ho0]; · iexact Ho0
    isplitl [Hp0]; · iexact Hp0
    iexact Ho0s
  iintro Hgo0
  iapply (wp_ahead d L X (t := t.val + 1) ((out_cond3 t).trans (by omega)) (by rw [k1_off13_eq]; show 64 * t.val + 64 = _; omega) (by rw [k1_off13_eq]; rfl)) $$ [Hx H0 Hs0]
  · isplitl [Hx]; · iexact Hx
    isplitl [H0]; · iexact H0
    iexact Hs0
  iintro ⟨Hx, H0⟩
  iapply (wp_landed d (cV L) (jV L) rfl) $$ [H1 HO]
  · isplitr; · iexact Hmw
    isplitl [H1]; · iexact H1
    iexact HO
  iintro ⟨H1, Hs1, HO⟩
  iapply (wp_drain d L (outVal X nb rec) (sm := cc1_scratch9.sem) (B := tO1) (n := 2 * t.val - 1) (m := 2 * t.val) (out_cond4 t) (fun h => by omega) (fun h => by omega) ?hN) $$ [HO Hslot1 Hdone]
  case hN => exact fun _ => rfl
  · isplitr; · iexact Hmw
    isplitl [HO]; · iexact HO
    isplitl [Hslot1]; · iexact Hslot1
    iexact Hdone
  iintro ⟨HO, Hi1, Hdone⟩
  rw [wp_ret]; imodintro
  isplitl [Hx]; · iexact Hx
  isplitl [HN]; · iexact HN
  isplitl [HR]; · iexact HR
  isplitl [H1]; · iexact H1
  isplitl [Hs1]; · iexact Hs1
  isplitl [HO]; · iexact HO
  isplitl [H0]; · iexact H0
  isplitl [Hdone]; · iexact Hdone
  isplitl [Hrest]; · iexact Hrest
  isplitl [Hgo0]; · iexact Hgo0
  iexact Hi1

theorem out_trip (X : S2048x32768.Idx → BitVec 32) (hX : ∀ i, (X i).toNat < 256) (nb : S256.Idx → F .f32) (rec : S32768.Idx → F .f32) (g : S512x32768.Idx → BitVec 32)
    (O : CellTallies nD τ sig (HIx 2)) (W : Waits sig (HIx 2)) (t : Fin k1_t1_loop.trips) :
    inv3 d L X nb rec g O W t.val
      ⊢ wp frame (wpE (defs₀ (F := F)) 𝒱₀ (tV d L) none) Set.univ
          (k1_t1_body L xV (Memref.isWhole_whole _) numV (Memref.isWhole_whole _) recV (Memref.isWhole_whole _) outV (Memref.isWhole_whole _)
            tX0 (Memref.isWhole_whole _) tX1 (Memref.isWhole_whole _) tO0 (Memref.isWhole_whole _) tO1 (Memref.isWhole_whole _) tN (Memref.isWhole_whole _) tR (Memref.isWhole_whole _)
            cc1_scratch6 cc1_scratch7 cc1_scratch8 cc1_scratch9 cc1_scoped0 cc1_scoped1 t ())
          fun _ => inv3 d L X nb rec g O W (t.val + 1) := by
  have ht : t.val < 32 := t.isLt
  unfold k1_t1_body
  rw [wp_bind]
  simp only [Prog.lift, Prog.bind_op, Prog.bind_ret, Prog.pure_eq_ret]
  iintro H
  ihave ⟨#Hmw, H⟩ := (show inv3 d L X nb rec g O W t.val ⊢ iprop(Transfers.MayWaits (tV d L) (none : HIx 2) O ∗ inv3 d L X nb rec g O W t.val) from by
    unfold inv3
    iintro ⟨#Hmw, H⟩
    isplitr; · iexact Hmw
    isplitr; · iexact Hmw
    iexact H) $$ H
  ihave Hw := (first_half d L X hX nb rec g O W t) $$ H
  iapply (wp_wand frame (wpE (defs₀ (F := F)) 𝒱₀ (tV d L) none) Set.univ) $$ Hw
  iintro %_
  unfold mid3
  iintro ⟨Hx, HN, HR, H1, Hs1, HO, H0, Hdone, Hrest, Hgo0, ⟨Ho1, Ho1s⟩⟩
  iapply (wp_then d (cV L) (jV L) (pack_at' d L X hX nb (recAt rec (col0 L)) (2 * t.val + 1))) $$ [H1 HN HR Ho1]
  · isplitl [H1]; · iexact H1
    isplitl [HN]; · iexact HN
    isplitl [HR]; · iexact HR
    iexact Ho1
  iintro ⟨H1, HN, HR, Ho1⟩
  ihave ⟨Hp1, Hrest⟩ := (ptsRows_split d L (by omega : 8 * (2 * t.val + 1) ≤ 8 * (2 * t.val + 1 + 1)) (by omega : 8 * (2 * t.val + 1 + 1) ≤ 512) g).1 $$ Hrest
  iapply (wp_sendOut d L X nb rec g (2 * t.val + 1) ((congrFun (k1_off12_eq L t 1) 0).trans (by show 16 * t.val + 8 * 1 = _; omega)) ((congrFun (k1_off12_eq L t 1) 1).trans rfl) (View.set_whole _)) $$ [Ho1 Hp1 Ho1s]
  · isplitl [Ho1]; · iexact Ho1
    isplitl [Hp1]; · iexact Hp1
    iexact Ho1s
  iintro Hgo1
  rw [wp_ret]; imodintro
  unfold inv3 slot
  rw [if_neg (show t.val + 1 ≠ 0 by omega), if_neg (show t.val + 1 ≠ 0 by omega), show 2 * (t.val + 1) - 2 = 2 * t.val by omega,
    show 2 * (t.val + 1) - 1 = 2 * t.val + 1 by omega, show 2 * (t.val + 1) = 2 * t.val + 1 + 1 by omega]
  isplitr; · iexact Hmw
  isplitl [Hx]; · iexact Hx
  isplitl [HN]; · iexact HN
  isplitl [HR]; · iexact HR
  isplitl [H1]
  · iexists _; iexact H1
  isplitl [Hs1]; · iexact Hs1
  isplitl [HO]; · iexact HO
  isplitl [H0]; · iexact H0
  isplitl [Hdone]; · iexact Hdone
  isplitl [Hrest]; · iexact Hrest
  isplitl [Hgo0]; · iexact Hgo0
  iexact Hgo1

abbrev NR : ℕ := (tR : Memref sig .scVector .vmem S1024 .f32).view.dmaCredit

theorem NR_pos : 0 < NR := View.dmaCredit_pos _ (by decide)

/-- Reading a tile's factors. -/
theorem read_recs {off : Fin 1 → ℕ} {inb : ∀ x, off x + S1024.size x ≤ S32768.size x} (h) (rec : S32768.Idx → F .f32) (h0 : off 0 = col0 L) :
    ((recV : Memref sig .scVector .hbm S32768 .f32).slice (Rect.unit (s := S32768) off S1024.size inb) h).view.read (Elt F) rec = recAt rec (col0 L) := by
  funext i
  show rec ((Rect.unit (s := S32768) off S1024.size inb).emb i) = rec _
  congr 1
  apply eq_ix1
  rw [Rect.emb_apply]; show off 0 + 1 * (i 0).val = _; omega

/-- What a tile of the second kernel works with, apart from the arrays outside. -/
def scratch3 : sProp 𝕄 :=
  iprop((∃ f : S32x1024.Idx → BitVec 32, ptsX d L tX0 f) ∗ (∃ f : S32x1024.Idx → BitVec 32, ptsX d L tX1 f)
    ∗ (∃ G : S8x1024.Idx → BitVec 32, ptsO d L tO0 G) ∗ (∃ G : S8x1024.Idx → BitVec 32, ptsO d L tO1 G)
    ∗ (∃ f, ptsN d L f) ∗ (∃ f, ptsR d L f)
    ∗ semVal (tV d L, .dma cc1_scratch6.sem) 0 ∗ semVal (tV d L, .dma cc1_scratch7.sem) 0 ∗ semVal (tV d L, .dma cc1_scratch8.sem) 0
    ∗ semVal (tV d L, .dma cc1_scratch9.sem) 0 ∗ semVal (tV d L, .dma cc1_scoped0.sem) 0 ∗ semVal (tV d L, .dma cc1_scoped1.sem) 0)

set_option maxHeartbeats 1000000 in
/-- The work of a tile of the second kernel. -/
theorem p2_body (X : S2048x32768.Idx → BitVec 32) (hX : ∀ i, (X i).toNat < 256) (nb : S256.Idx → F .f32) (rec : S32768.Idx → F .f32)
    (g : S512x32768.Idx → BitVec 32) (O : CellTallies nD τ sig (HIx 2)) (W : Waits sig (HIx 2)) :
    iprop(Transfers.MayWaits (tV d L) (none : HIx 2) O ∗ readable (xL d L) X ∗ readable (numL d L) nb ∗ readable (recL d L) rec ∗ ptsRows d L 0 512 g
        ∗ scratch3 d L ∗ owing d (cV L) (jV L) O W)
      ⊢ wp frame (wpE (defs₀ (F := F)) 𝒱₀ (tV d L) none) Set.univ
          (cc1__p2_body L xV (Memref.isWhole_whole _) numV (Memref.isWhole_whole _) recV (Memref.isWhole_whole _) outV (Memref.isWhole_whole _)
            tX0 (Memref.isWhole_whole _) tX1 (Memref.isWhole_whole _) tO0 (Memref.isWhole_whole _) tO1 (Memref.isWhole_whole _) tN (Memref.isWhole_whole _) tR (Memref.isWhole_whole _)
            cc1_scratch6 cc1_scratch7 cc1_scratch8 cc1_scratch9 cc1_scoped0 cc1_scoped1)
          fun _ => iprop(ptsRows d L 0 512 (outVal X nb rec) ∗ scratch3 d L ∗ owing d (cV L) (jV L) O W) := by
  rw [cc1__p2_body_eq_skeleton]; unfold cc1__p2_body_skel scratch3
  simp only [Prog.lift, Prog.bind_op, Prog.bind_ret, Prog.pure_eq_ret]
  iintro ⟨#Hmw, Hx, Hnum, Hrec, Hout, ⟨⟨%f0, H0⟩, ⟨%f1, H1⟩, ⟨%g0, Ho0⟩, ⟨%g1, Ho1⟩, ⟨%fn, HN⟩, ⟨%fr, HR⟩, Hs0, Hs1, Hs2, Hs3, Hs4, Hs5⟩, HO⟩
  iapply (wp_fetch d (cV L) (jV L) (src := numV) (dst := tN) (fs := nb) (fd := fn) _ rfl (View.dmaCredit_pos _ (by decide))) $$ [Hnum HN Hs4]
  · isplitl [Hnum]; · iexact Hnum
    isplitl [HN]; · iexact HN
    iexact Hs4
  rw [View.write_whole_univ]
  iintro ⟨-, HN⟩
  iapply (wp_landed d (cV L) (jV L) rfl) $$ [HN HO]
  · isplitr; · iexact Hmw
    isplitl [HN]; · iexact HN
    iexact HO
  iintro ⟨HN, Hs4, HO⟩
  iapply (wp_fetch d (cV L) (jV L) (src := (recV : Memref sig .scVector .hbm S32768 .f32).slice (Rect.unit (s := S32768) (k1_off1 L) S1024.size (k1_off1_inb L)) (fun _ => rfl))
    (dst := tR) (fs := rec) (fd := fr) NR rfl NR_pos) $$ [Hrec HR Hs5]
  · isplitl [Hrec]; · iexact Hrec
    isplitl [HR]; · iexact HR
    iexact Hs5
  rw [View.write_whole_univ, read_recs L _ rec (by rw [k1_off1_eq]; rfl)]
  iintro ⟨-, HR⟩
  iapply (wp_landed d (cV L) (jV L) rfl) $$ [HR HO]
  · isplitr; · iexact Hmw
    isplitl [HR]; · iexact HR
    iexact HO
  iintro ⟨HR, Hs5, HO⟩
  iapply (wp_fetch d (cV L) (jV L) (src := (xV : Memref sig .scVector .hbm S2048x32768 .i32).slice (Rect.unit (s := S2048x32768) (k1_off2 L) S32x1024.size (k1_off2_inb L)) (fun _ => rfl))
    (dst := tX0) (fs := X) (fd := f0) NX rfl (View.dmaCredit_pos _ (by decide))) $$ [Hx H0 Hs0]
  · isplitl [Hx]; · iexact Hx
    isplitl [H0]; · iexact H0
    iexact Hs0
  rw [View.write_whole_univ, read_rows L _ X (2 * 0) (by rw [k1_off2_eq]; rfl) (by rw [k1_off2_eq]; rfl)]
  iintro ⟨Hx, H0⟩
  ihave ⟨Hdone, Hout⟩ := (ptsRows_split d L (by omega : 0 ≤ 0) (by omega : 0 ≤ 512) g).1 $$ Hout
  iapply (Scf.wp_for_bind frame (wpE (defs₀ (F := F)) 𝒱₀ (tV d L) none) Set.univ _ _ _ k1_t1_ok () _ (fun t _ => inv3 d L X nb rec g O W t)
    (fun t _ => out_trip d L X hX nb rec g O W t)) $$ [Hx HN HR H1 Hs1 HO H0 Hdone Hout Ho0 Ho1 Hs2 Hs3]
  · unfold inv3 slot nextX
    rw [if_pos rfl, if_pos rfl, if_pos (by omega)]
    isplitr; · iexact Hmw
    isplitl [Hx]; · iexact Hx
    isplitl [HN]; · iexact HN
    isplitl [HR]; · iexact HR
    isplitl [H1]
    · iexists _; iexact H1
    isplitl [Hs1]; · iexact Hs1
    isplitl [HO]; · iexact HO
    isplitl [H0]; · iexact H0
    isplitl [Hdone]
    · iapply (Entails.of_eq (pointsTo_congr (fun i hi => absurd (mem_rows.mp hi) (by omega)))); iexact Hdone
    isplitl [Hout]; · iexact Hout
    isplitl [Ho0 Hs2]
    · isplitl [Ho0]
      · iexists _; iexact Ho0
      iexact Hs2
    isplitl [Ho1]
    · iexists _; iexact Ho1
    iexact Hs3
  iintro %_
  unfold inv3 slot nextX
  rw [show Scf.trips _ _ _ = 32 from (by decide +kernel : k1_t1_loop.trips = 32), if_neg (by omega), if_neg (by omega), if_neg (by omega)]
  iintro ⟨-, Hx, HN, HR, H1, Hs1, HO, ⟨H0, Hs0⟩, Hdone, -, ⟨%G0, Hf0⟩, ⟨%G1, Hf1⟩⟩
  iapply (wp_landed d (cV L) (jV L) rfl) $$ [Hf0 HO]
  · isplitr; · iexact Hmw
    isplitl [Hf0]; · iexact Hf0
    iexact HO
  iintro ⟨⟨Hp0, Ho0⟩, Hs2, HO⟩
  iapply (wp_landed d (cV L) (jV L) rfl) $$ [Hf1 HO]
  · isplitr; · iexact Hmw
    isplitl [Hf1]; · iexact Hf1
    iexact HO
  iintro ⟨⟨Hp1, Ho1⟩, Hs3, HO⟩
  rw [wp_ret]; imodintro
  isplitl [Hdone Hp0 Hp1]
  · iapply (ptsRows_split d L (by omega : 0 ≤ 504) (by omega : 504 ≤ 512) (outVal X nb rec)).2
    isplitl [Hdone Hp0]
    · iapply (ptsRows_split d L (by omega : 0 ≤ 496) (by omega : 496 ≤ 504) (outVal X nb rec)).2
      isplitl [Hdone]; · iexact Hdone
      iexact Hp0
    iexact Hp1
  isplitr [HO]
  rotate_left
  · iexact HO
  isplitl [H0]; · iexact H0
  isplitl [H1]; · iexact H1
  isplitl [Ho0]; · iexists _; iexact Ho0
  isplitl [Ho1]; · iexists _; iexact Ho1
  isplitl [HN]; · iexists _; iexact HN
  isplitl [HR]; · iexists _; iexact HR
  isplitl [Hs0]; · iexact Hs0
  isplitl [Hs1]; · iexact Hs1
  isplitl [Hs2]; · iexact Hs2
  isplitl [Hs3]; · iexact Hs3
  isplitl [Hs4]; · iexact Hs4
  iexact Hs5

end Tile

end Cert.Proof.Table

end
-- ==== Proof.Tasks.lean ====
/-
  The two SparseCore calls as the launch theorem asks for them: what each call carries to its tasks and back, and every
  task's obligation.
-/
module

public import proofs.«01_k».proof.Proof.P1
public import proofs.«01_k».proof.Proof.P2

@[expose] public section

noncomputable section

namespace Cert.Proof.Table

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The arrays, as the TensorCore names them, and their values -/

abbrev xLoc (d : Dev nD) : Loc nD τ sig := (SparseCore.T d).loc main_arg0
abbrev denLoc (d : Dev nD) : Loc nD τ sig := (SparseCore.T d).loc main_arg1
abbrev numLoc (d : Dev nD) : Loc nD τ sig := (SparseCore.T d).loc main_arg2
abbrev dsLoc (d : Dev nD) : Loc nD τ sig := (SparseCore.T d).loc main_v0
abbrev recLoc (d : Dev nD) : Loc nD τ sig := (SparseCore.T d).loc main_v2
abbrev outLoc (d : Dev nD) : Loc nD τ sig := (SparseCore.T d).loc main_v3

variable (m : (ℓ : Loc nD τ sig) → Buf (Elt F) ℓ)

abbrev xA (d : Dev nD) : S2048x32768.Idx → BitVec 32 := m (xLoc d)
abbrev denA (d : Dev nD) : S256.Idx → F .f32 := m (denLoc d)
abbrev numA (d : Dev nD) : S256.Idx → F .f32 := m (numLoc d)
/-- The sums that the first kernel leaves. -/
def dsA (d : Dev nD) : S32768.Idx → F .f32 := dsOut (xA m d) (denA m d)
/-- Their reciprocals, as the host computes them. -/
def recA (d : Dev nD) : S32768.Idx → F .f32 :=
  Host.divf (broadcastInDim S32768 ![] bcast_S_S32768 (constant S_ .f32 0x3F800000#32)) (dsA m d)
/-- The words that the second kernel leaves. -/
def outA (d : Dev nD) : S512x32768.Idx → BitVec 32 := outVal (xA m d) (numA m d) (recA m d)

/-- What the proof asks of the launch memory: every word of the first argument names a table entry. -/
def InTable : Prop := ∀ (d : Dev nD) i, (xA m d i).toNat < 256

/-! ## What the calls carry -/

/-- The tile at a core and a subcore. -/
def at2 (c : Fin 2) (s : Fin 16) : grid0.Coords := fun | 0 => c | 1 => s | ⟨_ + 2, h⟩ => absurd h (Nat.not_lt.2 (Nat.le_add_left _ _))

/-- A tile's columns of the sums. -/
abbrev dsPiece (d : Dev nD) (L : grid0.Coords) (f : S32768.Idx → F .f32) : sProp 𝕄 := dsL d L ↦[dsSet L]{fullShare} (f : Buf (Elt F) (dsL d L))

def go0 (d : Dev nD) (c : Fin 2) (s : Fin 16) : sProp 𝕄 :=
  iprop(readable (xL d (at2 c s)) (xA m d) ∗ readable (denL d (at2 c s)) (denA m d) ∗ dsPiece d (at2 c s) (m (dsLoc d)))
def td0 (d : Dev nD) (c : Fin 2) (s : Fin 16) : sProp 𝕄 := dsPiece d (at2 c s) (dsA m d)
def go1 (d : Dev nD) (c : Fin 2) (s : Fin 16) : sProp 𝕄 :=
  iprop(readable (xL d (at2 c s)) (xA m d) ∗ readable (numL d (at2 c s)) (numA m d) ∗ readable (recL d (at2 c s)) (recA m d)
    ∗ ptsRows d (at2 c s) 0 512 (m (outLoc d)))
def td1 (d : Dev nD) (c : Fin 2) (s : Fin 16) : sProp 𝕄 := ptsRows d (at2 c s) 0 512 (outA m d)

instance go0_storable (d : Dev nD) (c : Fin 2) (s : Fin 16) : BI.Storable (upEmb : UEmb _ 𝕄) (go0 m d c s) := by unfold go0; infer_instance
instance td0_storable (d : Dev nD) (c : Fin 2) (s : Fin 16) : BI.Storable (upEmb : UEmb _ 𝕄) (td0 m d c s) := by unfold td0; infer_instance
instance go1_storable (d : Dev nD) (c : Fin 2) (s : Fin 16) : BI.Storable (upEmb : UEmb _ 𝕄) (go1 m d c s) := by unfold go1; infer_instance
instance td1_storable (d : Dev nD) (c : Fin 2) (s : Fin 16) : BI.Storable (upEmb : UEmb _ 𝕄) (td1 m d c s) := by unfold td1; infer_instance

theorem nCore_eq (q : Fin 2) : (K (F := F)).nCore q = 2 := by match q with | 0 => rfl | 1 => rfl
theorem nSub_eq (q : Fin 2) : (K (F := F)).nSub q = 16 := by match q with | 0 => rfl | 1 => rfl

/-- Per task, what it is handed. -/
def goT (q : Fin 2) (d : Dev nD) (c : Fin 2) (s : Fin 16) : sProp 𝕄 := match q with | 0 => go0 m d c s | 1 => go1 m d c s
/-- Per task, what it hands back. -/
def tdT (q : Fin 2) (d : Dev nD) (c : Fin 2) (s : Fin 16) : sProp 𝕄 := match q with | 0 => td0 m d c s | 1 => td1 m d c s

instance goT_storable (q : Fin 2) (d : Dev nD) (c : Fin 2) (s : Fin 16) : BI.Storable (upEmb : UEmb _ 𝕄) (goT m q d c s) := by
  match q with | 0 => exact go0_storable m d c s | 1 => exact go1_storable m d c s
instance tdT_storable (q : Fin 2) (d : Dev nD) (c : Fin 2) (s : Fin 16) : BI.Storable (upEmb : UEmb _ 𝕄) (tdT m q d c s) := by
  match q with | 0 => exact td0_storable m d c s | 1 => exact td1_storable m d c s

/-- A call carries to each SparseCore what its tasks are handed, and back what they hand back. -/
def P : (K (F := F)).Pay (nD := nD) (Val := Elt F) (Name := ℕ) (U := UU) where
  st := fun q d c => bigSep Finset.univ fun i : Fin ((K (F := F)).nSub q) => goT m q d (Fin.cast (nCore_eq q) c) (Fin.cast (nSub_eq q) i)
  dn := fun q d c => bigSep Finset.univ fun i : Fin ((K (F := F)).nSub q) => tdT m q d (Fin.cast (nCore_eq q) c) (Fin.cast (nSub_eq q) i)
  go := fun q d c i => goT m q d (Fin.cast (nCore_eq q) c) (Fin.cast (nSub_eq q) i)
  td := fun q d c i => tdT m q d (Fin.cast (nCore_eq q) c) (Fin.cast (nSub_eq q) i)
  x := fun _ _ => iprop(emp)

instance P_storable : (P (F := F) m).IsStorable where
  st q d c := by unfold P; infer_instance
  dn q d c := by unfold P; infer_instance
  go q d c i := by unfold P; infer_instance
  td q d c i := by unfold P; infer_instance

theorem vecSplit (q : Fin 2) : (K (F := F)).VecSplit' (P m) q := by
  intro d c
  rw [show (P m).st q d c = bigSep Finset.univ fun i => (P m).go q d c i from rfl, show (P m).dn q d c = bigSep Finset.univ fun i => (P m).td q d c i from rfl]
  iintro H; imodintro
  isplitl [H]; · iexact H
  iintro H; iexact H

/-! ## A tile's own buffers and counters -/

section Own

variable (d : Dev nD) (L : grid0.Coords)

omit [FloatOps F] in
/-- Some of a tile's own buffers, and the rest. -/
theorem ownBufs_some (B : Finset (Ref sig .scVector)) (hB : ∀ b ∈ B, ((Proc.scVector (cV L) (jV L)).devRef b : DevRef τ sig).owner = .proc (.scVector (cV L) (jV L))) :
    (ownBufs (tV d L) : sProp 𝕄)
      = iprop((bigSep B fun b => iprop(∃ f, ((tV d L).loc b ↦{fullShare} f)))
          ∗ bigSep (ownRefs (τ := τ) (.scVector (cV L) (jV L)) \ B.map ⟨_, Proc.devRef_injective (Proc.scVector (cV L) (jV L))⟩)
              fun b => iprop(∃ f, ((d, b) : Loc nD τ sig) ↦{fullShare} f)) := by
  unfold SparseCore.Cfg.ownBufs
  rw [SparseCore.bigSep_sdiff_split' (s := ownRefs (τ := τ) (.scVector (cV L) (jV L)))
    (t := B.map ⟨_, Proc.devRef_injective (Proc.scVector (cV L) (jV L))⟩), bigSep_map]
  · rfl
  · intro b hb
    obtain ⟨r, hr, rfl⟩ := Finset.mem_map.mp hb
    exact SparseCore.Cfg.mem_ownRefs_of_owner (hB r hr)

/-- A thread's semaphores, one cell each. -/
def cellOf (thr : Thread nD τ) : SemLoc sig ↪ GSem nD τ sig := ⟨fun s => (thr, s), fun _ _ e => (Prod.mk.inj e).2⟩

omit [FloatOps F] in
/-- Some of a tile's own counters, and the rest. -/
theorem ownSems_some (B : Finset (SemLoc sig)) (hB : ∀ s ∈ B, s.isScoped .scVector = true) :
    (ownSems0 (tV d L) : sProp 𝕄)
      = iprop((bigSep B fun s => semVal (tV d L, s) 0) ∗ bigSep (ownCells (tV d L) \ B.map (cellOf (tV d L))) fun g => semVal g 0) := by
  unfold SparseCore.Cfg.ownSems0
  rw [SparseCore.bigSep_sdiff_split' (s := ownCells (tV d L)) (t := B.map (cellOf (tV d L))), bigSep_map]
  · rfl
  · intro b hb
    obtain ⟨r, hr, rfl⟩ := Finset.mem_map.mp hb
    exact mem_ownCells.mpr ⟨rfl, hB r hr⟩

end Own

/-! ## The tasks -/

/-- The buffers of the first kernel's task. -/
abbrev bufs0 : Finset (Ref sig .scVector) := {cc0_scratch0, cc0_scratch1, cc0_scratch2, cc0_scratch3}
/-- Its counters. -/
abbrev sems0 : Finset (SemLoc sig) := {.dma cc0_scratch4.sem, .dma cc0_scratch5.sem, .dma cc0_scoped0.sem, .dma cc0_scoped1.sem}
/-- The buffers of the second kernel's task. -/
abbrev bufs1 : Finset (Ref sig .scVector) := {cc1_scratch0, cc1_scratch1, cc1_scratch2, cc1_scratch3, cc1_scratch4, cc1_scratch5}
/-- Its counters. -/
abbrev sems1 : Finset (SemLoc sig) :=
  {.dma cc1_scratch6.sem, .dma cc1_scratch7.sem, .dma cc1_scratch8.sem, .dma cc1_scratch9.sem, .dma cc1_scoped0.sem, .dma cc1_scoped1.sem}

section Own

variable (d : Dev nD) (L : grid0.Coords)

omit [FloatOps F] in
theorem bufs0_eq :
    (bigSep bufs0 fun b => iprop(∃ f, ((tV d L).loc b ↦{fullShare} f)) : sProp 𝕄)
      = iprop((∃ f : S32x1024.Idx → BitVec 32, ptsX d L sX0 f) ∗ (∃ f : S32x1024.Idx → BitVec 32, ptsX d L sX1 f) ∗ (∃ f, ptsT d L f) ∗ ∃ f, ptsD d L f) := by
  unfold bufs0
  rw [SparseCore.bigSep_insert' (by decide), SparseCore.bigSep_insert' (by decide), SparseCore.bigSep_insert' (by decide), bigSep_singleton]
  rfl

omit [FloatOps F] in
theorem sems0_eq :
    (bigSep sems0 fun s => semVal (tV d L, s) 0 : sProp 𝕄)
      = iprop(semVal (tV d L, .dma cc0_scratch4.sem) 0 ∗ semVal (tV d L, .dma cc0_scratch5.sem) 0 ∗ semVal (tV d L, .dma cc0_scoped0.sem) 0
          ∗ semVal (tV d L, .dma cc0_scoped1.sem) 0) := by
  unfold sems0
  rw [SparseCore.bigSep_insert' (by decide), SparseCore.bigSep_insert' (by decide), SparseCore.bigSep_insert' (by decide), bigSep_singleton]

omit [FloatOps F] in
theorem bufs1_eq :
    (bigSep bufs1 fun b => iprop(∃ f, ((tV d L).loc b ↦{fullShare} f)) : sProp 𝕄)
      = iprop((∃ f : S32x1024.Idx → BitVec 32, ptsX d L tX0 f) ∗ (∃ f : S32x1024.Idx → BitVec 32, ptsX d L tX1 f)
          ∗ (∃ G : S8x1024.Idx → BitVec 32, ptsO d L tO0 G) ∗ (∃ G : S8x1024.Idx → BitVec 32, ptsO d L tO1 G)
          ∗ (∃ f, ptsN d L f) ∗ (∃ f, ptsR d L f)) := by
  unfold bufs1
  rw [SparseCore.bigSep_insert' (by decide), SparseCore.bigSep_insert' (by decide), SparseCore.bigSep_insert' (by decide),
    SparseCore.bigSep_insert' (by decide), SparseCore.bigSep_insert' (by decide), bigSep_singleton]
  rfl

omit [FloatOps F] in
theorem sems1_eq :
    (bigSep sems1 fun s => semVal (tV d L, s) 0 : sProp 𝕄)
      = iprop(semVal (tV d L, .dma cc1_scratch6.sem) 0 ∗ semVal (tV d L, .dma cc1_scratch7.sem) 0 ∗ semVal (tV d L, .dma cc1_scratch8.sem) 0
          ∗ semVal (tV d L, .dma cc1_scratch9.sem) 0 ∗ semVal (tV d L, .dma cc1_scoped0.sem) 0 ∗ semVal (tV d L, .dma cc1_scoped1.sem) 0) := by
  unfold sems1
  rw [SparseCore.bigSep_insert' (by decide), SparseCore.bigSep_insert' (by decide), SparseCore.bigSep_insert' (by decide),
    SparseCore.bigSep_insert' (by decide), SparseCore.bigSep_insert' (by decide), bigSep_singleton]

theorem owner0 : ∀ b ∈ bufs0, ((Proc.scVector (cV L) (jV L)).devRef b : DevRef τ sig).owner = .proc (.scVector (cV L) (jV L)) := by
  intro b hb
  simp only [bufs0, Finset.mem_insert, Finset.mem_singleton] at hb
  rcases hb with rfl | rfl | rfl | rfl <;> rfl
theorem owner1 : ∀ b ∈ bufs1, ((Proc.scVector (cV L) (jV L)).devRef b : DevRef τ sig).owner = .proc (.scVector (cV L) (jV L)) := by
  intro b hb
  simp only [bufs1, Finset.mem_insert, Finset.mem_singleton] at hb
  rcases hb with rfl | rfl | rfl | rfl | rfl | rfl <;> rfl

/-- What the launch theorem wants back of a task: its piece, its buffers and counters, what it owes. -/
theorem obl_post {A B C : sProp 𝕄} {O : CellTallies nD τ sig (HIx 2)} {W : Waits sig (HIx 2)} {q : Fin 2} :
    iprop(A ∗ B ∗ C ∗ owing d (cV L) (jV L) O W)
      ⊢ iprop(A ∗ B ∗ C ∗ ∃ W', ⌜∀ p ∈ W', p ∈ W ∨ p.2 = none ∨ p.2 = some q⌝ ∗ owes (tV d L) O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Own

/-- The first kernel's task from what the launch theorem gives it. -/
theorem task0 (hm : InTable m) (d : Dev nD) (c : Fin 2) (s : Fin 16) (O : CellTallies nD τ sig (HIx 2)) (W : Waits sig (HIx 2)) (hO : ∀ g, O g none = 0) :
    iprop(levAts (K (F := F)).L (K (F := F)).lev ∗ emp ∗ go0 m d c s ∗ scopedBufs (tV d (at2 c s)) ∗ scopedSems0 (tV d (at2 c s)) ∗ owes (tV d (at2 c s)) O W)
      ⊢ wp frame (wpE (defs₀ (F := F)) 𝒱₀ (tV d (at2 c s)) none) Set.univ
          (cc0__p1_body (at2 c s) xV (Memref.isWhole_whole _) denV (Memref.isWhole_whole _) dsV (Memref.isWhole_whole _) sX0 (Memref.isWhole_whole _)
            sX1 (Memref.isWhole_whole _) sT (Memref.isWhole_whole _) sD (Memref.isWhole_whole _) cc0_scratch4 cc0_scratch5 cc0_scoped0 cc0_scoped1)
          fun _ => iprop(td0 m d c s ∗ scopedBufs (tV d (at2 c s)) ∗ scopedSems0 (tV d (at2 c s)) ∗ owing d (cV (at2 c s)) (jV (at2 c s)) O W) := by
  rw [(K (F := F)).scopedBufs_V facts d (cV (at2 c s)) (jV (at2 c s)), SparseCore.Cfg.scopedSems0_V (Val := Elt F) d (cV (at2 c s)) (jV (at2 c s)),
    ownBufs_some d (at2 c s) bufs0 (owner0 (at2 c s)), ownSems_some d (at2 c s) sems0 (by decide), bufs0_eq, sems0_eq]
  unfold go0 td0
  iintro ⟨#Hlv, -, ⟨Hx, Hden, Hds⟩, ⟨⟨H0, H1, HT, HD⟩, Hbufs⟩, ⟨⟨Hs0, Hs1, Hs2, Hs3⟩, Hsems⟩, HO⟩
  iapply (wp_wand frame _ _) $$ [Hx Hden Hds H0 H1 HT HD Hs0 Hs1 Hs2 Hs3 HO]
  · iapply (p1_body d (at2 c s) (xA m d) (hm d) (denA m d) O W (m (dsLoc d)))
    isplitr
    · iapply ((K (F := F)).mayWaits_none (thr := tV d (at2 c s)) hO); iexact Hlv
    isplitl [Hx]; · iexact Hx
    isplitl [Hden]; · iexact Hden
    isplitl [Hds]; · iexact Hds
    isplitl [H0]; · iexact H0
    isplitl [H1]; · iexact H1
    isplitl [HT]; · iexact HT
    isplitl [HD]; · iexact HD
    isplitl [Hs0]; · iexact Hs0
    isplitl [Hs1]; · iexact Hs1
    isplitl [Hs2]; · iexact Hs2
    isplitl [Hs3]; · iexact Hs3
    iexists W; isplitr
    · ipureintro; exact fun p hp => .inl hp
    iexact HO
  iintro %_ ⟨Hds, H0, H1, HT, HD, Hs0, Hs1, Hs2, Hs3, HO⟩
  isplitl [Hds]; · iexact Hds
  isplitl [H0 H1 HT HD Hbufs]
  · isplitr [Hbufs]
    · isplitl [H0]; · iexact H0
      isplitl [H1]; · iexact H1
      isplitl [HT]; · iexact HT
      iexact HD
    iexact Hbufs
  isplitr [HO]
  · isplitr [Hsems]
    · isplitl [Hs0]; · iexact Hs0
      isplitl [Hs1]; · iexact Hs1
      isplitl [Hs2]; · iexact Hs2
      iexact Hs3
    iexact Hsems
  iexact HO

/-- The second kernel's task from what the launch theorem gives it. -/
theorem task1 (hm : InTable m) (d : Dev nD) (c : Fin 2) (s : Fin 16) (O : CellTallies nD τ sig (HIx 2)) (W : Waits sig (HIx 2)) (hO : ∀ g, O g none = 0) :
    iprop(levAts (K (F := F)).L (K (F := F)).lev ∗ emp ∗ go1 m d c s ∗ scopedBufs (tV d (at2 c s)) ∗ scopedSems0 (tV d (at2 c s)) ∗ owes (tV d (at2 c s)) O W)
      ⊢ wp frame (wpE (defs₀ (F := F)) 𝒱₀ (tV d (at2 c s)) none) Set.univ
          (cc1__p2_body (at2 c s) xV (Memref.isWhole_whole _) numV (Memref.isWhole_whole _) recV (Memref.isWhole_whole _) outV (Memref.isWhole_whole _)
            tX0 (Memref.isWhole_whole _) tX1 (Memref.isWhole_whole _) tO0 (Memref.isWhole_whole _) tO1 (Memref.isWhole_whole _) tN (Memref.isWhole_whole _) tR (Memref.isWhole_whole _)
            cc1_scratch6 cc1_scratch7 cc1_scratch8 cc1_scratch9 cc1_scoped0 cc1_scoped1)
          fun _ => iprop(td1 m d c s ∗ scopedBufs (tV d (at2 c s)) ∗ scopedSems0 (tV d (at2 c s)) ∗ owing d (cV (at2 c s)) (jV (at2 c s)) O W) := by
  rw [(K (F := F)).scopedBufs_V facts d (cV (at2 c s)) (jV (at2 c s)), SparseCore.Cfg.scopedSems0_V (Val := Elt F) d (cV (at2 c s)) (jV (at2 c s)),
    ownBufs_some d (at2 c s) bufs1 (owner1 (at2 c s)), ownSems_some d (at2 c s) sems1 (by decide), bufs1_eq, sems1_eq]
  unfold go1 td1
  have hb := p2_body d (at2 c s) (xA m d) (hm d) (numA m d) (recA m d) (m (outLoc d)) O W
  unfold scratch3 at hb
  iintro ⟨#Hlv, -, ⟨Hx, Hnum, Hrec, Hout⟩, ⟨⟨H0, H1, H2, H3, H4, H5⟩, Hbufs⟩, ⟨Hs, Hsems⟩, HO⟩
  iapply (wp_wand frame _ _) $$ [Hx Hnum Hrec Hout H0 H1 H2 H3 H4 H5 Hs HO]
  · iapply hb
    isplitr
    · iapply ((K (F := F)).mayWaits_none (thr := tV d (at2 c s)) hO); iexact Hlv
    isplitl [Hx]; · iexact Hx
    isplitl [Hnum]; · iexact Hnum
    isplitl [Hrec]; · iexact Hrec
    isplitl [Hout]; · iexact Hout
    isplitl [H0 H1 H2 H3 H4 H5 Hs]
    · isplitl [H0]; · iexact H0
      isplitl [H1]; · iexact H1
      isplitl [H2]; · iexact H2
      isplitl [H3]; · iexact H3
      isplitl [H4]; · iexact H4
      isplitl [H5]; · iexact H5
      iexact Hs
    iexists W; isplitr
    · ipureintro; exact fun p hp => .inl hp
    iexact HO
  iintro %_ ⟨Hout, ⟨H0, H1, H2, H3, H4, H5, Hs⟩, HO⟩
  isplitl [Hout]; · iexact Hout
  isplitl [H0 H1 H2 H3 H4 H5 Hbufs]
  · isplitr [Hbufs]
    · isplitl [H0]; · iexact H0
      isplitl [H1]; · iexact H1
      isplitl [H2]; · iexact H2
      isplitl [H3]; · iexact H3
      isplitl [H4]; · iexact H4
      iexact H5
    iexact Hbufs
  isplitr [HO]
  · isplitl [Hs]; · iexact Hs
    iexact Hsems
  iexact HO

theorem defs₀_vector0 (c : Fin τ.nSC) (s : Fin τ.nSub) :
    defs₀ (F := F) (.scVector c s) 0 ()
      = SparseCore.onTile hcore0 hsub0 (fun c s => cc0__p1_body (at2 c s) xV (Memref.isWhole_whole _) denV (Memref.isWhole_whole _) dsV (Memref.isWhole_whole _)
          sX0 (Memref.isWhole_whole _) sX1 (Memref.isWhole_whole _) sT (Memref.isWhole_whole _) sD (Memref.isWhole_whole _) cc0_scratch4 cc0_scratch5 cc0_scoped0 cc0_scoped1)
          ⟨⟩ c s := rfl
theorem defs₀_vector1 (c : Fin τ.nSC) (s : Fin τ.nSub) :
    defs₀ (F := F) (.scVector c s) 1 ()
      = SparseCore.onTile hcore1 hsub1 (fun c s => cc1__p2_body (at2 c s) xV (Memref.isWhole_whole _) numV (Memref.isWhole_whole _) recV (Memref.isWhole_whole _) outV (Memref.isWhole_whole _)
          tX0 (Memref.isWhole_whole _) tX1 (Memref.isWhole_whole _) tO0 (Memref.isWhole_whole _) tO1 (Memref.isWhole_whole _) tN (Memref.isWhole_whole _) tR (Memref.isWhole_whole _)
          cc1_scratch6 cc1_scratch7 cc1_scratch8 cc1_scratch9 cc1_scoped0 cc1_scoped1)
          ⟨⟩ c s := rfl

theorem tileObl0 (hm : InTable m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector0]; simp only [SparseCore.onTile, hc, and_self, ↓reduceDIte]
  exact (task0 m hm d ⟨_, hc.1⟩ ⟨_, hc.2⟩ O W hO).trans (wp_mono frame _ _ fun _ => obl_post d (at2 ⟨_, hc.1⟩ ⟨_, hc.2⟩))

theorem tileObl1 (hm : InTable m) : (K (F := F)).TileObl (D (F := F)) 𝒱 (P m) v₀ 1 := by
  intro d c i O W hO _ _
  simp only [show (P m).ox = fun _ _ => 0 from rfl, add_zero]
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  have hc : ((K (F := F)).core 1 c).val < grid1.bound 0 ∧ ((K (F := F)).sub 1 i).val < grid1.bound 1 := ⟨c.isLt, i.isLt⟩
  rw [defs₀_vector1]; simp only [SparseCore.onTile, hc, and_self, ↓reduceDIte]
  exact (task1 m hm d ⟨_, hc.1⟩ ⟨_, hc.2⟩ O W hO).trans (wp_mono frame _ _ fun _ => obl_post d (at2 ⟨_, hc.1⟩ ⟨_, hc.2⟩))

end Cert.Proof.Table

end
-- ==== Proof.Launch.lean ====
/-
  The whole program's run: @main on the TensorCore around the two SparseCore calls, and the launch. It is stated for any
  float values; the printed kernel's frame and its idealization's frame and value are instances.
-/
module

public import proofs.«01_k».proof.Proof.Tasks

@[expose] public section

noncomputable section

namespace Cert.Proof.Table

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F]

local notation "𝕄" => MT nD τ sig (HIx 2) (Elt F) ℕ UU ℕ

variable (m : (ℓ : Loc nD τ sig) → Buf (Elt F) ℓ) (ρ : Dev nD → PrngReg)

/-! ## Dealing the arrays to the tasks -/

/-- Leave to read is dealt to any number of readers. -/
theorem readable_deal {I : Type} [DecidableEq I] (s : Finset I) (ℓ : Loc nD τ sig) (f : Buf (Elt F) ℓ) :
    readable ℓ f ⊢ bigSep s fun _ : I => readable ℓ f := by
  induction s using Finset.induction_on with
  | empty => rw [bigSep_empty]; iintro -; iempintro
  | insert i s hi ih =>
    rw [SparseCore.bigSep_insert' hi]
    iintro H
    ihave ⟨Ha, Hb⟩ := (readable_split ℓ f) $$ H
    isplitl [Ha]; · iexact Ha
    iapply ih; iexact Hb

theorem at2_val0 (c : Fin 2) (s : Fin 16) : (at2 c s 0).val = c.val := rfl
theorem at2_val1 (c : Fin 2) (s : Fin 16) : (at2 c s 1).val = s.val := rfl

/-- Different tiles have different columns. -/
theorem tile_eq {p q : Fin 2 × Fin 16} {n : ℕ} (h : col0 (at2 p.1 p.2) ≤ n ∧ n < col0 (at2 p.1 p.2) + 1024)
    (h' : col0 (at2 q.1 q.2) ≤ n ∧ n < col0 (at2 q.1 q.2) + 1024) : p = q := by
  unfold col0 at h h'
  rw [at2_val0, at2_val1] at h h'
  have := p.1.isLt; have := q.1.isLt; have := p.2.isLt; have := q.2.isLt
  exact Prod.ext (Fin.ext (by omega)) (Fin.ext (by omega))

/-- Every column is some tile's. -/
theorem tile_of (n : ℕ) (hn : n < 32768) : ∃ p : Fin 2 × Fin 16, col0 (at2 p.1 p.2) ≤ n ∧ n < col0 (at2 p.1 p.2) + 1024 := by
  refine ⟨(⟨n / 1024 % 2, by omega⟩, ⟨n / 2048, by omega⟩), ?_⟩
  unfold col0
  rw [at2_val0, at2_val1]
  show 2048 * (n / 2048) + 1024 * (n / 1024 % 2) ≤ n ∧ n < 2048 * (n / 2048) + 1024 * (n / 1024 % 2) + 1024
  omega

theorem mem_dsSet {L : grid0.Coords} {i : S32768.Idx} : i ∈ dsSet L ↔ col0 L ≤ (i 0).val ∧ (i 0).val < col0 L + 1024 := by
  have ho : k0_off72 L 0 = col0 L := by rw [k0_off72_eq]; rfl
  constructor
  · intro hi
    obtain ⟨x, -, rfl⟩ := Finset.mem_map.mp hi
    have hx0 : (x 0).val < 1024 := (x 0).isLt
    have e0 : ((dsRect L).emb x 0).val = k0_off72 L 0 + 1 * (x 0).val := Rect.emb_apply ..
    refine ⟨?_, ?_⟩
    · show col0 L ≤ ((dsRect L).emb x 0).val; omega
    · show ((dsRect L).emb x 0).val < col0 L + 1024; omega
  · intro hi
    refine Finset.mem_map.mpr ⟨ix1 (a := 1024) ((i 0).val - col0 L), Finset.mem_univ _, ?_⟩
    funext x; apply Fin.ext
    match x with
    | 0 =>
      refine (Rect.emb_apply (dsRect L) _ 0).trans ?_
      show k0_off72 L 0 + 1 * ((ix1 (a := 1024) ((i 0).val - col0 L)) 0).val = _
      rw [ix1_val (by omega)]; omega

/-- The sums are dealt to the tiles by columns, -/
theorem ds_pieces (d : Dev nD) (f : S32768.Idx → F .f32) :
    (dsLoc d ↦{fullShare} (f : Buf (Elt F) (dsLoc d)) : sProp 𝕄)
      = bigSep Finset.univ fun c : Fin 2 => bigSep Finset.univ fun s : Fin 16 => dsPiece d (at2 c s) f := by
  have hd : ∀ p ∈ (Finset.univ : Finset (Fin 2 × Fin 16)), ∀ q ∈ (Finset.univ : Finset (Fin 2 × Fin 16)), p ≠ q →
      Disjoint (dsSet (at2 p.1 p.2)) (dsSet (at2 q.1 q.2)) := by
    intro p _ q _ hpq
    rw [Finset.disjoint_left]; intro i hi hi'
    exact hpq (tile_eq (mem_dsSet.mp hi) (mem_dsSet.mp hi'))
  have hc : (Finset.univ : Finset (Fin 2 × Fin 16)).biUnion (fun p => dsSet (at2 p.1 p.2)) = Finset.univ := by
    ext i
    simp only [Finset.mem_biUnion, Finset.mem_univ, _root_.true_and, iff_true]
    obtain ⟨p, hp⟩ := tile_of (i 0).val (i 0).isLt
    exact ⟨p, mem_dsSet.mpr hp⟩
  have h := pointsTo_biUnion (Ix := HIx 2) (Name := ℕ) (U := UU) (Lvl := ℕ) (Val := Elt F) (ℓ := dsLoc d) (q := fullShare) (f := (f : Buf (Elt F) (dsLoc d)))
    (Finset.univ : Finset (Fin 2 × Fin 16)) (fun p => dsSet (at2 p.1 p.2)) hd
  rw [hc, ← Finset.univ_product_univ, SparseCore.bigSep_product] at h
  exact h

/-- and so are the words. -/
theorem out_pieces (d : Dev nD) (f : S512x32768.Idx → BitVec 32) :
    (outLoc d ↦{fullShare} (f : Buf (Elt F) (outLoc d)) : sProp 𝕄)
      = bigSep Finset.univ fun c : Fin 2 => bigSep Finset.univ fun s : Fin 16 => ptsRows d (at2 c s) 0 512 f := by
  have hd : ∀ p ∈ (Finset.univ : Finset (Fin 2 × Fin 16)), ∀ q ∈ (Finset.univ : Finset (Fin 2 × Fin 16)), p ≠ q →
      Disjoint (rows (at2 p.1 p.2) 0 512) (rows (at2 q.1 q.2) 0 512) := by
    intro p _ q _ hpq
    rw [Finset.disjoint_left]; intro i hi hi'
    exact hpq (tile_eq (mem_rows.mp hi).2 (mem_rows.mp hi').2)
  have hc : (Finset.univ : Finset (Fin 2 × Fin 16)).biUnion (fun p => rows (at2 p.1 p.2) 0 512) = Finset.univ := by
    ext i
    simp only [Finset.mem_biUnion, Finset.mem_univ, _root_.true_and, iff_true]
    obtain ⟨p, hp⟩ := tile_of (i 1).val (i 1).isLt
    exact ⟨p, mem_rows.mpr ⟨⟨Nat.zero_le _, (i 0).isLt⟩, hp⟩⟩
  have h := pointsTo_biUnion (Ix := HIx 2) (Name := ℕ) (U := UU) (Lvl := ℕ) (Val := Elt F) (ℓ := outLoc d) (q := fullShare) (f := (f : Buf (Elt F) (outLoc d)))
    (Finset.univ : Finset (Fin 2 × Fin 16)) (fun p => rows (at2 p.1 p.2) 0 512) hd
  rw [hc, ← Finset.univ_product_univ, SparseCore.bigSep_product] at h
  exact h

/-- Leave to read for every tile. -/
theorem readable_tiles (ℓ : Loc nD τ sig) (f : Buf (Elt F) ℓ) :
    readable ℓ f ⊢ bigSep Finset.univ fun _ : Fin 2 => bigSep Finset.univ fun _ : Fin 16 => readable ℓ f := by
  exact (readable_deal (Finset.univ : Finset (Fin 2)) ℓ f).trans (bigSep_mono fun _ _ => readable_deal Finset.univ ℓ f)

theorem deal0 (d : Dev nD) :
    iprop(readable (xLoc d) (xA m d) ∗ readable (denLoc d) (denA m d) ∗ dsLoc d ↦{fullShare} m (dsLoc d))
      ⊢ bigSep Finset.univ fun c : Fin ((K (F := F)).nCore 0) => (P m).st 0 d c := by
  show _ ⊢ bigSep Finset.univ fun c : Fin 2 => bigSep Finset.univ fun s : Fin 16 => go0 m d c s
  unfold go0
  simp only [bigSep_sep']
  rw [← ds_pieces]
  iintro ⟨Hx, Hd, Hs⟩
  isplitl [Hx]; · iapply (readable_tiles (xLoc d) (xA m d)); iexact Hx
  isplitl [Hd]; · iapply (readable_tiles (denLoc d) (denA m d)); iexact Hd
  iexact Hs

theorem gather0 (d : Dev nD) :
    (bigSep Finset.univ fun c : Fin ((K (F := F)).nCore 0) => (P m).dn 0 d c) = (dsLoc d ↦{fullShare} (dsA m d : Buf (Elt F) (dsLoc d)) : sProp 𝕄) :=
  (ds_pieces d (dsA m d)).symm

theorem deal1 (d : Dev nD) :
    iprop(readable (xLoc d) (xA m d) ∗ readable (numLoc d) (numA m d) ∗ readable (recLoc d) (recA m d) ∗ outLoc d ↦{fullShare} m (outLoc d))
      ⊢ bigSep Finset.univ fun c : Fin ((K (F := F)).nCore 1) => (P m).st 1 d c := by
  show _ ⊢ bigSep Finset.univ fun c : Fin 2 => bigSep Finset.univ fun s : Fin 16 => go1 m d c s
  unfold go1
  simp only [bigSep_sep']
  rw [← out_pieces]
  iintro ⟨Hx, Hd, Hr, Hs⟩
  isplitl [Hx]; · iapply (readable_tiles (xLoc d) (xA m d)); iexact Hx
  isplitl [Hd]; · iapply (readable_tiles (numLoc d) (numA m d)); iexact Hd
  isplitl [Hr]; · iapply (readable_tiles (recLoc d) (recA m d)); iexact Hr
  iexact Hs

theorem gather1 (d : Dev nD) :
    (bigSep Finset.univ fun c : Fin ((K (F := F)).nCore 1) => (P m).dn 1 d c) = (outLoc d ↦{fullShare} (outA m d : Buf (Elt F) (outLoc d)) : sProp 𝕄) :=
  (out_pieces d (outA m d)).symm

/-! ## The launch element -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 2 => (P m).x q thr) := by
  have he : (bigSep Finset.univ fun thr : Thread nD τ => bigSep Finset.univ fun q : Fin 2 => (P m).x q thr) = (iprop(emp) : sProp 𝕄) := by
    rw [show (fun thr : Thread nD τ => bigSep Finset.univ fun q : Fin 2 => (P m).x q thr) = fun _ => (iprop(emp) : sProp 𝕄) from
      funext fun _ => bigSep_emp_const (Finset.univ : Finset (Fin 2))]
    exact bigSep_emp_const _
  rw [he, show (bigSep Finset.univ fun _ : Dev nD => iprop(emp)) = (iprop(emp) : sProp 𝕄) from bigSep_emp_const _]
  unfold u₀
  iintro Hu
  ihave H := (ownU_pair _ _) $$ Hu
  icases H with ⟨HH, -⟩
  imodintro
  isplitl [HH]; · iexact HH
  isplitr <;> iempintro

/-! ## @main's arrays and host operations -/

/-- The TensorCore's references, as its device's. -/
def devE : Ref sig .tc ↪ DevRef τ sig := ⟨Proc.devRef .tc, Proc.devRef_injective (.tc : Proc τ)⟩

theorem held_map (d : Dev nD) (R : Finset (Ref sig .tc)) (W : Valuation τ sig (Elt F)) :
    (held (SparseCore.T d) (R.map devE) W : sProp 𝕄) = bigSep R fun b => (SparseCore.T d).loc b ↦{fullShare} W (Proc.devRef .tc b) := by
  unfold held; rw [BI.bigSep_map]; rfl

/-- One array out of those held. -/
theorem held_get (d : Dev nD) (R : Finset (Ref sig .tc)) (W : Valuation τ sig (Elt F)) (b : Ref sig .tc) (hb : b ∈ R) :
    (held (SparseCore.T d) (R.map devE) W : sProp 𝕄) ⊢ (SparseCore.T d).loc b ↦{fullShare} W (Proc.devRef .tc b) := by
  rw [held_map, SparseCore.bigSep_erase' hb]
  exact sep_elim_left

/-- An array joins those held, at a value of its own. -/
theorem held_put (d : Dev nD) (R : Finset (Ref sig .tc)) (W : Valuation τ sig (Elt F)) (b : Ref sig .tc) (hb : b ∉ R)
    (f : Buf (Elt F) ((SparseCore.T d).loc b)) :
    (held (SparseCore.T d) ((insert b R).map devE) (Function.update W (Proc.devRef .tc b) f) : sProp 𝕄)
      = iprop(((SparseCore.T d).loc b ↦{fullShare} f) ∗ held (SparseCore.T d) (R.map devE) W) := by
  rw [held_map, held_map, SparseCore.bigSep_insert' hb, Function.update_self]
  congr 1
  refine bigSep_congr fun r hr => ?_
  rw [Function.update_of_ne]
  intro e
  exact hb (Proc.devRef_injective (.tc : Proc τ) e ▸ hr)

/-- The host operations between the two calls: the reciprocals. -/
abbrev opsA : List (HloOp τ sig (Elt F)) :=
  [ nullary main_cst (constant S_ .f32 0x3F800000#32),
    unary main_cst main_v1 (broadcastInDim S32768 ![] bcast_S_S32768 : (⟨S_, .f32⟩ : BufTy).Contents (Elt F) → (⟨S32768, .f32⟩ : BufTy).Contents (Elt F)),
    binary main_v1 main_v0 main_v2 (Host.divf : (⟨S32768, .f32⟩ : BufTy).Contents (Elt F) → (⟨S32768, .f32⟩ : BufTy).Contents (Elt F) → (⟨S32768, .f32⟩ : BufTy).Contents (Elt F)) ]

/-- The host operations after the second call: the bytes out of the words. -/
abbrev opsB : List (HloOp τ sig (Elt F)) :=
  [ unary main_v3 main_v4 (broadcastInDim S512x4x32768 ![0, 2] bcast_S512x32768_S512x4x32768_0_2 : (⟨S512x32768, .i32⟩ : BufTy).Contents (Elt F) → (⟨S512x4x32768, .i32⟩ : BufTy).Contents (Elt F)),
    reshape main_v4 main_v5 (rfl : (.i32 : EltTy) = .i32) shapeCasts_S512x4x32768_S2048x32768,
    nullary main_v6 (iotaInDim S2048 32 0),
    nullary main_c (constantI S_ 32 4#32),
    TRef.unary (.of main_c) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S2048 ![] bcast_S_S2048),
    TRef.binary (.of main_v6) main_call0.v3 main_call0.v4 Host.remsi,
    TRef.nullary main_call0.c_1 (constantI S_ 32 0#32),
    TRef.unary main_call0.c_1 main_call0.v5 (broadcastInDim S2048 ![] bcast_S_S2048),
    TRef.binary main_call0.v4 main_call0.v5 main_call0.v6 (cmpi .ne),
    TRef.nullary main_call0.c_2 (constantI S_ 32 0#32),
    TRef.unary main_call0.c_2 main_call0.v7 (broadcastInDim S2048 ![] bcast_S_S2048),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S2048 ![] bcast_S_S2048),
    TRef.binary main_call0.v8 main_call0.v10 main_call0.v11 (cmpi .ne),
    TRef.binary main_call0.v11 main_call0.v6 main_call0.v12 andi,
    TRef.unary main_call0.call0.v0 main_call0.v13 (broadcastInDim S2048 ![] bcast_S_S2048),
    TRef.binary main_call0.v4 main_call0.v13 main_call0.v14 addi,
    TRef.ternary main_call0.v12 main_call0.v14 main_call0.v4 main_call0.v15 select,
    nullary main_c_0 (constantI S_ 32 8#32),
    unary main_c_0 main_v8 (broadcastInDim S2048 ![] bcast_S_S2048 : (⟨S_, .i32⟩ : BufTy).Contents (Elt F) → (⟨S2048, .i32⟩ : BufTy).Contents (Elt F)),
    binary main_v7 main_v8 main_v9 (muli : (⟨S2048, .i32⟩ : BufTy).Contents (Elt F) → (⟨S2048, .i32⟩ : BufTy).Contents (Elt F) → (⟨S2048, .i32⟩ : BufTy).Contents (Elt F)),
    unary main_v9 main_v10 (broadcastInDim S2048x1 ![0] bcast_S2048_S2048x1_0 : (⟨S2048, .i32⟩ : BufTy).Contents (Elt F) → (⟨S2048x1, .i32⟩ : BufTy).Contents (Elt F)),
    unary main_v10 main_v11 (broadcastInDim S2048x32768 ![0, 1] bcast_S2048x1_S2048x32768_0_1 : (⟨S2048x1, .i32⟩ : BufTy).Contents (Elt F) → (⟨S2048x32768, .i32⟩ : BufTy).Contents (Elt F)),
    binary main_v5 main_v11 main_v12 (Host.shrsi : (⟨S2048x32768, .i32⟩ : BufTy).Contents (Elt F) → (⟨S2048x32768, .i32⟩ : BufTy).Contents (Elt F) → (⟨S2048x32768, .i32⟩ : BufTy).Contents (Elt F)),
    nullary main_c_1 (constantI S_ 32 255#32),
    unary main_c_1 main_v13 (broadcastInDim S2048x32768 ![] bcast_S_S2048x32768 : (⟨S_, .i32⟩ : BufTy).Contents (Elt F) → (⟨S2048x32768, .i32⟩ : BufTy).Contents (Elt F)),
    binary main_v12 main_v13 main_v14 (andi : (⟨S2048x32768, .i32⟩ : BufTy).Contents (Elt F) → (⟨S2048x32768, .i32⟩ : BufTy).Contents (Elt F) → (⟨S2048x32768, .i32⟩ : BufTy).Contents (Elt F)),
    unary main_v14 main_v15 ((trunci 8 · natLt_8_32) : (⟨S2048x32768, .i32⟩ : BufTy).Contents (Elt F) → (⟨S2048x32768, .i8⟩ : BufTy).Contents (Elt F)) ]

set_option maxRecDepth 8192 in
theorem main_eq (d : Dev nD) :
    main (F := F) d = ((sc (F := F)).run d 0 >>= fun _ => seq opsA >>= fun _ => (sc (F := F)).run d 1 >>= fun _ => seq opsB >>= fun _ => pure ⟨⟩) := rfl

/-- The arrays of the first group but the sums. -/
abbrev refsA : Finset (Ref sig .tc) := {main_cst, main_v1, main_v2}
/-- The arrays of the second group but the words. -/
abbrev refsB : Finset (Ref sig .tc) :=
  {main_v4, main_v5, main_v6, main_c, main_call0_v0, main_call0_c, main_call0_v1, main_call0_c_0, main_call0_v2, main_call0_v3, main_call0_v4,
    main_call0_c_1, main_call0_v5, main_call0_v6, main_call0_c_2, main_call0_v7, main_call0_v8, main_call0_c_3, main_call0_v9, main_call0_v10,
    main_call0_v11, main_call0_v12, main_call0_v13, main_call0_v14, main_v7, main_c_0, main_v8, main_v9, main_v10, main_v11, main_v12, main_c_1,
    main_v13, main_v14, main_v15}

theorem dev_mem {R : Finset (Ref sig .tc)} {a : Ref sig .tc} (ha : a ∈ R) : (Proc.devRef .tc a : DevRef τ sig) ∈ R.map devE :=
  Finset.mem_map.mpr ⟨a, ha, rfl⟩
theorem sub1 {R : Finset (Ref sig .tc)} (a : Ref sig .tc) (ha : a ∈ R) : ({(Proc.devRef .tc a : DevRef τ sig)} : Finset _) ⊆ R.map devE :=
  Finset.singleton_subset_iff.mpr (dev_mem ha)
theorem sub2 {R : Finset (Ref sig .tc)} (a b : Ref sig .tc) (ha : a ∈ R) (hb : b ∈ R) :
    ({(Proc.devRef .tc a : DevRef τ sig), Proc.devRef .tc b} : Finset _) ⊆ R.map devE :=
  Finset.insert_subset_iff.mpr ⟨dev_mem ha, sub1 b hb⟩
theorem sub3 {R : Finset (Ref sig .tc)} (a b c : Ref sig .tc) (ha : a ∈ R) (hb : b ∈ R) (hc : c ∈ R) :
    ({(Proc.devRef .tc a : DevRef τ sig), Proc.devRef .tc b, Proc.devRef .tc c} : Finset _) ⊆ R.map devE :=
  Finset.insert_subset_iff.mpr ⟨dev_mem ha, sub2 b c hb hc⟩
theorem sub4 {R : Finset (Ref sig .tc)} (a b c e : Ref sig .tc) (ha : a ∈ R) (hb : b ∈ R) (hc : c ∈ R) (he : e ∈ R) :
    ({(Proc.devRef .tc a : DevRef τ sig), Proc.devRef .tc b, Proc.devRef .tc c, Proc.devRef .tc e} : Finset _) ⊆ R.map devE :=
  Finset.insert_subset_iff.mpr ⟨dev_mem ha, sub3 b c e hb hc he⟩

theorem opsA_sub : ∀ op ∈ (opsA : List (HloOp τ sig (Elt F))), op.bufs ⊆ (insert main_v0 refsA).map devE := by
  rw [← List.forall_iff_forall_mem]
  exact ⟨sub1 main_cst (by decide),
    sub2 main_cst main_v1 (by decide) (by decide),
    sub3 main_v1 main_v0 main_v2 (by decide) (by decide) (by decide)⟩

theorem opsB_sub : ∀ op ∈ (opsB : List (HloOp τ sig (Elt F))), op.bufs ⊆ (insert main_v3 refsB).map devE := by
  rw [← List.forall_iff_forall_mem]
  exact ⟨sub2 main_v3 main_v4 (by decide) (by decide),
    sub2 main_v4 main_v5 (by decide) (by decide),
    sub1 main_v6 (by decide),
    sub1 main_c (by decide),
    sub2 main_c main_call0_v0 (by decide) (by decide),
    sub1 main_call0_c (by decide),
    sub3 main_call0_v0 main_call0_c main_call0_v1 (by decide) (by decide) (by decide),
    sub1 main_call0_c_0 (by decide),
    sub4 main_call0_v1 main_call0_c_0 main_call0_v0 main_call0_v2 (by decide) (by decide) (by decide) (by decide),
    sub2 main_call0_v2 main_call0_v3 (by decide) (by decide),
    sub3 main_v6 main_call0_v3 main_call0_v4 (by decide) (by decide) (by decide),
    sub1 main_call0_c_1 (by decide),
    sub2 main_call0_c_1 main_call0_v5 (by decide) (by decide),
    sub3 main_call0_v4 main_call0_v5 main_call0_v6 (by decide) (by decide) (by decide),
    sub1 main_call0_c_2 (by decide),
    sub2 main_call0_c_2 main_call0_v7 (by decide) (by decide),
    sub3 main_call0_v4 main_call0_v7 main_call0_v8 (by decide) (by decide) (by decide),
    sub1 main_call0_c_3 (by decide),
    sub3 main_call0_v2 main_call0_c_3 main_call0_v9 (by decide) (by decide) (by decide),
    sub2 main_call0_v9 main_call0_v10 (by decide) (by decide),
    sub3 main_call0_v8 main_call0_v10 main_call0_v11 (by decide) (by decide) (by decide),
    sub3 main_call0_v11 main_call0_v6 main_call0_v12 (by decide) (by decide) (by decide),
    sub2 main_call0_v2 main_call0_v13 (by decide) (by decide),
    sub3 main_call0_v4 main_call0_v13 main_call0_v14 (by decide) (by decide) (by decide),
    sub4 main_call0_v12 main_call0_v14 main_call0_v4 main_v7 (by decide) (by decide) (by decide) (by decide),
    sub1 main_c_0 (by decide),
    sub2 main_c_0 main_v8 (by decide) (by decide),
    sub3 main_v7 main_v8 main_v9 (by decide) (by decide) (by decide),
    sub2 main_v9 main_v10 (by decide) (by decide),
    sub2 main_v10 main_v11 (by decide) (by decide),
    sub3 main_v5 main_v11 main_v12 (by decide) (by decide) (by decide),
    sub1 main_c_1 (by decide),
    sub2 main_c_1 main_v13 (by decide) (by decide),
    sub3 main_v12 main_v13 main_v14 (by decide) (by decide) (by decide),
    sub2 main_v14 main_v15 (by decide) (by decide)⟩

theorem opsA_fresh : ∀ op ∈ (opsA : List (HloOp τ sig (Elt F))), op.fresh = ∅ := by
  intro _ h; (repeat (cases h with | head => rfl | tail _ h => ?_)); exact nomatch h
theorem opsB_fresh : ∀ op ∈ (opsB : List (HloOp τ sig (Elt F))), op.fresh = ∅ := by
  intro _ h; (repeat (cases h with | head => rfl | tail _ h => ?_)); exact nomatch h

end Cert.Proof.Table

end
-- ==== Proof.Main.lean ====
/-
  @main's run on the TensorCore, and the whole program's: what every argument and the result hold when every thread has
  ended. It is stated for any float values; the printed kernel's frame and its idealization's frame and value are instances.
-/
module

public import proofs.«01_k».proof.Proof.Launch

@[expose] public section

noncomputable section

namespace Cert.Proof.Table

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F]

local notation "𝕄" => MT nD τ sig (HIx 2) (Elt F) ℕ UU ℕ

variable (m : (ℓ : Loc nD τ sig) → Buf (Elt F) ℓ) (ρ : Dev nD → PrngReg)

/-! ## What the host operations compute -/

/-- The divisor of the row's remainder: four, with jax's guard against zero. -/
def four : (⟨S_, .i32⟩ : BufTy).Contents (Elt F) :=
  select (cmpi .eq (id (constantI S_ 32 4#32)) (constantI S_ 32 0#32)) (constantI S_ 32 1#32) (id (constantI S_ 32 4#32))

/-- The rows' signed remainders. -/
def rem4 : (⟨S2048, .i32⟩ : BufTy).Contents (Elt F) :=
  Host.remsi (iotaInDim S2048 32 0) (broadcastInDim S2048 ![] bcast_S_S2048 (four (F := F)))

/-- Which of a word's four bytes is the row's. -/
def lane : (⟨S2048, .i32⟩ : BufTy).Contents (Elt F) :=
  select
    (andi
      (cmpi .ne (cmpi .slt (rem4 (F := F)) (broadcastInDim S2048 ![] bcast_S_S2048 (constantI S_ 32 0#32)))
        (broadcastInDim S2048 ![] bcast_S_S2048 (cmpi .slt (four (F := F)) (constantI S_ 32 0#32))))
      (cmpi .ne (rem4 (F := F)) (broadcastInDim S2048 ![] bcast_S_S2048 (constantI S_ 32 0#32))))
    (addi (rem4 (F := F)) (broadcastInDim S2048 ![] bcast_S_S2048 (four (F := F)))) (rem4 (F := F))

/-- The result out of the words. -/
def bytes (w : (⟨S512x32768, .i32⟩ : BufTy).Contents (Elt F)) : (⟨S2048x32768, .i8⟩ : BufTy).Contents (Elt F) :=
  trunci 8
    (andi
      (Host.shrsi
        (shapeCast S2048x32768 (broadcastInDim S512x4x32768 ![0, 2] bcast_S512x32768_S512x4x32768_0_2 w) shapeCasts_S512x4x32768_S2048x32768)
        (broadcastInDim S2048x32768 ![0, 1] bcast_S2048x1_S2048x32768_0_1
          (broadcastInDim S2048x1 ![0] bcast_S2048_S2048x1_0
            (muli (lane (F := F)) (broadcastInDim S2048 ![] bcast_S_S2048 (constantI S_ 32 8#32))))))
      (broadcastInDim S2048x32768 ![] bcast_S_S2048x32768 (constantI S_ 32 255#32)))
    natLt_8_32

theorem after_A (W : Valuation τ sig (Elt F)) :
    after opsA W (Proc.devRef .tc main_v2)
      = Host.divf (broadcastInDim S32768 ![] bcast_S_S32768 (constant S_ .f32 0x3F800000#32)) (W (Proc.devRef .tc main_v0)) := by
  after_results_simp

theorem after_B (W : Valuation τ sig (Elt F)) :
    after opsB W (Proc.devRef .tc main_v15) = bytes (W (Proc.devRef .tc main_v3)) := by
  after_results_simp
  rfl

/-! ## @main on the TensorCore -/

abbrev resLoc (d : Dev nD) : Loc nD τ sig := (SparseCore.T d).loc main_v15
abbrev resA (d : Dev nD) : (⟨S2048x32768, .i8⟩ : BufTy).Contents (Elt F) := bytes (outA m d)

/-- The launch's memory, as a valuation. -/
abbrev W0 (d : Dev nD) : Valuation τ sig (Elt F) := fun b => m (d, b)

/-- The arrays @main works on, and no others. -/
theorem bufs_split (d : Dev nD) :
    (unscopedBufs d (fun b => m ((SparseCore.T d).loc b)) : sProp 𝕄)
      ⊢ iprop((xLoc d ↦{fullShare} m (xLoc d)) ∗ (denLoc d ↦{fullShare} m (denLoc d)) ∗ (numLoc d ↦{fullShare} m (numLoc d))
        ∗ (dsLoc d ↦{fullShare} m (dsLoc d)) ∗ (outLoc d ↦{fullShare} m (outLoc d))
        ∗ held (SparseCore.T d) (refsA.map devE) (W0 m d) ∗ held (SparseCore.T d) (refsB.map devE) (W0 m d)) := by
  unfold unscopedBufs
  have h : (bigSep (Finset.univ.filter fun b : Ref sig .tc => ¬ b.isScoped) fun b => (SparseCore.T d).loc b ↦{fullShare} m ((SparseCore.T d).loc b) : sProp 𝕄)
      ⊢ bigSep (insert main_arg0 (insert main_arg1 (insert main_arg2 (insert main_v0 (insert main_v3 (refsA ∪ refsB))))))
        fun b => (SparseCore.T d).loc b ↦{fullShare} m ((SparseCore.T d).loc b) := BI.bigSep_subset (by decide)
  rw [SparseCore.bigSep_insert' (by decide), SparseCore.bigSep_insert' (by decide), SparseCore.bigSep_insert' (by decide),
    SparseCore.bigSep_insert' (by decide), SparseCore.bigSep_insert' (by decide), SparseCore.bigSep_union' (by decide)] at h
  rw [held_map, held_map]
  exact h

def FIN (d : Dev nD) : sProp 𝕄 :=
  iprop(readable (xLoc d) (xA m d) ∗ readable (denLoc d) (denA m d) ∗ readable (numLoc d) (numA m d) ∗ (resLoc d ↦{fullShare} resA m d))

theorem readable_intro (ℓ : Loc nD τ sig) (f : Buf (Elt F) ℓ) : (ℓ ↦{fullShare} f : sProp 𝕄) ⊢ readable ℓ f := by
  unfold readable
  iintro H
  iexists fullShare
  iexact H

/-- The reciprocals, after the first group of operations. -/
theorem rec_out (d : Dev nD) :
    (held (SparseCore.T d) ((insert main_v0 refsA).map devE) (after opsA (Function.update (W0 m d) (Proc.devRef .tc main_v0) (dsA m d))) : sProp 𝕄)
      ⊢ readable (recLoc d) (recA m d) := by
  refine (held_get d (insert main_v0 refsA) _ main_v2 (by decide)).trans ?_
  rw [after_A, Function.update_self]
  exact readable_intro (recLoc d) (recA m d)

/-- The result, after the second. -/
theorem res_out (d : Dev nD) :
    (held (SparseCore.T d) ((insert main_v3 refsB).map devE) (after opsB (Function.update (W0 m d) (Proc.devRef .tc main_v3) (outA m d))) : sProp 𝕄)
      ⊢ (resLoc d ↦{fullShare} resA m d) := by
  refine (held_get d (insert main_v3 refsB) _ main_v15 (by decide)).trans ?_
  rw [after_B, Function.update_self]

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [main_eq]
  iintro ⟨#Hctx, Hst, ⟨Hb, Hbufs, Hts, -⟩, -⟩
  ihave Hs := (bufs_split m d) $$ Hbufs
  icases Hs with ⟨Hx, Hden, Hnum, Hds, Hout, HA, HB⟩
  ihave Hx := (readable_intro (xLoc d) (xA m d)) $$ Hx
  ihave Hx := (readable_split (xLoc d) (xA m d)) $$ Hx
  icases Hx with ⟨Hx, Hx1⟩
  ihave Hx1 := (readable_split (xLoc d) (xA m d)) $$ Hx1
  icases Hx1 with ⟨Hx1, Hx2⟩
  ihave Hden := (readable_intro (denLoc d) (denA m d)) $$ Hden
  ihave Hden := (readable_split (denLoc d) (denA m d)) $$ Hden
  icases Hden with ⟨Hden, Hden1⟩
  ihave Hnum := (readable_intro (numLoc d) (numA m d)) $$ Hnum
  ihave Hnum := (readable_split (numLoc d) (numA m d)) $$ Hnum
  icases Hnum with ⟨Hnum, Hnum1⟩
  rw [wp_bind]
  iapply ((K (F := F)).wp_run (D (F := F)) 𝒱 (EH := EH) (P := P m) κ d 0)
  isplitr; · iexact Hctx
  isplitl [Hst]; · iexact Hst
  isplitl [Hx1 Hden1 Hds]
  · iapply (deal0 m d)
    isplitl [Hx1]; · iexact Hx1
    isplitl [Hden1]; · iexact Hden1
    iexact Hds
  iintro ⟨Hst, Hdn⟩
  ihave Hds := (Entails.of_eq (gather0 m d)) $$ Hdn
  ihave HA := (Entails.of_eq (held_put d refsA (W0 m d) main_v0 (by decide) (dsA m d)).symm) $$ [Hds HA]
  · isplitl [Hds]; · iexact Hds
    iexact HA
  iapply (wp_seq 𝒱 none Set.univ d ((insert main_v0 refsA).map devE) _ opsA opsA_sub opsA_fresh _) $$ [Hb HA]
  · isplitl [Hb]; · iexact Hb
    iexact HA
  iintro ⟨Hb, HA⟩
  ihave Hrec := (rec_out m d) $$ HA
  rw [wp_bind]
  iapply ((K (F := F)).wp_run (D (F := F)) 𝒱 (EH := EH) (P := P m) κ d 1)
  isplitr; · iexact Hctx
  isplitl [Hst]; · iexact Hst
  isplitl [Hx2 Hnum1 Hrec Hout]
  · iapply (deal1 m d)
    isplitl [Hx2]; · iexact Hx2
    isplitl [Hnum1]; · iexact Hnum1
    isplitl [Hrec]; · iexact Hrec
    iexact Hout
  iintro ⟨Hst, Hdn⟩
  ihave Hout := (Entails.of_eq (gather1 m d)) $$ Hdn
  ihave HB := (Entails.of_eq (held_put d refsB (W0 m d) main_v3 (by decide) (outA m d)).symm) $$ [Hout HB]
  · isplitl [Hout]; · iexact Hout
    iexact HB
  iapply (wp_seq 𝒱 none Set.univ d ((insert main_v3 refsB).map devE) _ opsB opsB_sub opsB_fresh _) $$ [Hb HB]
  · isplitl [Hb]; · iexact Hb
    iexact HB
  iintro ⟨Hb, HB⟩
  ihave Hres := (res_out m d) $$ HB
  rw [wp_pure]
  imodintro
  isplitl [Hst]; · iexact Hst
  isplitr [Hb Hts]
  · unfold FIN
    isplitl [Hx]; · iexact Hx
    isplitl [Hden]; · iexact Hden
    isplitl [Hnum]; · iexact Hnum
    iexact Hres
  isplitl [Hb] <;> iassumption

/-! ## The end -/

def fq (d : Dev nD) (s' : Phys nD τ sig (Elt F)) : Prop :=
  (s'.mem.mem (xLoc d) = m (xLoc d) ∧ s'.mem.mem (denLoc d) = m (denLoc d) ∧ s'.mem.mem (numLoc d) = m (numLoc d))
    ∧ s'.mem.mem (resLoc d) = resA m d

/-- An array that may be read holds what it is read at. -/
theorem readable_agree (s' : Phys nD τ sig (Elt F)) (ℓ : Loc nD τ sig) (f : Buf (Elt F) ℓ) :
    iprop(SI s' ∗ readable ℓ f) ⊢ (⌜s'.mem.mem ℓ = f⌝ : sProp 𝕄) := by
  unfold readable
  iintro ⟨HSI, ⟨%q, H⟩⟩
  ihave H := (SI_pointsTo_agree (st := s') (ℓ := ℓ) (I := Finset.univ) (q := q) (f := f)) $$ [HSI H]
  · isplitl [HSI] <;> iassumption
  icases H with %h
  ipureintro; exact funext fun i => h i (Finset.mem_univ i)

theorem hfin (d : Dev nD) (s' : Phys nD τ sig (Elt F)) : iprop(FIN m d ∗ SI s') ⊢ (⌜fq m d s'⌝ : sProp 𝕄) := by
  unfold FIN
  iintro ⟨⟨Hx, Hden, Hnum, Hres⟩, HSI⟩
  ihave H := (persistent_entails_right (readable_agree s' (xLoc d) (xA m d))) $$ [HSI Hx]
  · isplitl [HSI] <;> iassumption
  icases H with ⟨%h1, HSI, -⟩
  ihave H := (persistent_entails_right (readable_agree s' (denLoc d) (denA m d))) $$ [HSI Hden]
  · isplitl [HSI] <;> iassumption
  icases H with ⟨%h2, HSI, -⟩
  ihave H := (persistent_entails_right (readable_agree s' (numLoc d) (numA m d))) $$ [HSI Hnum]
  · isplitl [HSI] <;> iassumption
  icases H with ⟨%h3, HSI, -⟩
  ihave H := (SI_pointsTo_agree (st := s') (ℓ := resLoc d) (I := Finset.univ) (q := fullShare) (f := resA m d)) $$ [HSI Hres]
  · isplitl [HSI] <;> iassumption
  icases H with %h4
  ipureintro; exact ⟨⟨h1, h2, h3⟩, funext fun i => h4 i (Finset.mem_univ i)⟩

def QC : PUnit × MemSt nD τ sig (Elt F) → Prop := fun r =>
  (∀ c : Dev nD, (r.2.mem (xLoc c) = m (xLoc c) ∧ r.2.mem (denLoc c) = m (denLoc c) ∧ r.2.mem (numLoc c) = m (numLoc c))
    ∧ r.2.mem (resLoc c) = resA m c) ∧ r.2.sem = fun _ => 0

theorem run_main [∀ e, Nonempty (Elt F e)] (hm : InTable m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => tileObl0 m hm | 1 => tileObl1 m hm)
    (fun q _ => SparseCore.Cfg.VecSplit.of_plain (vecSplit m q))
    m ρ main (fun _ => iprop(emp)) (FIN m) (u₀ (F := F)) (sep_elim_left.trans (hu₀ m)) (hmain m ρ) (fq m) (hfin m) (QC m) (fun _ h hz => ⟨h, hz⟩)

end Cert.Proof.Table
-- ==== Proof.Frames.lean ====
/-
  What the frames' precondition gives, and the claims that say the programs run and leave their arguments alone.
-/
module

public import proofs.«01_k».proof.Proof.Main
public import proofs.«01_k».proof.Defs
public import proofs.«01_k».proof.Proof.Gen.Kernel
public import proofs.«01_k».proof.Proof.Gen.ReferenceIdeal.Run
public import Idealize.ShloMosaic.Lib.Quiescent

@[expose] public section

noncomputable section

namespace Cert.Proof.Table

open Cert.KernelIdeal Cert.KernelIdeal.Gen
open Idealize.ShloMosaic Idealize.SL.Sem

/-! ## The side condition of the precondition -/

instance facts_x : Cert.Pre_x_in_table.Facts where
  bcast_S_S2048x32768 := by decide

/-! ## What the precondition says -/

theorem word_in_table (v : BitVec 32) (e : IntOp.andi (IntOp.cmpi .sge v 0#32) (IntOp.cmpi .slt v 256#32) = 1#1) : v.toNat < 256 := by
  have hand (p q : Bool) : IntOp.andi (BitVec.ofBool p) (BitVec.ofBool q) = BitVec.ofBool (p && q) := by
    cases p <;> cases q <;> decide
  have hone (p : Bool) : (BitVec.ofBool p = 1#1) ↔ p = true := by cases p <;> decide
  simp only [IntOp.cmpi, hand, hone, Bool.and_eq_true, BitVec.sle_eq_decide, BitVec.slt_eq_decide,
    decide_eq_true_eq, BitVec.toInt_eq_toNat_cond, BitVec.toNat_ofNat, Nat.reducePow, Nat.reduceMod] at e
  omega

theorem x_in_table {F : FTy → Type} [FloatOps F] (x : IVec S2048x32768 32) (den num : FVec F S256 .f32)
    (h : Cert.Pre_x_in_table.fn x den num = fun _ => 1#1) (i : S2048x32768.Idx) : (x i).toNat < 256 :=
  word_in_table _ (congrFun h i)

/-! ## The frames -/

theorem frame_Kernel : Cert.quiescent_Kernel := fun m ρ h =>
  (θ_run Cert.KernelIdeal.defs _ _).mono (fun _ h => ⟨fun c => (h.1 c).1, h.2⟩)
    (run_main (F := Bits) m ρ fun d i => x_in_table _ _ _ (h d) i)

theorem frame_KernelIdeal : Cert.quiescent_KernelIdeal := fun m ρ h =>
  (θ_run Cert.KernelIdeal.defs _ _).mono (fun _ h => ⟨fun c => (h.1 c).1, h.2⟩)
    (run_main (F := Ideal) m ρ fun d i => x_in_table _ _ _ (h d) i)

theorem frame_ReferenceIdeal : Cert.quiescent_ReferenceIdeal := fun m ρ _ =>
  (θ_run Cert.ReferenceIdeal.defs _ _).mono (fun _ h => ⟨fun c => (h c).2, sem_eq_zero_of_no_sems (by decide) _⟩)
    (Cert.ReferenceIdeal.Value.run m ρ)

end Cert.Proof.Table

end
-- ==== Proof.Tables.lean ====
/-
  What the value claim's precondition gives at the extended reals, and the frames stated under it.
-/
module

public import proofs.«01_k».proof.Proof.Frames
public import Idealize.ShloMosaic.Lib.ReduceAll
public import Idealize.ShloMosaic.Lib.IdealHost

@[expose] public section

noncomputable section

namespace Cert.Proof.Table

open Cert.KernelIdeal Cert.KernelIdeal.Gen
open Idealize.ShloMosaic Idealize.SL.Sem

instance facts_tables : Cert.Pre_tables_nonnegative.Facts where
  bcast_S_S2048x32768 := by decide
  reducesTo_S2048x32768_S_d0_1 := by decide
  h_S_ := by decide
  bcast_S_S256 := by decide
  reducesTo_S256_S_d0 := by decide

/-- The second precondition, at the extended reals. -/
theorem tables_nonnegative (x : IVec S2048x32768 32) (den num : FVec Ideal S256 .f32)
    (h : Cert.Pre_tables_nonnegative.fn x den num = fun _ => 1#1) :
    (∀ i, (x i).toNat < 256) ∧ (∀ i, (0 : EReal) ≤ den i) ∧ ∀ i, (0 : EReal) ≤ num i := by
  have h0 := congrFun h (fun a => nomatch a)
  obtain ⟨h1, hn⟩ := IntOp.andi_eq_one.1 h0
  obtain ⟨hx, hd⟩ := IntOp.andi_eq_one.1 h1
  haveI : Subsingleton (⟨0, ![]⟩ : Shape).Idx := ⟨fun a b => funext fun c => nomatch c⟩
  have key : ∀ f : EReal, Ideal.cmp .oge f (Ideal.ofBits .f32 0x00000000#32) = 1#1 → (0 : EReal) ≤ f := by
    intro f hf
    rw [Ideal.ofBits_zero_f32] at hf
    by_contra hlt
    simp [Ideal.cmp, hlt] at hf
  refine ⟨fun i => ?_, fun i => ?_, fun i => ?_⟩
  · exact word_in_table _ (Host.reduce_andi_all _ _ _ _ _ hx i)
  · exact key _ (Host.reduce_andi_all _ _ _ _ _ hd i)
  · exact key _ (Host.reduce_andi_all _ _ _ _ _ hn i)

theorem frame_KernelIdeal_tables : Cert.quiescent_KernelIdeal_pre_tables_nonnegative := fun m ρ h =>
  (θ_run Cert.KernelIdeal.defs _ _).mono (fun _ h => ⟨fun c => (h.1 c).1, h.2⟩)
    (run_main (F := Ideal) m ρ fun d i => (tables_nonnegative _ _ _ (h d)).1 i)

theorem frame_ReferenceIdeal_tables : Cert.quiescent_ReferenceIdeal_pre_tables_nonnegative := fun m ρ _ =>
  (θ_run Cert.ReferenceIdeal.defs _ _).mono (fun _ h => ⟨fun c => (h c).2, sem_eq_zero_of_no_sems (by decide) _⟩)
    (Cert.ReferenceIdeal.Value.run m ρ)

end Cert.Proof.Table

end
-- ==== Proof.Numbers.lean ====
/-
  The numbers of one element: the kernel's byte, by the reciprocal and a clamp from above, is the reference's, by the
  quotient and a clamp from both sides; and four bytes packed in a word come out again by a shift and a mask.
-/
module

public import proofs.«01_k».proof.Proof.Pack
public import Idealize.ShloMosaic.PureOps.Ideal
public import Idealize.ShloMosaic.Lib.IdealHost

@[expose] public section

noncomputable section

namespace Cert.Proof.Table

open Idealize.ShloMosaic

/-! ## The quotient -/

/-- A real's conversion. -/
theorem fptosi_coe (r : ℝ) : Ideal.fptosi 32 (r : EReal)
    = BitVec.ofInt 32 (max (-((2 ^ 31 : ℕ) : ℤ)) (min (((2 ^ 31 : ℕ) : ℤ) - 1) (if 0 ≤ r then ⌊r⌋ else ⌈r⌉))) := rfl

theorem coe255 : ((255 : ℝ) : EReal) = 255 := by norm_cast

/-- A number that is not negative, clamped from above after the conversion and before it. -/
theorem clamp_above (q : EReal) (hq : 0 ≤ q) :
    IntOp.minsi (Ideal.fptosi 32 q) 255#32 = Ideal.fptosi 32 (min 255 q) ∧ (Ideal.fptosi 32 (min 255 q)).toNat < 256 := by
  have h255 : Ideal.fptosi 32 (255 : EReal) = 255#32 := by
    rw [← coe255, fptosi_coe, if_pos (by norm_num), show ⌊(255 : ℝ)⌋ = 255 from by norm_num]
    decide
  induction q using EReal.rec with
  | bot => exact absurd hq (by simp)
  | top =>
    rw [min_eq_left le_top, h255]
    refine ⟨?_, by decide⟩
    have : Ideal.fptosi 32 (⊤ : EReal) = BitVec.ofInt 32 ((2 ^ 31 : ℕ) - 1) := rfl
    rw [this]; decide
  | coe r =>
    have hr : 0 ≤ r := by exact_mod_cast hq
    have hk : 0 ≤ ⌊r⌋ := Int.floor_nonneg.mpr hr
    have e1 : Ideal.fptosi 32 (r : EReal) = BitVec.ofInt 32 (min ((2 ^ 31 : ℕ) - 1) ⌊r⌋) := by
      rw [fptosi_coe, if_pos hr]
      congr 1
      exact max_eq_right (by omega)
    by_cases h : r < 255
    · have hf : ⌊r⌋ < 255 := by
        have := Int.floor_le r
        have h2 : (⌊r⌋ : ℝ) < 255 := lt_of_le_of_lt this h
        exact_mod_cast h2
      rw [min_eq_right (by rw [← coe255]; exact EReal.coe_le_coe_iff.mpr h.le), e1]
      obtain ⟨k, hk'⟩ := Int.eq_ofNat_of_zero_le hk
      have e2 : min (((2 ^ 31 : ℕ) : ℤ) - 1) ⌊r⌋ = (k : ℤ) := by omega
      rw [e2]
      have hk2 : k < 255 := by omega
      have e3 : BitVec.ofInt 32 (k : ℤ) = BitVec.ofNat 32 k := by simp
      rw [e3]
      have hi : (BitVec.ofNat 32 k).toInt = k := by
        rw [BitVec.toInt_eq_toNat_cond, BitVec.toNat_ofNat]; omega
      refine ⟨?_, by rw [BitVec.toNat_ofNat]; omega⟩
      unfold IntOp.minsi
      rw [if_pos]
      rw [BitVec.slt_eq_decide, hi]
      simp only [decide_eq_true_eq]
      have : (255#32 : BitVec 32).toInt = 255 := by decide
      omega
    · have hf : 255 ≤ ⌊r⌋ := Int.le_floor.mpr (by push_cast; linarith)
      rw [min_eq_left (by rw [← coe255]; exact EReal.coe_le_coe_iff.mpr (not_lt.mp h)), h255, e1]
      refine ⟨?_, by decide⟩
      have hi : (BitVec.ofInt 32 (min (((2 ^ 31 : ℕ) : ℤ) - 1) ⌊r⌋)).toInt = min (((2 ^ 31 : ℕ) : ℤ) - 1) ⌊r⌋ := by
        rw [BitVec.toInt_ofInt]
        refine Int.bmod_eq_of_le ?_ ?_ <;> omega
      unfold IntOp.minsi
      rw [if_neg]
      rw [BitVec.slt_eq_decide, hi]
      simp only [decide_eq_true_eq]
      have : (255#32 : BitVec 32).toInt = 255 := by decide
      omega

/-- One element: `n` over the sum `s`. -/
theorem byte_eq (n s : EReal) (hn : 0 ≤ n) (hs : 0 ≤ s) :
    IntOp.minsi (Ideal.fptosi 32 (n * Ideal.div 1 s)) 255#32 = Ideal.fptosi 32 (min 255 (max 0 (Ideal.div n s)))
      ∧ (Ideal.fptosi 32 (min 255 (max 0 (Ideal.div n s)))).toNat < 256 := by
  have key : 0 ≤ n * Ideal.div 1 s ∧ n * Ideal.div 1 s = max 0 (Ideal.div n s) := by
    by_cases h0 : s = 0
    · subst h0
      rcases hn.lt_or_eq with h | h
      · have e : n * Ideal.div 1 0 = ⊤ := by simp [Ideal.div, EReal.mul_top_of_pos h]
        have e2 : Ideal.div n 0 = ⊤ := by simp [Ideal.div, h]
        rw [e, e2]; simp
      · subst h; simp [Ideal.div]
    · have e : n * Ideal.div 1 s = n * s⁻¹ := by simp [Ideal.div, h0]
      have e2 : Ideal.div n s = n * s⁻¹ := by simp [Ideal.div, h0]
      have hp : 0 ≤ n * s⁻¹ := mul_nonneg hn (EReal.inv_nonneg_of_nonneg hs)
      rw [e, e2, max_eq_right hp]
      exact ⟨hp, rfl⟩
  rw [← key.2]
  exact clamp_above _ key.1

/-! ## The word's bytes -/

/-- Byte `k` of four packed bytes. -/
theorem byte_of_word (b : ℕ → BitVec 32) (hb : ∀ k, (b k).toNat < 256) (k : ℕ) (hk : k < 4) :
    (IntOp.andi (IntOp.shrsi .host
        (IntOp.ori (IntOp.ori (IntOp.ori (IntOp.ori 0#32 (IntOp.shli .vector (b 0) 0#32)) (IntOp.shli .vector (b 1) 8#32))
          (IntOp.shli .vector (b 2) 16#32)) (IntOp.shli .vector (b 3) 24#32))
        (BitVec.ofNat 32 (8 * k))) 255#32).setWidth 8 = (b k).setWidth 8 := by
  have hz : ∀ j i, 8 ≤ i → (b j).getLsbD i = false := fun j i hi => by
    rw [BitVec.getLsbD, Nat.testBit_lt_two_pow]
    exact lt_of_lt_of_le (hb j) (by calc 256 = 2 ^ 8 := rfl
      _ ≤ 2 ^ i := Nat.pow_le_pow_right (by norm_num) hi)
  have hz2 : ∀ j i (h : i < 32), 8 ≤ i → (b j)[i] = false := fun j i h hi => by
    rw [← BitVec.getLsbD_eq_getElem]; exact hz j i hi
  have hm : ∀ i, i < 8 → (255#32 : BitVec 32).getLsbD i = true := by decide
  apply BitVec.eq_of_getLsbD_eq
  intro i hi
  have e : ∀ (j : ℕ) (c : BitVec 32), c.toNat < 32 → IntOp.shli .vector (b j) c = b j <<< c.toNat := fun j c hc => by
    unfold IntOp.shli; rw [if_pos hc]; rfl
  unfold IntOp.shrsi IntOp.andi IntOp.ori
  rw [e 0 _ (by decide), e 1 _ (by decide), e 2 _ (by decide), e 3 _ (by decide)]
  have h8 : (BitVec.ofNat 32 (8 * k)).toNat = 8 * k := by rw [BitVec.toNat_ofNat]; omega
  rw [if_pos (by omega)]
  simp only [BitVec.getLsbD_setWidth, BitVec.getLsbD_and, BitVec.sshiftRight', BitVec.getLsbD_sshiftRight, BitVec.getLsbD_or,
    BitVec.getLsbD_shiftLeft, h8, hm i hi, hi]
  interval_cases k <;> interval_cases i <;> simp [hz, hz2]

/-! ## The row's byte -/

/-- The signed remainder by four of a row's number. -/
theorem lane_eq (r : ℕ) (hr : r < 2048) : IntOp.remsi .host (BitVec.ofNat 32 r) 4#32 = BitVec.ofNat 32 (r % 4) := by
  unfold IntOp.remsi
  rw [if_neg (by
    rintro (h | ⟨-, h⟩)
    · exact absurd h (by decide)
    · exact absurd h (by decide))]
  have hm : (BitVec.ofNat 32 r).msb = false := BitVec.msb_eq_false_iff_two_mul_lt.mpr (by rw [BitVec.toNat_ofNat]; omega)
  rw [BitVec.srem_eq, hm, show (4#32 : BitVec 32).msb = false from by decide]
  apply BitVec.eq_of_toNat_eq
  show ((BitVec.ofNat 32 r) % 4#32).toNat = _
  rw [BitVec.toNat_umod, BitVec.toNat_ofNat, BitVec.toNat_ofNat, BitVec.toNat_ofNat,
    Nat.mod_eq_of_lt (show r < 2 ^ 32 by omega), Nat.mod_eq_of_lt (show r % 4 < 2 ^ 32 by omega)]

end Cert.Proof.Table

end
-- ==== Proof.Words.lean ====
/-
  The host's last operations read at an element: each takes its own byte out of the word of its group of four rows.
-/
module

public import proofs.«01_k».proof.Proof.Main
public import proofs.«01_k».proof.Proof.Numbers
public import Idealize.ShloMosaic.Lib.Pipeline.Value
public import Idealize.ShloMosaic.Lib.Pointwise.Reshape

@[expose] public section

noncomputable section

namespace Cert.Proof.Table

open Cert.KernelIdeal Cert.KernelIdeal.Gen
open Idealize.ShloMosaic Idealize.SL.Sem

variable {F : FTy → Type} [FloatOps F]

/-- The remainder of a row's number by four. -/
theorem rem4_apply (i : S2048.Idx) : rem4 (F := F) i = BitVec.ofNat 32 ((i 0).val % 4) :=
  Eq.trans (b := IntOp.remsi .host (BitVec.ofNat 32 (i 0).val) 4#32) rfl (lane_eq (i 0).val (i 0).isLt)

/-- Which of a word's bytes a row's is. -/
theorem lane_apply (i : S2048.Idx) : lane (F := F) i = BitVec.ofNat 32 ((i 0).val % 4) := by
  have h := rem4_apply (F := F) i
  have e : lane (F := F) i = Scalar.select
      (IntOp.andi (IntOp.cmpi .ne (IntOp.cmpi .slt (rem4 (F := F) i) 0#32) (IntOp.cmpi .slt 4#32 0#32)) (IntOp.cmpi .ne (rem4 (F := F) i) 0#32))
      (IntOp.addi (rem4 (F := F) i) 4#32) (rem4 (F := F) i) := rfl
  rw [e, h]
  have hlt : (i 0).val % 4 < 4 := Nat.mod_lt _ (by norm_num)
  generalize (i 0).val % 4 = k at hlt
  interval_cases k <;> rfl

/-- The group and the row inside the group of an element. -/
def spread (i : S2048x32768.Idx) : S512x4x32768.Idx := fun
  | 0 => (⟨(i 0).val / 4, Nat.div_lt_of_lt_mul (i 0).isLt⟩ : Fin 512)
  | 1 => (⟨(i 0).val % 4, Nat.mod_lt _ (by norm_num)⟩ : Fin 4)
  | 2 => (⟨(i 1).val, (i 1).isLt⟩ : Fin 32768)

/-- A group's word, repeated for the group's rows. -/
theorem repeated_apply {α : Type} (w : S512x32768.Idx → α) (i : S2048x32768.Idx) :
    shapeCast S2048x32768 (broadcastInDim S512x4x32768 ![0, 2] bcast_S512x32768_S512x4x32768_0_2 w) shapeCasts_S512x4x32768_S2048x32768 i
      = w (ix2 ((i 0).val / 4) (i 1).val) := by
  have h0 : (i 0).val < 2048 := (i 0).isLt
  have h1 : (i 1).val < 32768 := (i 1).isLt
  refine (shapeCast_apply _ _ i (spread i) ?_).trans ?_
  · refine (rowMajor_val3 (spread i) 131072 32768 rfl rfl).trans (Eq.trans ?_ (rowMajor_val2 i 32768 rfl).symm)
    have e0 : (spread i 0).val = (i 0).val / 4 := rfl
    have e1 : (spread i 1).val = (i 0).val % 4 := rfl
    have e2 : (spread i 2).val = (i 1).val := rfl
    rw [e0, e1, e2]
    omega
  · refine broadcastInDim_apply _ _ _ _ _ fun a => ?_
    match a with
    | 0 => exact (ix2_val0 (by omega)).trans rfl
    | 1 => exact (ix2_val1 h1).trans rfl

/-- The result at an element. -/
theorem bytes_apply (w : S512x32768.Idx → BitVec 32) (i : S2048x32768.Idx) :
    bytes (F := F) w i
      = (IntOp.andi (IntOp.shrsi .host (w (ix2 ((i 0).val / 4) (i 1).val)) (BitVec.ofNat 32 (8 * ((i 0).val % 4)))) 255#32).setWidth 8 := by
  have h0 : (i 0).val < 2048 := (i 0).isLt
  have e : ∀ (v : S2048.Idx → BitVec 32),
      broadcastInDim S2048x32768 ![0, 1] bcast_S2048x1_S2048x32768_0_1 (broadcastInDim S2048x1 ![0] bcast_S2048_S2048x1_0 v) i
        = v (ix1 (i 0).val) := fun v => by
    refine (broadcastInDim_apply _ _ _ _ (ix2 (i 0).val 0) fun a => ?_).trans (broadcastInDim_apply _ _ _ _ _ fun a => ?_)
    · match a with
      | 0 => exact (ix2_val0 h0).trans rfl
      | 1 => exact (ix2_val1 (by norm_num)).trans rfl
    · match a with
      | 0 => exact (ix1_val h0).trans (ix2_val0 h0).symm
  have hl : IntOp.muli (lane (F := F) (ix1 (i 0).val)) 8#32 = BitVec.ofNat 32 (8 * ((i 0).val % 4)) := by
    rw [lane_apply, ix1_val h0]
    have hlt : (i 0).val % 4 < 4 := Nat.mod_lt _ (by norm_num)
    generalize (i 0).val % 4 = k at hlt
    interval_cases k <;> rfl
  have t : bytes (F := F) w i = (IntOp.andi (IntOp.shrsi .host
      (shapeCast S2048x32768 (broadcastInDim S512x4x32768 ![0, 2] bcast_S512x32768_S512x4x32768_0_2 w) shapeCasts_S512x4x32768_S2048x32768 i)
      (broadcastInDim S2048x32768 ![0, 1] bcast_S2048x1_S2048x32768_0_1
        (broadcastInDim S2048x1 ![0] bcast_S2048_S2048x1_0
          (muli (lane (F := F)) (broadcastInDim S2048 ![] bcast_S_S2048 (constantI S_ 32 8#32)))) i)) 255#32).setWidth 8 := rfl
  rw [t, repeated_apply, e]
  have hm : muli (lane (F := F)) (broadcastInDim S2048 ![] bcast_S_S2048 (constantI S_ 32 8#32)) (ix1 (i 0).val)
      = IntOp.muli (lane (F := F) (ix1 (i 0).val)) 8#32 := rfl
  rw [hm, hl]

/-- The result at an element, of packed words whose four levels fit a byte: the element's own level. -/
theorem bytes_word (X : S2048x32768.Idx → BitVec 32) (nb : S256.Idx → F .f32) (rec : S32768.Idx → F .f32)
    (h : ∀ i, (level (look nb (X i)) (rec (ix1 (i 1).val))).toNat < 256) (i : S2048x32768.Idx) :
    bytes (F := F) (outVal X nb rec) i = (level (look nb (X i)) (rec (ix1 (i 1).val))).setWidth 8 := by
  have h0 : (i 0).val < 2048 := (i 0).isLt
  have h1 : (i 1).val < 32768 := (i 1).isLt
  have hw := byte_of_word (fun k => level (look nb (X (ix2 (4 * ((i 0).val / 4) + k) (i 1).val))) (rec (ix1 (i 1).val)))
    (fun k => by
      have := h (ix2 (4 * ((i 0).val / 4) + k) (i 1).val)
      rwa [ix2_val1 h1] at this) ((i 0).val % 4) (Nat.mod_lt _ (by norm_num))
  have hi : ix2 (4 * ((i 0).val / 4) + (i 0).val % 4) (i 1).val = i := (eq_ix2 (by omega) rfl).symm
  rw [bytes_apply]
  unfold outVal word
  rw [ix2_val0 (show (i 0).val / 4 < 512 by omega), ix2_val1 h1]
  simp only [hi] at hw
  exact hw

end Cert.Proof.Table

end
-- ==== Proof.Sums.lean ====
/-
  The sums: a column's running sum, chunk by chunk and four ways inside a chunk, is the sum over the column's rows.
-/
module

public import proofs.«01_k».proof.Proof.P1
public import Idealize.ShloMosaic.PureOps.Ideal
public import Idealize.ShloMosaic.Lib.IdealHost

@[expose] public section

noncomputable section

namespace Cert.Proof.Table

open Cert.KernelIdeal Cert.KernelIdeal.Gen
open Idealize.ShloMosaic Idealize.SL.Sem

theorem zero_f32 : (Scalar.ofBits .f32 0x00000000#32 : Ideal .f32) = (0 : EReal) := Ideal.ofBits_zero_f32

theorem addf_ideal (a b : Ideal .f32) : FloatOps.addf a b = (show EReal from a) + (show EReal from b) := rfl

/-- A chunk's sum. -/
theorem chunkSum_eq (w : ℕ → EReal) : chunkSum (F := Ideal) w = ∑ r ∈ Finset.range 32, w r := by
  have e : chunkSum (F := Ideal) w =
      (((0 : EReal) + w (0 + 0) + w (4 + 0) + w (8 + 0) + w (12 + 0) + w (16 + 0) + w (20 + 0) + w (24 + 0) + w (28 + 0))
        + ((0 : EReal) + w (0 + 1) + w (4 + 1) + w (8 + 1) + w (12 + 1) + w (16 + 1) + w (20 + 1) + w (24 + 1) + w (28 + 1)))
      + (((0 : EReal) + w (0 + 2) + w (4 + 2) + w (8 + 2) + w (12 + 2) + w (16 + 2) + w (20 + 2) + w (24 + 2) + w (28 + 2))
        + ((0 : EReal) + w (0 + 3) + w (4 + 3) + w (8 + 3) + w (12 + 3) + w (16 + 3) + w (20 + 3) + w (24 + 3) + w (28 + 3))) := by
    rw [← zero_f32]; rfl
  rw [e]
  simp only [Finset.sum_range_succ, Finset.sum_range_zero, Nat.reduceAdd, zero_add]
  abel

/-- A column's sum after some chunks. -/
theorem colAcc_eq (X : S2048x32768.Idx → BitVec 32) (den : S256.Idx → EReal) (c n : ℕ) :
    colAcc (F := Ideal) X den c n = ∑ r ∈ Finset.range (32 * n), (look (F := Ideal) den (X (ix2 r c)) : EReal) := by
  induction n with
  | zero => exact zero_f32
  | succ n ih =>
    show FloatOps.addf (colAcc (F := Ideal) X den c n) (chunkSum (F := Ideal) fun r => look den (X (ix2 (32 * n + r) c))) = _
    rw [ih, chunkSum_eq, addf_ideal, show 32 * (n + 1) = 32 * n + 32 from rfl, Finset.sum_range_add]

/-- A column's sum, over the rows. -/
theorem dsOut_eq (X : S2048x32768.Idx → BitVec 32) (den : S256.Idx → EReal) (i : S32768.Idx) :
    dsOut (F := Ideal) X den i = ∑ k : Fin 2048, (look (F := Ideal) den (X (ix2 k.val (i 0).val)) : EReal) := by
  unfold dsOut
  rw [colAcc_eq]
  exact Finset.sum_range (n := 2048) _

end Cert.Proof.Table

end
-- ==== Proof.Plain.lean ====
/-
  The reference's operations read at an element: the table's entry at the word, the column's sum, the clamped quotient.
-/
module

public import proofs.«01_k».proof.Proof.Setup
public import proofs.«01_k».proof.Proof.Gen.ReferenceIdeal
public import Idealize.ShloMosaic.Lib.ValueIdxCore
public import Idealize.ShloMosaic.Lib.ReduceAll
public import Idealize.ShloMosaic.Lib.IdealHost
public import Idealize.ShloMosaic.Lib.Pointwise.Reduce
public import Idealize.ShloMosaic.Lib.Pipeline.Value

@[expose] public section

noncomputable section

namespace Cert.Proof.Table

open Cert.ReferenceIdeal Cert.ReferenceIdeal.Gen
open Idealize.ShloMosaic Idealize.SL.Sem

/-- A word, counted from the end of the table when it is negative. -/
def wrap (x : IVec S2048x32768 32) : IVec S2048x32768x1 32 :=
  broadcastInDim S2048x32768x1 ![0, 1] bcast_S2048x32768_S2048x32768x1_0_1
    (select (cmpi .slt x (broadcastInDim S2048x32768 ![] bcast_S_S2048x32768 (constantI S_ 32 0#32)))
      (addi x (broadcastInDim S2048x32768 ![] bcast_S_S2048x32768 (constantI S_ 32 256#32))) x)

/-- The table's entries at the words. -/
def takeV (tab : FVec Ideal S256 .f32) (x : IVec S2048x32768 32) : FVec Ideal S2048x32768 .f32 :=
  select
    (Host.reduce IntOp.andi
      (andi (cmpi .sge (wrap x) (broadcastInDim S2048x32768x1 ![] bcast_S_S2048x32768x1 (constantI S_ 32 0#32)))
        (cmpi .sle (wrap x) (broadcastInDim S2048x32768x1 ![0, 1, 2] bcast_S1x1x1_S2048x32768x1_0_1_2
          (broadcastInDim S1x1x1 ![2] bcast_S1_S1x1x1_2 (constantI S1 32 255#32)))))
      (constantI S_ 1 1#1) reducesTo_S2048x32768x1_S2048x32768_d2 h_S_)
    (Host.gather gather_S256_S2048x32768x1_S2048x32768_n_0_n_n_0_2_1 tab (wrap x))
    (broadcastInDim S2048x32768 ![] bcast_S_S2048x32768 (constant S_ .f32 0x7FC00000#32))

/-- The reference's result. -/
def plain (x : IVec S2048x32768 32) (den num : FVec Ideal S256 .f32) : IVec S2048x32768 8 :=
  trunci 8 (fptosi 32 (minimumf (broadcastInDim S2048x32768 ![] bcast_S_S2048x32768 (id (constant S_ .f32 0x437F0000#32)))
    (maximumf (broadcastInDim S2048x32768 ![] bcast_S_S2048x32768 (id (constant S_ .f32 0x00000000#32)))
      (Host.divf (takeV num x)
        (broadcastInDim S2048x32768 ![0, 1] bcast_S1x32768_S2048x32768_0_1
          (broadcastInDim S1x32768 ![1] bcast_S32768_S1x32768_1
            (Host.reduceAdd (takeV den x) (constant S_ .f32 0x00000000#32) reducesTo_S2048x32768_S32768_d0 h_S_))))))) natLt_8_32

theorem toInt_small {v : BitVec 32} (h : v.toNat < 256) : v.toInt = v.toNat := by
  rw [BitVec.toInt_eq_toNat_cond, if_pos (by omega)]

/-- A word that names an entry is not moved. -/
theorem wrap_apply (x : IVec S2048x32768 32) (h : ∀ i, (x i).toNat < 256) (j : S2048x32768x1.Idx) :
    wrap x j = x (ix2 (j 0).val (j 1).val) := by
  have h0 : (j 0).val < 2048 := (j 0).isLt
  have h1 : (j 1).val < 32768 := (j 1).isLt
  refine (broadcastInDim_apply _ _ _ _ (ix2 (j 0).val (j 1).val) fun a => ?_).trans ?_
  · match a with
    | 0 => exact (ix2_val0 h0).trans rfl
    | 1 => exact (ix2_val1 h1).trans rfl
  · generalize (ix2 (a := 2048) (b := 32768) (j 0).val (j 1).val) = i
    have hc : IntOp.cmpi .slt (x i) 0#32 = 0#1 := by
      unfold IntOp.cmpi
      have hz : (0#32 : BitVec 32).toInt = 0 := by decide
      simp only [BitVec.slt_eq_decide, toInt_small (h i), hz]
      rw [decide_eq_false (by omega)]; rfl
    show Scalar.select (IntOp.cmpi .slt (x i) 0#32) (IntOp.addi (x i) 256#32) (x i) = x i
    rw [hc]; rfl

/-- The table's entry at a word. -/
theorem takeV_apply (tab : FVec Ideal S256 .f32) (x : IVec S2048x32768 32) (h : ∀ i, (x i).toNat < 256) (i : S2048x32768.Idx) :
    takeV tab x i = look (F := Ideal) tab (x i) := by
  have hall : Host.reduce IntOp.andi
      (andi (cmpi .sge (wrap x) (broadcastInDim S2048x32768x1 ![] bcast_S_S2048x32768x1 (constantI S_ 32 0#32)))
        (cmpi .sle (wrap x) (broadcastInDim S2048x32768x1 ![0, 1, 2] bcast_S1x1x1_S2048x32768x1_0_1_2
          (broadcastInDim S1x1x1 ![2] bcast_S1_S1x1x1_2 (constantI S1 32 255#32)))))
      (constantI S_ 1 1#1) reducesTo_S2048x32768x1_S2048x32768_d2 h_S_ i = 1#1 := by
    refine Host.reduce_andi_one _ _ _ _ i rfl fun j => ?_
    show IntOp.andi (IntOp.cmpi .sge (wrap x j) 0#32) (IntOp.cmpi .sle (wrap x j) 255#32) = 1#1
    rw [wrap_apply x h j]
    generalize (ix2 (a := 2048) (b := 32768) (j 0).val (j 1).val) = k
    have hk := h k
    have a1 : IntOp.cmpi .sge (x k) 0#32 = 1#1 := by
      unfold IntOp.cmpi
      simp only [BitVec.sle_eq_decide, toInt_small hk]
      simp
    have a2 : IntOp.cmpi .sle (x k) 255#32 = 1#1 := by
      unfold IntOp.cmpi
      simp only [BitVec.sle_eq_decide, toInt_small hk]
      have : (255#32 : BitVec 32).toInt = 255 := by decide
      rw [this, decide_eq_true (by omega)]; rfl
    rw [a1, a2]; rfl
  have hg : Host.gather gather_S256_S2048x32768x1_S2048x32768_n_0_n_n_0_2_1 tab (wrap x) i = look (F := Ideal) tab (x i) := by
    refine (ValueIdx.gather_take_apply (N := 256) (R := 2048) (C := 32768) (by norm_num)
      gather_S256_S2048x32768x1_S2048x32768_n_0_n_n_0_2_1_wf tab (wrap x) i).trans ?_
    unfold look
    have e : wrap x (ValueIdx.takeIdx i) = x i := (wrap_apply x h _).trans (congrArg x (eq_ix2 rfl rfl).symm)
    refine congrArg tab (eq_ix1 ?_)
    show min (wrap x (ValueIdx.takeIdx i)).toInt.toNat (256 - 1) = (x i).toNat
    rw [e, toInt_small (h i), Int.toNat_natCast]
    have := h i
    omega
  unfold takeV
  rw [ValueIdx.select_apply, hall, hg, ValueIdx.select_one]

/-- The reference's sum of a column. -/
theorem sum_apply (den : FVec Ideal S256 .f32) (x : IVec S2048x32768 32) (h : ∀ i, (x i).toNat < 256) (j : S32768.Idx) :
    Host.reduceAdd (takeV den x) (constant S_ .f32 0x00000000#32) reducesTo_S2048x32768_S32768_d0 h_S_ j
      = ∑ k : Fin 2048, (look (F := Ideal) den (x (ix2 k.val (j 0).val)) : EReal) := by
  rw [ValueIdx.hostReduceAdd_apply, Ideal.hostReduceAdd_r2_a0 (n0 := 2048) (n1 := 32768)]
  have hz : (constant S_ .f32 0x00000000#32 : FVec Ideal S_ .f32) (Shape.Idx.first h_S_) = (0 : EReal) := Ideal.ofBits_zero_f32
  rw [hz, zero_add]
  refine Finset.sum_congr rfl fun k _ => ?_
  rw [takeV_apply den x h]
  exact congrArg (fun i => look (F := Ideal) den (x i)) (eq_ix2 rfl rfl)

/-- The reference's result at an element. -/
theorem plain_apply (x : IVec S2048x32768 32) (den num : FVec Ideal S256 .f32) (h : ∀ i, (x i).toNat < 256) (i : S2048x32768.Idx) :
    plain x den num i = (Ideal.fptosi 32 (min (Ideal.ofBits .f32 0x437F0000#32) (max (Ideal.ofBits .f32 0x00000000#32)
      (Ideal.div (look (F := Ideal) num (x i)) (∑ k : Fin 2048, (look (F := Ideal) den (x (ix2 k.val (i 1).val)) : EReal)))))).setWidth 8 := by
  have h1 : (i 1).val < 32768 := (i 1).isLt
  have e : ∀ v : S32768.Idx → EReal,
      broadcastInDim S2048x32768 ![0, 1] bcast_S1x32768_S2048x32768_0_1 (broadcastInDim S1x32768 ![1] bcast_S32768_S1x32768_1 v) i
        = v (ix1 (i 1).val) := fun v => by
    refine (broadcastInDim_apply _ _ _ _ (ix2 0 (i 1).val) fun a => ?_).trans (broadcastInDim_apply _ _ _ _ _ fun a => ?_)
    · match a with
      | 0 => exact (ix2_val0 (by norm_num)).trans rfl
      | 1 => exact (ix2_val1 h1).trans rfl
    · match a with
      | 0 => exact (ix1_val h1).trans (ix2_val1 h1).symm
  have t : plain x den num i = (Ideal.fptosi 32 (min (Ideal.ofBits .f32 0x437F0000#32) (max (Ideal.ofBits .f32 0x00000000#32)
      (Ideal.div (takeV num x i) (broadcastInDim S2048x32768 ![0, 1] bcast_S1x32768_S2048x32768_0_1
          (broadcastInDim S1x32768 ![1] bcast_S32768_S1x32768_1
            (Host.reduceAdd (takeV den x) (constant S_ .f32 0x00000000#32) reducesTo_S2048x32768_S32768_d0 h_S_)) i))))).setWidth 8 := by
    unfold plain
    generalize takeV num x = q
    generalize Host.reduceAdd (takeV den x) (constant S_ .f32 0x00000000#32) reducesTo_S2048x32768_S32768_d0 h_S_ = z
    rfl
  rw [t, e, sum_apply den x h, takeV_apply num x h, ix1_val h1]

end Cert.Proof.Table

end
-- ==== Proof.Value.lean ====
/-
  The kernel's result is the reference's, element by element.
-/
module

public import proofs.«01_k».proof.Defs
public import proofs.«01_k».proof.Proof.Tables
public import proofs.«01_k».proof.Proof.Words
public import proofs.«01_k».proof.Proof.Sums
public import proofs.«01_k».proof.Proof.Plain
public import proofs.«01_k».proof.Proof.Gen.ReferenceIdeal.Run

@[expose] public section

noncomputable section

namespace Cert.Proof.Table

open Cert.KernelIdeal Cert.KernelIdeal.Gen
open Idealize.ShloMosaic Idealize.SL.Sem

theorem ofBits_255 : Ideal.ofBits .f32 0x437F0000#32 = (255 : EReal) := by
  rw [← coe255]
  simp [Ideal.ofBits, Ideal.ieee, -EReal.coe_mul]
  norm_num

/-- The kernel's result, as the reference computes it. -/
theorem res_eq (x : S2048x32768.Idx → BitVec 32) (den num : S256.Idx → EReal)
    (hx : ∀ i, (x i).toNat < 256) (hd : ∀ i, 0 ≤ den i) (hn : ∀ i, 0 ≤ num i) :
    bytes (F := Ideal) (outVal x num
      (Host.divf (broadcastInDim S32768 ![] bcast_S_S32768 (constant S_ .f32 0x3F800000#32)) (dsOut (F := Ideal) x den)))
      = plain x den num := by
  have hs : ∀ j, (0 : EReal) ≤ dsOut (F := Ideal) x den j := fun j => by
    rw [dsOut_eq]
    exact Finset.sum_nonneg fun k _ => hd _
  have hr : ∀ j : S32768.Idx,
      (Host.divf (broadcastInDim S32768 ![] bcast_S_S32768 (constant S_ .f32 0x3F800000#32)) (dsOut (F := Ideal) x den) : FVec Ideal S32768 .f32) j
        = Ideal.div 1 (dsOut (F := Ideal) x den j) := fun j => by
    rw [ValueIdx.hostDivf_apply]
    exact congrArg (fun o => Ideal.div o (dsOut (F := Ideal) x den j)) Ideal.ofBits_one_f32
  have hl : ∀ i : S2048x32768.Idx,
      level (F := Ideal) (look num (x i)) ((Host.divf (broadcastInDim S32768 ![] bcast_S_S32768 (constant S_ .f32 0x3F800000#32))
          (dsOut (F := Ideal) x den) : FVec Ideal S32768 .f32) (ix1 (i 1).val))
        = Ideal.fptosi 32 (min 255 (max 0 (Ideal.div (look (F := Ideal) num (x i)) (dsOut (F := Ideal) x den (ix1 (i 1).val)))))
      ∧ (Ideal.fptosi 32 (min 255 (max 0 (Ideal.div (look (F := Ideal) num (x i)) (dsOut (F := Ideal) x den (ix1 (i 1).val)))))).toNat < 256 := fun i => by
    rw [hr]
    exact byte_eq _ _ (hn _) (hs _)
  funext i
  refine (bytes_word (F := Ideal) x num _ (fun i => by rw [(hl i).1]; exact (hl i).2) i).trans ?_
  rw [(hl i).1]
  refine Eq.trans ?_ (plain_apply x den num hx i).symm
  have h1 : (i 1).val < 32768 := (i 1).isLt
  rw [ofBits_255, Ideal.ofBits_zero_f32, dsOut_eq, ix1_val h1]

theorem algebraic : Cert.algebraic_KernelIdeal_ReferenceIdeal_pre_tables_nonnegative := fun m g m' g' hpre hagree =>
  ⟨fun c => resA m c,
    (θ_run Cert.KernelIdeal.defs _ _).mono (fun _ h c => ⟨(h.1 c).2, (h.1 c).1⟩)
      (run_main (F := Ideal) m g fun d i => (tables_nonnegative _ _ _ (hpre d)).1 i),
    (θ_run Cert.ReferenceIdeal.defs _ _).mono (fun r h c => ⟨by
        obtain ⟨h0, h1, h2⟩ := hagree c
        obtain ⟨hx, hd, hn⟩ := tables_nonnegative _ _ _ (hpre c)
        have e := (h c).1
        rw [h0, h1, h2] at e
        exact e.trans (res_eq (xA m c) (denA m c) (numA m c) hx hd hn).symm, (h c).2⟩)
      (Cert.ReferenceIdeal.Value.run m' g')⟩

end Cert.Proof.Table

end
-- ==== Proof.lean ====
/-
  The certificate's proof. The programs' run and its memory are Proof/Main.lean's `run_main`, over the two kernel bodies'
  proofs (Proof/P1.lean, Proof/P2.lean) and the launch (Proof/Tasks.lean, Proof/Launch.lean); the frames are
  Proof/Frames.lean and Proof/Tables.lean; the value claim is Proof/Value.lean.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Tables
public import proofs.«01_k».proof.Proof.Value

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Table.facts_x, Table.facts_tables,
    Table.frame_Kernel, Table.frame_KernelIdeal, Table.frame_KernelIdeal_tables,
    Table.frame_ReferenceIdeal, Table.frame_ReferenceIdeal_tables, trivial, Table.algebraic⟩

end Cert.Proof

end
